-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 [hPre_finite9 : Cert.Pre_finite9.Facts] (m : (ℓ : Loc Cert.Kernel9.nD Cert.Kernel9.τ Cert.Kernel9.sig) → Buf (Elt Bits) ℓ) : Prop :=
  ∀ c : Dev Cert.Kernel9.nD,
    (Cert.Pre_finite9.fn (F := Bits) (m ((c.tc : Thread Cert.Kernel9.nD Cert.Kernel9.τ).loc Cert.Kernel9.main_arg0)) (m ((c.tc : Thread Cert.Kernel9.nD Cert.Kernel9.τ).loc Cert.Kernel9.main_arg1)) (m ((c.tc : Thread Cert.Kernel9.nD Cert.Kernel9.τ).loc Cert.Kernel9.main_arg2)) (m ((c.tc : Thread Cert.Kernel9.nD Cert.Kernel9.τ).loc Cert.Kernel9.main_arg3)) (m ((c.tc : Thread Cert.Kernel9.nD Cert.Kernel9.τ).loc Cert.Kernel9.main_arg4)) (m ((c.tc : Thread Cert.Kernel9.nD Cert.Kernel9.τ).loc Cert.Kernel9.main_arg5)) (m ((c.tc : Thread Cert.Kernel9.nD Cert.Kernel9.τ).loc Cert.Kernel9.main_arg6))) = (fun _ => 1#1)

def Pre_Kernel9Ideal [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] [hPre_finite9 : Cert.Pre_finite9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def preserves_Kernel2_Kernel2Ideal : Prop :=
  IdealRules.named_const.Statement Cert.Kernel2Ideal.κ "neg_log2_e" .f32 0xBFB8AA3B#32 ((-((Real.log 2)⁻¹) : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v18) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  IdealRules.named_const.Statement Cert.Kernel8Ideal.κ "gelu_cube" .f32 0x3D122279#32 ((80338380498831 / 2251799813685248 : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v70) = v0 c
          ∧ r.2.mem ((c.tc : Thread Cert.Reference8Ideal.nD Cert.Reference8Ideal.τ).loc Cert.Reference8Ideal.main_v71) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  IdealRules.named_const.Statement Cert.Kernel9Ideal.κ "neg_log2_e" .f32 0xBFB8AA3B#32 ((-((Real.log 2)⁻¹) : ℝ) : EReal)

def algebraic_Kernel9Ideal_Reference9Ideal [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v22) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v26_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v26_1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v34) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v27_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v27_1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v34) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v7)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v7) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v18) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)) →
    ∃ (v0 : (c : Dev Cert.Kernel13Ideal.nD) → Buf (Elt Ideal) ((c.tc : Thread Cert.Kernel13Ideal.nD Cert.Kernel13Ideal.τ).loc Cert.Kernel13Ideal.main_v5_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5_2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v10_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v10_2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v8)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v8) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v19) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite9 : Cert.Pre_finite9.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9) (hPre_finite9 := hPre_finite9)
    ∧ quiescent_Kernel9Ideal (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite9.lean ====
abbrev S71680x2048 : Shape := ⟨2, ![71680, 2048]⟩
abbrev S140 : Shape := ⟨1, ![140]⟩
abbrev S1 : Shape := ⟨1, ![1]⟩
abbrev S8x2048x2816 : Shape := ⟨3, ![8, 2048, 2816]⟩
abbrev S8x2816x2048 : Shape := ⟨3, ![8, 2816, 2048]⟩
abbrev S_ : Shape := ⟨0, ![]⟩

class Facts : Prop where
  bcast_S_S140 : S_.BroadcastsInDim S140 (![] : Fin 0 → Fin S140.rank)
  reducesTo_S140_S_d0 : S140.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S71680x2048 .f32) (main_arg1 : IVec S140 32) (main_arg2 : IVec S140 32) (main_arg3 : IVec S1 32) (main_arg4 : FVec F S8x2048x2816 .f32) (main_arg5 : FVec F S8x2048x2816 .f32) (main_arg6 : FVec F S8x2816x2048 .f32) : IVec S_ 1 :=
  let main_c : IVec S_ 32 := constantI S_ 32 0#32
  let main_v0 : IVec S140 32 := broadcastInDim S140 ![] bcast_S_S140 main_c
  let main_v1 : IVec S140 1 := cmpi .sge main_arg1 main_v0
  let main_c_0 : IVec S_ 32 := constantI S_ 32 8#32
  let main_v2 : IVec S140 32 := broadcastInDim S140 ![] bcast_S_S140 main_c_0
  let main_v3 : IVec S140 1 := cmpi .slt main_arg1 main_v2
  let main_v4 : IVec S140 1 := andi main_v1 main_v3
  let main_c_1 : IVec S_ 1 := constantI S_ 1 1#1
  let main_v5 : IVec S_ 1 := (fun x v => Host.reduce IntOp.andi x v reducesTo_S140_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg3 main_v6
  let main_c_3 : IVec S_ 32 := constantI S_ 32 140#32
  let main_v8 : IVec S1 32 := broadcastInDim S1 ![] bcast_S_S1 main_c_3
  let main_v9 : IVec S1 1 := cmpi .sle main_arg3 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel2.lean ====
abbrev S2x16384x2048 : Shape := ⟨3, ![2, 16384, 2048]⟩
abbrev S2048 : Shape := ⟨1, ![2048]⟩
abbrev S2048x5632 : Shape := ⟨2, ![2048, 5632]⟩
abbrev S5632x2048 : Shape := ⟨2, ![5632, 2048]⟩
abbrev S32768x2048 : Shape := ⟨2, ![32768, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 13
  | .vmem => 14
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S32768x2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S1x2048, .f32⟩
  | .hbm, ⟨11, _⟩ => ⟨S1x2048, .f32⟩
  | .hbm, ⟨12, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel2Ideal.lean ====
variable {F : FTy → Type} [FloatOps F] [Named F]
def κ : String → Option EReal := fun
  | "neg_log2_e" => some ((-((Real.log 2)⁻¹) : ℝ) : EReal)
  | _ => none
-- ==== Reference2Ideal.lean ====
abbrev S2x16384x2048 : Shape := ⟨3, ![2, 16384, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x5632 : Shape := ⟨3, ![2, 16384, 5632]⟩
abbrev S32768x2048 : Shape := ⟨2, ![32768, 2048]⟩

abbrev nBuf : Space → Nat
  | .hbm => 53
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S2x16384x2048, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x2048, .f32⟩
  | .hbm, ⟨18, _⟩ => ⟨S2x16384x2048, .f32⟩
  | .hbm, ⟨19, _⟩ => ⟨S1x1x2048, .f32⟩
  | .hbm, ⟨20, _⟩ => ⟨S2x16384x2048, .f32⟩
  | .hbm, ⟨21, _⟩ => ⟨S2x16384x2048, .f32⟩
  | .hbm, ⟨22, _⟩ => ⟨S2x16384x5632, .f32⟩
  | .hbm, ⟨23, _⟩ => ⟨S2x16384x5632, .f32⟩
  | .hbm, ⟨24, _⟩ => ⟨S2x16384x5632, .f32⟩
  | .hbm, ⟨25, _⟩ => ⟨S_, .f32⟩
  | .hbm, ⟨26, _⟩ => ⟨S2x16384x5632, .f32⟩
  | .hbm, ⟨27, _⟩ => ⟨S2x16384x5632, .f32⟩
  | .hbm, ⟨28, _⟩ => ⟨S_, .f32⟩
  | .hbm, ⟨29, _⟩ => ⟨S2x16384x5632, .f32⟩
  | .hbm, ⟨30, _⟩ => ⟨S2x16384x5632, .f32⟩
  | .hbm, ⟨31, _⟩ => ⟨S2x16384x5632, .f32⟩
  | .hbm, ⟨32, _⟩ => ⟨S2x16384x5632, .f32⟩
  | .hbm, ⟨33, _⟩ => ⟨S2x16384x5632, .f32⟩
  | .hbm, ⟨34, _⟩ => ⟨S2x16384x2048, .f32⟩
  | .hbm, ⟨35, _⟩ => ⟨S2x16384x2048, .f32⟩
  | .hbm, ⟨36, _⟩ => ⟨S_, .f32⟩
  | .hbm, ⟨37, _⟩ => ⟨S2x16384, .f32⟩
  | .hbm, ⟨38, _⟩ => ⟨S2x16384x1, .f32⟩
  | .hbm, ⟨39, _⟩ => ⟨S_, .f32⟩
  | .hbm, ⟨40, _⟩ => ⟨S2x16384x1, .f32⟩
  | .hbm, ⟨41, _⟩ => ⟨S2x16384x1, .f32⟩
  | .hbm, ⟨42, _⟩ => ⟨S_, .f32⟩
  | .hbm, ⟨43, _⟩ => ⟨S2x16384x1, .f32⟩
  | .hbm, ⟨44, _⟩ => ⟨S2x16384x1, .f32⟩
  | .hbm, ⟨45, _⟩ => ⟨S2x16384x1, .f32⟩
  | .hbm, ⟨46, _⟩ => ⟨S2x16384x2048, .f32⟩
  | .hbm, ⟨47, _⟩ => ⟨S2x16384x2048, .f32⟩
  | .hbm, ⟨48, _⟩ => ⟨S1x1x2048, .f32⟩
  | .hbm, ⟨49, _⟩ => ⟨S2x16384x2048, .f32⟩
  | .hbm, ⟨50, _⟩ => ⟨S2x16384x2048, .f32⟩
  | .hbm, ⟨51, _⟩ => ⟨S2x16384x2048, .f32⟩
  | .hbm, ⟨52, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel3.lean ====
abbrev S2x16384x2048 : Shape := ⟨3, ![2, 16384, 2048]⟩
abbrev S2048 : Shape := ⟨1, ![2048]⟩
abbrev S2048x6160 : Shape := ⟨2, ![2048, 6160]⟩
abbrev S2048x4096 : Shape := ⟨2, ![2048, 4096]⟩
abbrev S2048x2048 : Shape := ⟨2, ![2048, 2048]⟩
abbrev S2048x16 : Shape := ⟨2, ![2048, 16]⟩
abbrev S_ : Shape := ⟨0, ![]⟩
abbrev S2048x240 : Shape := ⟨2, ![2048, 240]⟩
abbrev S2048x6400 : Shape := ⟨2, ![2048, 6400]⟩
abbrev S32768x2048 : Shape := ⟨2, ![32768, 2048]⟩
abbrev S1x2048 : Shape := ⟨2, ![1, 2048]⟩
abbrev S32768x6400 : Shape := ⟨2, ![32768, 6400]⟩
abbrev S1024x2048 : Shape := ⟨2, ![1024, 2048]⟩
abbrev S2048x1280 : Shape := ⟨2, ![2048, 1280]⟩
abbrev S1024x1280 : Shape := ⟨2, ![1024, 1280]⟩
abbrev S1024 : Shape := ⟨1, ![1024]⟩
abbrev S1024x1 : Shape := ⟨2, ![1024, 1]⟩

abbrev nBuf : Space → Nat
  | .hbm => 13
  | .vmem => 8
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x6160, .f32⟩
  | .hbm, ⟨3, _⟩ => ⟨S2048x4096, .f32⟩
  | .hbm, ⟨4, _⟩ => ⟨S2048x2048, .f32⟩
  | .hbm, ⟨5, _⟩ => ⟨S2048x16, .f32⟩
  | .hbm, ⟨6, _⟩ => ⟨S_, .f32⟩
  | .hbm, ⟨7, _⟩ => ⟨S2048x240, .f32⟩
  | .hbm, ⟨8, _⟩ => ⟨S2048x6400, .f32⟩
  | .hbm, ⟨9, _⟩ => ⟨S32768x2048, .f32⟩
  | .hbm, ⟨10, _⟩ => ⟨S2048x6400, .bf16⟩
  | .hbm, ⟨11, _⟩ => ⟨S1x2048, .f32⟩
  | .hbm, ⟨12, _⟩ => ⟨S32768x6400, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1280, .bf16⟩
  | .local _ .vmem, ⟨4, _⟩ => ⟨S2048x1280, .bf16⟩
  | .local _ .vmem, ⟨5, _⟩ => ⟨S1024x1280, .f32⟩
  | .local _ .vmem, ⟨6, _⟩ => ⟨S1024x1280, .f32⟩
  | .local _ .vmem, ⟨7, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S2x16384x2048 : Shape := ⟨3, ![2, 16384, 2048]⟩
abbrev S2048 : Shape := ⟨1, ![2048]⟩
abbrev S2048x6160 : Shape := ⟨2, ![2048, 6160]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x6160 : Shape := ⟨3, ![2, 16384, 6160]⟩
abbrev S32768x6160 : Shape := ⟨2, ![32768, 6160]⟩
abbrev S32768x4096 : Shape := ⟨2, ![32768, 4096]⟩
abbrev S32768x16 : Shape := ⟨2, ![32768, 16]⟩
abbrev S32768x2048 : Shape := ⟨2, ![32768, 2048]⟩
abbrev S32768x240 : Shape := ⟨2, ![32768, 240]⟩
abbrev S32768x6400 : Shape := ⟨2, ![32768, 6400]⟩

abbrev nBuf : Space → Nat
  | .hbm => 27
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x6160, .f32⟩
  | .hbm, ⟨3, _⟩ => ⟨S2x16384x2048, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x2048, .f32⟩
  | .hbm, ⟨15, _⟩ => ⟨S2x16384x2048, .f32⟩
  | .hbm, ⟨16, _⟩ => ⟨S1x1x2048, .f32⟩
  | .hbm, ⟨17, _⟩ => ⟨S2x16384x2048, .f32⟩
  | .hbm, ⟨18, _⟩ => ⟨S2x16384x2048, .f32⟩
  | .hbm, ⟨19, _⟩ => ⟨S2x16384x6160, .f32⟩
  | .hbm, ⟨20, _⟩ => ⟨S32768x6160, .f32⟩
  | .hbm, ⟨21, _⟩ => ⟨S32768x4096, .f32⟩
  | .hbm, ⟨22, _⟩ => ⟨S32768x16, .f32⟩
  | .hbm, ⟨23, _⟩ => ⟨S32768x2048, .f32⟩
  | .hbm, ⟨24, _⟩ => ⟨S_, .f32⟩
  | .hbm, ⟨25, _⟩ => ⟨S32768x240, .f32⟩
  | .hbm, ⟨26, _⟩ => ⟨S32768x6400, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel4.lean ====
abbrev S2x256x2048 : Shape := ⟨3, ![2, 256, 2048]⟩
abbrev S2048 : Shape := ⟨1, ![2048]⟩
abbrev S2048x512 : Shape := ⟨2, ![2048, 512]⟩
abbrev S512x2048 : Shape := ⟨2, ![512, 2048]⟩
abbrev S1x2048 : Shape := ⟨2, ![1, 2048]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 5
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x512, .f32⟩
  | .hbm, ⟨3, _⟩ => ⟨S512x2048, .f32⟩
  | .hbm, ⟨4, _⟩ => ⟨S2048x512, .bf16⟩
  | .hbm, ⟨5, _⟩ => ⟨S1x2048, .f32⟩
  | .hbm, ⟨6, _⟩ => ⟨S512x512, .f32⟩
  | .local _ .vmem, ⟨0, _⟩ => ⟨S512x2048, .f32⟩
  | .local _ .vmem, ⟨1, _⟩ => ⟨S1x2048, .f32⟩
  | .local _ .vmem, ⟨2, _⟩ => ⟨S2048x512, .bf16⟩
  | .local _ .vmem, ⟨3, _⟩ => ⟨S512x512, .f32⟩
  | .local _ .vmem, ⟨4, _⟩ => ⟨S512x2048, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== Reference4Ideal.lean ====
abbrev S2x256x2048 : Shape := ⟨3, ![2, 256, 2048]⟩
abbrev S2048 : Shape := ⟨1, ![2048]⟩
abbrev S2048x512 : Shape := ⟨2, ![2048, 512]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S2x256x512 : Shape := ⟨3, ![2, 256, 512]⟩
abbrev S512x512 : Shape := ⟨2, ![512, 512]⟩

abbrev nBuf : Space → Nat
  | .hbm => 21
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x512, .f32⟩
  | .hbm, ⟨3, _⟩ => ⟨S2x256x2048, .f32⟩
  | .hbm, ⟨4, _⟩ => ⟨S_, .f32⟩
  | .hbm, ⟨5, _⟩ => ⟨S2x256, .f32⟩
  | .hbm, ⟨6, _⟩ => ⟨S2x256x1, .f32⟩
  | .hbm, ⟨7, _⟩ => ⟨S_, .f32⟩
  | .hbm, ⟨8, _⟩ => ⟨S2x256x1, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S2x256x1, .f32⟩
  | .hbm, ⟨14, _⟩ => ⟨S2x256x2048, .f32⟩
  | .hbm, ⟨15, _⟩ => ⟨S2x256x2048, .f32⟩
  | .hbm, ⟨16, _⟩ => ⟨S1x1x2048, .f32⟩
  | .hbm, ⟨17, _⟩ => ⟨S2x256x2048, .f32⟩
  | .hbm, ⟨18, _⟩ => ⟨S2x256x2048, .f32⟩
  | .hbm, ⟨19, _⟩ => ⟨S2x256x512, .f32⟩
  | .hbm, ⟨20, _⟩ => ⟨S512x512, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel6.lean ====
abbrev S2x16384x1024 : Shape := ⟨3, ![2, 16384, 1024]⟩
abbrev S2048x2048 : Shape := ⟨2, ![2048, 2048]⟩
abbrev S2x16384x2048 : Shape := ⟨3, ![2, 16384, 2048]⟩
abbrev S2048 : Shape := ⟨1, ![2048]⟩
abbrev S32768x1024 : Shape := ⟨2, ![32768, 1024]⟩
abbrev S32768x2048 : Shape := ⟨2, ![32768, 2048]⟩
abbrev S1x2048 : Shape := ⟨2, ![1, 2048]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2048x2048, .f32⟩
  | .hbm, ⟨3, _⟩ => ⟨S2x16384x2048, .f32⟩
  | .hbm, ⟨4, _⟩ => ⟨S2048, .f32⟩
  | .hbm, ⟨5, _⟩ => ⟨S32768x1024, .f32⟩
  | .hbm, ⟨6, _⟩ => ⟨S32768x1024, .f32⟩
  | .hbm, ⟨7, _⟩ => ⟨S2048x2048, .bf16⟩
  | .hbm, ⟨8, _⟩ => ⟨S32768x2048, .f32⟩
  | .hbm, ⟨9, _⟩ => ⟨S1x2048, .f32⟩
  | .hbm, ⟨10, _⟩ => ⟨S32768x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S2x16384x1024 : Shape := ⟨3, ![2, 16384, 1024]⟩
abbrev S2048x2048 : Shape := ⟨2, ![2048, 2048]⟩
abbrev S2x16384x2048 : Shape := ⟨3, ![2, 16384, 2048]⟩
abbrev S2048 : Shape := ⟨1, ![2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S32768x2048 : Shape := ⟨2, ![32768, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2048x2048, .f32⟩
  | .hbm, ⟨3, _⟩ => ⟨S2x16384x2048, .f32⟩
  | .hbm, ⟨4, _⟩ => ⟨S2048, .f32⟩
  | .hbm, ⟨5, _⟩ => ⟨S2x16384x2048, .f32⟩
  | .hbm, ⟨6, _⟩ => ⟨S2x16384x2048, .f32⟩
  | .hbm, ⟨7, _⟩ => ⟨S2x16384x2048, .f32⟩
  | .hbm, ⟨8, _⟩ => ⟨S_, .f32⟩
  | .hbm, ⟨9, _⟩ => ⟨S2x16384, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S2x16384x1, .f32⟩
  | .hbm, ⟨18, _⟩ => ⟨S2x16384x2048, .f32⟩
  | .hbm, ⟨19, _⟩ => ⟨S2x16384x2048, .f32⟩
  | .hbm, ⟨20, _⟩ => ⟨S1x1x2048, .f32⟩
  | .hbm, ⟨21, _⟩ => ⟨S2x16384x2048, .f32⟩
  | .hbm, ⟨22, _⟩ => ⟨S2x16384x2048, .f32⟩
  | .hbm, ⟨23, _⟩ => ⟨S2x16384x2048, .f32⟩
  | .hbm, ⟨24, _⟩ => ⟨S32768x2048, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel7.lean ====
abbrev S2x16384x2048 : Shape := ⟨3, ![2, 16384, 2048]⟩
abbrev S2048 : Shape := ⟨1, ![2048]⟩
abbrev S2048x3584 : Shape := ⟨2, ![2048, 3584]⟩
abbrev S2048x1024 : Shape := ⟨2, ![2048, 1024]⟩
abbrev S2048x2048 : Shape := ⟨2, ![2048, 2048]⟩
abbrev S2048x512 : Shape := ⟨2, ![2048, 512]⟩
abbrev S32768x2048 : Shape := ⟨2, ![32768, 2048]⟩
abbrev S1x2048 : Shape := ⟨2, ![1, 2048]⟩
abbrev S32768x3584 : Shape := ⟨2, ![32768, 3584]⟩
abbrev S1024x2048 : Shape := ⟨2, ![1024, 2048]⟩
abbrev S2048x1792 : Shape := ⟨2, ![2048, 1792]⟩
abbrev S1024x1792 : Shape := ⟨2, ![1024, 1792]⟩
abbrev S1024 : Shape := ⟨1, ![1024]⟩
abbrev S1024x1 : Shape := ⟨2, ![1024, 1]⟩

abbrev nBuf : Space → Nat
  | .hbm => 11
  | .vmem => 8
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x3584, .f32⟩
  | .hbm, ⟨3, _⟩ => ⟨S2048x1024, .f32⟩
  | .hbm, ⟨4, _⟩ => ⟨S2048x2048, .f32⟩
  | .hbm, ⟨5, _⟩ => ⟨S2048x512, .f32⟩
  | .hbm, ⟨6, _⟩ => ⟨S2048x3584, .f32⟩
  | .hbm, ⟨7, _⟩ => ⟨S32768x2048, .f32⟩
  | .hbm, ⟨8, _⟩ => ⟨S2048x3584, .bf16⟩
  | .hbm, ⟨9, _⟩ => ⟨S1x2048, .f32⟩
  | .hbm, ⟨10, _⟩ => ⟨S32768x3584, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1792, .bf16⟩
  | .local _ .vmem, ⟨4, _⟩ => ⟨S2048x1792, .bf16⟩
  | .local _ .vmem, ⟨5, _⟩ => ⟨S1024x1792, .f32⟩
  | .local _ .vmem, ⟨6, _⟩ => ⟨S1024x1792, .f32⟩
  | .local _ .vmem, ⟨7, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S2x16384x2048 : Shape := ⟨3, ![2, 16384, 2048]⟩
abbrev S2048 : Shape := ⟨1, ![2048]⟩
abbrev S2048x3584 : Shape := ⟨2, ![2048, 3584]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x3584 : Shape := ⟨3, ![2, 16384, 3584]⟩
abbrev S32768x3584 : Shape := ⟨2, ![32768, 3584]⟩
abbrev S32768x1024 : Shape := ⟨2, ![32768, 1024]⟩
abbrev S32768x512 : Shape := ⟨2, ![32768, 512]⟩
abbrev S32768x2048 : Shape := ⟨2, ![32768, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x3584, .f32⟩
  | .hbm, ⟨3, _⟩ => ⟨S2x16384x2048, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x2048, .f32⟩
  | .hbm, ⟨15, _⟩ => ⟨S2x16384x2048, .f32⟩
  | .hbm, ⟨16, _⟩ => ⟨S1x1x2048, .f32⟩
  | .hbm, ⟨17, _⟩ => ⟨S2x16384x2048, .f32⟩
  | .hbm, ⟨18, _⟩ => ⟨S2x16384x2048, .f32⟩
  | .hbm, ⟨19, _⟩ => ⟨S2x16384x3584, .f32⟩
  | .hbm, ⟨20, _⟩ => ⟨S32768x3584, .f32⟩
  | .hbm, ⟨21, _⟩ => ⟨S32768x1024, .f32⟩
  | .hbm, ⟨22, _⟩ => ⟨S32768x512, .f32⟩
  | .hbm, ⟨23, _⟩ => ⟨S32768x2048, .f32⟩
  | .hbm, ⟨24, _⟩ => ⟨S32768x3584, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel8.lean ====
abbrev S1024x3584 : Shape := ⟨2, ![1024, 3584]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S128x8 : Shape := ⟨2, ![128, 8]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S64x64 : Shape := ⟨2, ![64, 64]⟩
abbrev S1x64x64 : Shape := ⟨3, ![1, 64, 64]⟩
abbrev S64x128 : Shape := ⟨2, ![64, 128]⟩
abbrev S64x1 : Shape := ⟨2, ![64, 1]⟩

abbrev nBuf : Space → Nat
  | .hbm => 10
  | .vmem => 12
  | .smem => 0
  | _ => 0

abbrev bufTy : (tb : Table) → Fin (tcTables nBuf tb) → BufTy
  | .hbm, ⟨0, _⟩ => ⟨S1024x3584, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S1x1024, .f32⟩
  | .hbm, ⟨6, _⟩ => ⟨S1x1024, .f32⟩
  | .hbm, ⟨7, _⟩ => ⟨S128x8, .f32⟩
  | .hbm, ⟨8, _⟩ => ⟨S1024x1024, .f32⟩
  | .hbm, ⟨9, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x8, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S1024x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel8Ideal.lean ====
variable {F : FTy → Type} [FloatOps F] [Named F]
def κ : String → Option EReal := fun
  | "gelu_cube" => some ((80338380498831 / 2251799813685248 : ℝ) : EReal)
  | _ => none
-- ==== Reference8Ideal.lean ====
abbrev S1024x3584 : Shape := ⟨2, ![1024, 3584]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S16x64x1024 : Shape := ⟨3, ![16, 64, 1024]⟩
abbrev S_ : Shape := ⟨0, ![]⟩
abbrev S16x64 : Shape := ⟨2, ![16, 64]⟩
abbrev S16x64x1 : Shape := ⟨3, ![16, 64, 1]⟩
abbrev S1x1x1024 : Shape := ⟨3, ![1, 1, 1024]⟩
abbrev S16x1x64x8x128 : Shape := ⟨5, ![16, 1, 64, 8, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x64x64 : Shape := ⟨3, ![8, 64, 64]⟩
abbrev S8x16x1x128x64 : Shape := ⟨5, ![8, 16, 1, 128, 64]⟩
abbrev S8x64 : Shape := ⟨2, ![8, 64]⟩
abbrev S64x8 : Shape := ⟨2, ![64, 8]⟩
abbrev S1x1x64x8x1 : Shape := ⟨5, ![1, 1, 64, 8, 1]⟩

abbrev nBuf : Space → Nat
  | .hbm => 94
  | .vmem => 0
  | .smem => 0
  | _ => 0

abbrev bufTy : (tb : Table) → Fin (tcTables nBuf tb) → BufTy
  | .hbm, ⟨0, _⟩ => ⟨S1024x3584, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S1024x1024, .f32⟩
  | .hbm, ⟨6, _⟩ => ⟨S16x64x1024, .f32⟩
  | .hbm, ⟨7, _⟩ => ⟨S1024x1024, .f32⟩
  | .hbm, ⟨8, _⟩ => ⟨S16x64x1024, .f32⟩
  | .hbm, ⟨9, _⟩ => ⟨S16x64x1024, .f32⟩
  | .hbm, ⟨10, _⟩ => ⟨S16x64x1024, .f32⟩
  | .hbm, ⟨11, _⟩ => ⟨S_, .f32⟩
  | .hbm, ⟨12, _⟩ => ⟨S16x64x1024, .f32⟩
  | .hbm, ⟨13, _⟩ => ⟨S16x64x1024, .f32⟩
  | .hbm, ⟨14, _⟩ => ⟨S16x64x1024, .f32⟩
  | .hbm, ⟨15, _⟩ => ⟨S_, .f32⟩
  | .hbm, ⟨16, _⟩ => ⟨S16x64x1024, .f32⟩
  | .hbm, ⟨17, _⟩ => ⟨S16x64x1024, .f32⟩
  | .hbm, ⟨18, _⟩ => ⟨S16x64x1024, .f32⟩
  | .hbm, ⟨19, _⟩ => ⟨S_, .f32⟩
  | .hbm, ⟨20, _⟩ => ⟨S16x64x1024, .f32⟩
  | .hbm, ⟨21, _⟩ => ⟨S16x64x1024, .f32⟩
  | .hbm, ⟨22, _⟩ => ⟨S_, .f32⟩
  | .hbm, ⟨23, _⟩ => ⟨S16x64x1024, .f32⟩
  | .hbm, ⟨24, _⟩ => ⟨S16x64x1024, .f32⟩
  | .hbm, ⟨25, _⟩ => ⟨S16x64x1024, .f32⟩
  | .hbm, ⟨26, _⟩ => ⟨S16x64x1024, .f32⟩
  | .hbm, ⟨27, _⟩ => ⟨S16x64x1024, .f32⟩
  | .hbm, ⟨28, _⟩ => ⟨S_, .f32⟩
  | .hbm, ⟨29, _⟩ => ⟨S16x64x1024, .f32⟩
  | .hbm, ⟨30, _⟩ => ⟨S16x64x1024, .f32⟩
  | .hbm, ⟨31, _⟩ => ⟨S16x64x1024, .f32⟩
  | .hbm, ⟨32, _⟩ => ⟨S_, .f32⟩
  | .hbm, ⟨33, _⟩ => ⟨S16x64x1024, .f32⟩
  | .hbm, ⟨34, _⟩ => ⟨S16x64x1024, .f32⟩
  | .hbm, ⟨35, _⟩ => ⟨S16x64x1024, .f32⟩
  | .hbm, ⟨36, _⟩ => ⟨S_, .f32⟩
  | .hbm, ⟨37, _⟩ => ⟨S16x64x1024, .f32⟩
  | .hbm, ⟨38, _⟩ => ⟨S16x64x1024, .f32⟩
  | .hbm, ⟨39, _⟩ => ⟨S_, .f32⟩
  | .hbm, ⟨40, _⟩ => ⟨S16x64x1024, .f32⟩
  | .hbm, ⟨41, _⟩ => ⟨S16x64x1024, .f32⟩
  | .hbm, ⟨42, _⟩ => ⟨S16x64x1024, .f32⟩
  | .hbm, ⟨43, _⟩ => ⟨S_, .f32⟩
  | .hbm, ⟨44, _⟩ => ⟨S16x64, .f32⟩
  | .hbm, ⟨45, _⟩ => ⟨S16x64x1, .f32⟩
  | .hbm, ⟨46, _⟩ => ⟨S_, .f32⟩
  | .hbm, ⟨47, _⟩ => ⟨S16x64x1, .f32⟩
  | .hbm, ⟨48, _⟩ => ⟨S16x64x1, .f32⟩
  | .hbm, ⟨49, _⟩ => ⟨S16x64x1024, .f32⟩
  | .hbm, ⟨50, _⟩ => ⟨S16x64x1024, .f32⟩
  | .hbm, ⟨51, _⟩ => ⟨S16x64x1024, .f32⟩
  | .hbm, ⟨52, _⟩ => ⟨S_, .f32⟩
  | .hbm, ⟨53, _⟩ => ⟨S16x64, .f32⟩
  | .hbm, ⟨54, _⟩ => ⟨S16x64x1, .f32⟩
  | .hbm, ⟨55, _⟩ => ⟨S_, .f32⟩
  | .hbm, ⟨56, _⟩ => ⟨S16x64x1, .f32⟩
  | .hbm, ⟨57, _⟩ => ⟨S16x64x1, .f32⟩
  | .hbm, ⟨58, _⟩ => ⟨S_, .f32⟩
  | .hbm, ⟨59, _⟩ => ⟨S16x64x1, .f32⟩
  | .hbm, ⟨60, _⟩ => ⟨S16x64x1, .f32⟩
  | .hbm, ⟨61, _⟩ => ⟨S16x64x1, .f32⟩
  | .hbm, ⟨62, _⟩ => ⟨S16x64x1024, .f32⟩
  | .hbm, ⟨63, _⟩ => ⟨S16x64x1024, .f32⟩
  | .hbm, ⟨64, _⟩ => ⟨S1x1x1024, .f32⟩
  | .hbm, ⟨65, _⟩ => ⟨S16x64x1024, .f32⟩
  | .hbm, ⟨66, _⟩ => ⟨S16x64x1024, .f32⟩
  | .hbm, ⟨67, _⟩ => ⟨S1x1x1024, .f32⟩
  | .hbm, ⟨68, _⟩ => ⟨S16x64x1024, .f32⟩
  | .hbm, ⟨69, _⟩ => ⟨S16x64x1024, .f32⟩
  | .hbm, ⟨70, _⟩ => ⟨S16x1x64x8x128, .f32⟩
  | .hbm, ⟨71, _⟩ => ⟨S64, .i32⟩
  | .hbm, ⟨72, _⟩ => ⟨S64x1, .i32⟩
  | .hbm, ⟨73, _⟩ => ⟨S1x64, .i32⟩
  | .hbm, ⟨74, _⟩ => ⟨S64x64, .i32⟩
  | .hbm, ⟨75, _⟩ => ⟨S64x64, .i32⟩
  | .hbm, ⟨76, _⟩ => ⟨S64x64, .i1⟩
  | .hbm, ⟨77, _⟩ => ⟨S8x64x64, .f32⟩
  | .hbm, ⟨78, _⟩ => ⟨S_, .f32⟩
  | .hbm, ⟨79, _⟩ => ⟨S_, .f32⟩
  | .hbm, ⟨80, _⟩ => ⟨S8x64x64, .i1⟩
  | .hbm, ⟨81, _⟩ => ⟨S8x64x64, .f32⟩
  | .hbm, ⟨82, _⟩ => ⟨S8x64x64, .f32⟩
  | .hbm, ⟨83, _⟩ => ⟨S8x16x1x128x64, .f32⟩
  | .hbm, ⟨84, _⟩ => ⟨S16x1x64x8x128, .f32⟩
  | .hbm, ⟨85, _⟩ => ⟨S8x64, .f32⟩
  | .hbm, ⟨86, _⟩ => ⟨S64x8, .f32⟩
  | .hbm, ⟨87, _⟩ => ⟨S1x1x64x8x1, .f32⟩
  | .hbm, ⟨88, _⟩ => ⟨S16x1x64x8x128, .f32⟩
  | .hbm, ⟨89, _⟩ => ⟨S16x1x64x8x128, .f32⟩
  | .hbm, ⟨90, _⟩ => ⟨S16x64x1024, .f32⟩
  | .hbm, ⟨91, _⟩ => ⟨S16x64x1024, .f32⟩
  | .hbm, ⟨92, _⟩ => ⟨S1024x1024, .f32⟩
  | .hbm, ⟨93, _⟩ => ⟨S1024x1024, .f32⟩
  | _, _ => ⟨S1024x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_12 : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== Kernel9.lean ====
abbrev S71680x2048 : Shape := ⟨2, ![71680, 2048]⟩
abbrev S140 : Shape := ⟨1, ![140]⟩
abbrev S1 : Shape := ⟨1, ![1]⟩
abbrev S8x2048x2816 : Shape := ⟨3, ![8, 2048, 2816]⟩
abbrev S8x2816x2048 : Shape := ⟨3, ![8, 2816, 2048]⟩
abbrev S512x2048 : Shape := ⟨2, ![512, 2048]⟩
abbrev S2048x2816 : Shape := ⟨2, ![2048, 2816]⟩
abbrev S2816x2048 : Shape := ⟨2, ![2816, 2048]⟩
abbrev S3 : Shape := ⟨1, ![3]⟩
abbrev S_ : Shape := ⟨0, ![]⟩
abbrev S1x2048x2816 : Shape := ⟨3, ![1, 2048, 2816]⟩
abbrev S1x2816x2048 : Shape := ⟨3, ![1, 2816, 2048]⟩
abbrev S512x1 : Shape := ⟨2, ![512, 1]⟩
abbrev S2048x256 : Shape := ⟨2, ![2048, 256]⟩
abbrev S512x256 : Shape := ⟨2, ![512, 256]⟩
abbrev S256x2048 : Shape := ⟨2, ![256, 2048]⟩

abbrev nBuf : Space → Nat
  | .hbm => 8
  | .vmem => 7
  | .smem => 3
  | _ => 0

abbrev bufTy : (tb : Table) → Fin (tcTables nBuf tb) → BufTy
  | .hbm, ⟨0, _⟩ => ⟨S71680x2048, .f32⟩
  | .hbm, ⟨1, _⟩ => ⟨S8x2048x2816, .f32⟩
  | .hbm, ⟨2, _⟩ => ⟨S8x2048x2816, .f32⟩
  | .hbm, ⟨3, _⟩ => ⟨S8x2816x2048, .f32⟩
  | .hbm, ⟨4, _⟩ => ⟨S8x2048x2816, .bf16⟩
  | .hbm, ⟨5, _⟩ => ⟨S8x2048x2816, .bf16⟩
  | .hbm, ⟨6, _⟩ => ⟨S8x2816x2048, .bf16⟩
  | .hbm, ⟨7, _⟩ => ⟨S71680x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S2048x2816, .bf16⟩
  | .local _ .vmem, ⟨5, _⟩ => ⟨S2048x2816, .bf16⟩
  | .local _ .vmem, ⟨6, _⟩ => ⟨S2816x2048, .bf16⟩
  | .local _ .smem, ⟨0, _⟩ => ⟨S140, .i32⟩
  | .local _ .smem, ⟨1, _⟩ => ⟨S140, .i32⟩
  | .local _ .smem, ⟨2, _⟩ => ⟨S1, .i32⟩
  | _, _ => ⟨S71680x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![140], ![false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v2 : Index := Scalar.indexCast arg0
  ![v2.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_off3 (v3 : BitVec 32) : Fin 3 → Nat :=
  let c0_i32_5 : BitVec 32 := 0#32
  let c0_i32_6 : BitVec 32 := 0#32
  ![v3.toNat, 0, 0]
def k0_cond1 (i : grid0.Coords) (v0 : BitVec 32) (v3 : BitVec 32) (v8 : BitVec 32) : BitVec 1 :=
  let arg0 : BitVec 32 := BitVec.ofNat 32 (i 0).val
  let v1 : BitVec 1 := Scalar.cmpi .slt arg0 v0
  let c0_i32 : BitVec 32 := 0#32
  let v4 : BitVec 1 := Scalar.cmpi .eq arg0 c0_i32
  let v9 : BitVec 1 := Scalar.cmpi .ne v3 v8
  let v10 : BitVec 1 := Scalar.ori v4 v9
  let v11 : BitVec 1 := Scalar.andi v1 v10
  let v12 : BitVec 32 := Scalar.extui v11
  let c0_i32_1 : BitVec 32 := 0#32
  let v13 : BitVec 1 := Scalar.cmpi .ne v12 c0_i32_1
  v13

def k0_off4 (v3 : BitVec 32) : Fin 3 → Nat :=
  let c0_i32_10 : BitVec 32 := 0#32
  let c0_i32_11 : BitVec 32 := 0#32
  ![v3.toNat, 0, 0]

def k0_chk1 (i : grid0.Coords) (v0 : BitVec 32) (v3 : BitVec 32) (v8 : BitVec 32) : Prop :=
  (∀ (k0_h1 : k0_cond1 i v0 v3 v8 = 1#1), ∀ a, (k0_off3 v3) a + S1x2048x2816.size a ≤ S8x2048x2816.size a) ∧
  (∀ (k0_h1 : k0_cond1 i v0 v3 v8 = 1#1), ∀ (hinb : ∀ a, (k0_off3 v3) a + S1x2048x2816.size a ≤ S8x2048x2816.size a), (Rect.unit (s := S8x2048x2816) (k0_off3 v3) S1x2048x2816.size hinb).WholeWords (EltTy.packing .bf16)) ∧
  (∀ (k0_h1 : k0_cond1 i v0 v3 v8 = 1#1), ∀ a, (k0_off4 v3) a + S1x2816x2048.size a ≤ S8x2816x2048.size a) ∧
  (∀ (k0_h1 : k0_cond1 i v0 v3 v8 = 1#1), ∀ (hinb : ∀ a, (k0_off4 v3) a + S1x2816x2048.size a ≤ S8x2816x2048.size a), (Rect.unit (s := S8x2816x2048) (k0_off4 v3) S1x2816x2048.size hinb).WholeWords (EltTy.packing .bf16))
theorem k0_off3_inb : ∀ (i : grid0.Coords) (v0 : BitVec 32) (v3 : BitVec 32) (v8 : BitVec 32) (k0_hw1 : k0_chk1 i v0 v3 v8), ∀ (k0_h1 : k0_cond1 i v0 v3 v8 = 1#1), ∀ a, (k0_off3 v3) a + S1x2048x2816.size a ≤ S8x2048x2816.size a := fun i v0 v3 v8 k0_hw1 k0_h1 => k0_hw1.1 k0_h1
theorem k0_off3_wordsbf16 : ∀ (i : grid0.Coords) (v0 : BitVec 32) (v3 : BitVec 32) (v8 : BitVec 32) (k0_hw1 : k0_chk1 i v0 v3 v8), ∀ (k0_h1 : k0_cond1 i v0 v3 v8 = 1#1), (Rect.unit (s := S8x2048x2816) (k0_off3 v3) S1x2048x2816.size (k0_off3_inb i v0 v3 v8 k0_hw1 k0_h1)).WholeWords (EltTy.packing .bf16) := fun i v0 v3 v8 k0_hw1 k0_h1 => k0_hw1.2.1 k0_h1 (k0_off3_inb i v0 v3 v8 k0_hw1 k0_h1)
theorem k0_off4_inb : ∀ (i : grid0.Coords) (v0 : BitVec 32) (v3 : BitVec 32) (v8 : BitVec 32) (k0_hw1 : k0_chk1 i v0 v3 v8), ∀ (k0_h1 : k0_cond1 i v0 v3 v8 = 1#1), ∀ a, (k0_off4 v3) a + S1x2816x2048.size a ≤ S8x2816x2048.size a := fun i v0 v3 v8 k0_hw1 k0_h1 => k0_hw1.2.2.1 k0_h1
theorem k0_off4_wordsbf16 : ∀ (i : grid0.Coords) (v0 : BitVec 32) (v3 : BitVec 32) (v8 : BitVec 32) (k0_hw1 : k0_chk1 i v0 v3 v8), ∀ (k0_h1 : k0_cond1 i v0 v3 v8 = 1#1), (Rect.unit (s := S8x2816x2048) (k0_off4 v3) S1x2816x2048.size (k0_off4_inb i v0 v3 v8 k0_hw1 k0_h1)).WholeWords (EltTy.packing .bf16) := fun i v0 v3 v8 k0_hw1 k0_h1 => k0_hw1.2.2.2 k0_h1 (k0_off4_inb i v0 v3 v8 k0_hw1 k0_h1)

def k0_off5 (i : grid0.Coords) : Fin 1 → Nat :=
  let arg0 : BitVec 32 := BitVec.ofNat 32 (i 0).val
  let v20 : Index := Scalar.indexCast arg0
  ![v20.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Kernel9Ideal.lean ====
variable {F : FTy → Type} [FloatOps F] [Named F]
def κ : String → Option EReal := fun
  | "neg_log2_e" => some ((-((Real.log 2)⁻¹) : ℝ) : EReal)
  | _ => none
-- ==== Reference9Ideal.lean ====
abbrev S71680x2048 : Shape := ⟨2, ![71680, 2048]⟩
abbrev S140 : Shape := ⟨1, ![140]⟩
abbrev S1 : Shape := ⟨1, ![1]⟩
abbrev S8x2048x2816 : Shape := ⟨3, ![8, 2048, 2816]⟩
abbrev S8x2816x2048 : Shape := ⟨3, ![8, 2816, 2048]⟩
abbrev S140x512x2048 : Shape := ⟨3, ![140, 512, 2048]⟩
abbrev S512 : Shape := ⟨1, ![512]⟩
abbrev S1x512x1 : Shape := ⟨3, ![1, 512, 1]⟩
abbrev S140x1x1 : Shape := ⟨3, ![140, 1, 1]⟩
abbrev S140x512x1 : Shape := ⟨3, ![140, 512, 1]⟩
abbrev S_ : Shape := ⟨0, ![]⟩
abbrev S140x1 : Shape := ⟨2, ![140, 1]⟩
abbrev S140x2048x2816 : Shape := ⟨3, ![140, 2048, 2816]⟩
abbrev S140x2816x2048 : Shape := ⟨3, ![140, 2816, 2048]⟩
abbrev S140x512x2816 : Shape := ⟨3, ![140, 512, 2816]⟩

abbrev nBuf : Space → Nat
  | .hbm => 49
  | .vmem => 0
  | .smem => 0
  | _ => 0

abbrev bufTy : (tb : Table) → Fin (tcTables nBuf tb) → BufTy
  | .hbm, ⟨0, _⟩ => ⟨S71680x2048, .f32⟩
  | .hbm, ⟨1, _⟩ => ⟨S140, .i32⟩
  | .hbm, ⟨2, _⟩ => ⟨S140, .i32⟩
  | .hbm, ⟨3, _⟩ => ⟨S1, .i32⟩
  | .hbm, ⟨4, _⟩ => ⟨S8x2048x2816, .f32⟩
  | .hbm, ⟨5, _⟩ => ⟨S8x2048x2816, .f32⟩
  | .hbm, ⟨6, _⟩ => ⟨S8x2816x2048, .f32⟩
  | .hbm, ⟨7, _⟩ => ⟨S140x512x2048, .f32⟩
  | .hbm, ⟨8, _⟩ => ⟨S512, .i32⟩
  | .hbm, ⟨9, _⟩ => ⟨S1x512x1, .i32⟩
  | .hbm, ⟨10, _⟩ => ⟨S140x1x1, .i32⟩
  | .hbm, ⟨11, _⟩ => ⟨S140x512x1, .i32⟩
  | .hbm, ⟨12, _⟩ => ⟨S140x512x1, .i32⟩
  | .hbm, ⟨13, _⟩ => ⟨S140x512x1, .i1⟩
  | .hbm, ⟨14, _⟩ => ⟨S_, .f32⟩
  | .hbm, ⟨15, _⟩ => ⟨S_, .f32⟩
  | .hbm, ⟨16, _⟩ => ⟨S140x512x2048, .i1⟩
  | .hbm, ⟨17, _⟩ => ⟨S140x512x2048, .f32⟩
  | .hbm, ⟨18, _⟩ => ⟨S140x512x2048, .f32⟩
  | .hbm, ⟨19, _⟩ => ⟨S140x1, .i32⟩
  | .hbm, ⟨20, _⟩ => ⟨S140x2048x2816, .f32⟩
  | .hbm, ⟨21, _⟩ => ⟨S140x1, .i32⟩
  | .hbm, ⟨22, _⟩ => ⟨S140x2048x2816, .f32⟩
  | .hbm, ⟨23, _⟩ => ⟨S140x1, .i32⟩
  | .hbm, ⟨24, _⟩ => ⟨S140x2816x2048, .f32⟩
  | .hbm, ⟨25, _⟩ => ⟨S140x512x2816, .f32⟩
  | .hbm, ⟨26, _⟩ => ⟨S140x512x2816, .f32⟩
  | .hbm, ⟨27, _⟩ => ⟨S140x512x2816, .f32⟩
  | .hbm, ⟨28, _⟩ => ⟨S_, .f32⟩
  | .hbm, ⟨29, _⟩ => ⟨S140x512x2816, .f32⟩
  | .hbm, ⟨30, _⟩ => ⟨S140x512x2816, .f32⟩
  | .hbm, ⟨31, _⟩ => ⟨S_, .f32⟩
  | .hbm, ⟨32, _⟩ => ⟨S140x512x2816, .f32⟩
  | .hbm, ⟨33, _⟩ => ⟨S140x512x2816, .f32⟩
  | .hbm, ⟨34, _⟩ => ⟨S140x512x2816, .f32⟩
  | .hbm, ⟨35, _⟩ => ⟨S140x512x2816, .f32⟩
  | .hbm, ⟨36, _⟩ => ⟨S140x512x2816, .f32⟩
  | .hbm, ⟨37, _⟩ => ⟨S140, .i32⟩
  | .hbm, ⟨38, _⟩ => ⟨S140x1x1, .i32⟩
  | .hbm, ⟨39, _⟩ => ⟨S_, .i32⟩
  | .hbm, ⟨40, _⟩ => ⟨S140x1x1, .i32⟩
  | .hbm, ⟨41, _⟩ => ⟨S140x1x1, .i1⟩
  | .hbm, ⟨42, _⟩ => ⟨S140x512x2048, .f32⟩
  | .hbm, ⟨43, _⟩ => ⟨S_, .f32⟩
  | .hbm, ⟨44, _⟩ => ⟨S_, .f32⟩
  | .hbm, ⟨45, _⟩ => ⟨S140x512x2048, .i1⟩
  | .hbm, ⟨46, _⟩ => ⟨S140x512x2048, .f32⟩
  | .hbm, ⟨47, _⟩ => ⟨S140x512x2048, .f32⟩
  | .hbm, ⟨48, _⟩ => ⟨S71680x2048, .f32⟩
  | _, _ => ⟨S71680x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v7 : Ref sig .tc := ⟨.hbm, 18, rfl⟩
abbrev main_call1_v0 : Ref sig .tc := ⟨.hbm, 19, rfl⟩
abbrev main_v8 : Ref sig .tc := ⟨.hbm, 20, rfl⟩
abbrev main_call2_v0 : Ref sig .tc := ⟨.hbm, 21, rfl⟩
abbrev main_v9 : Ref sig .tc := ⟨.hbm, 22, rfl⟩
abbrev main_call3_v0 : Ref sig .tc := ⟨.hbm, 23, rfl⟩
abbrev main_v10 : Ref sig .tc := ⟨.hbm, 24, rfl⟩
abbrev main_v11 : Ref sig .tc := ⟨.hbm, 25, rfl⟩
abbrev main_call4_v0 : Ref sig .tc := ⟨.hbm, 26, rfl⟩
abbrev main_call4_v1 : Ref sig .tc := ⟨.hbm, 27, rfl⟩
abbrev main_call4_cst : Ref sig .tc := ⟨.hbm, 28, rfl⟩
abbrev main_call4_v2 : Ref sig .tc := ⟨.hbm, 29, rfl⟩
abbrev main_call4_v3 : Ref sig .tc := ⟨.hbm, 30, rfl⟩
abbrev main_call4_cst_0 : Ref sig .tc := ⟨.hbm, 31, rfl⟩
abbrev main_call4_v4 : Ref sig .tc := ⟨.hbm, 32, rfl⟩
abbrev main_call4_v5 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_0 : Ref sig .tc := ⟨.hbm, 43, rfl⟩
abbrev main_call5_v0 : Ref sig .tc := ⟨.hbm, 44, rfl⟩
abbrev main_call5_v1 : Ref sig .tc := ⟨.hbm, 45, rfl⟩
abbrev main_call5_v2 : Ref sig .tc := ⟨.hbm, 46, rfl⟩
abbrev main_v21 : Ref sig .tc := ⟨.hbm, 47, rfl⟩
abbrev main_v22 : Ref sig .tc := ⟨.hbm, 48, rfl⟩

abbrev nD : Nat := 1
abbrev τ : Topo := Topo.v7x

variable {F : FTy → Type} [FloatOps F]
-- ==== Kernel10.lean ====
abbrev S32768x3584 : Shape := ⟨2, ![32768, 3584]⟩
abbrev S16 : Shape := ⟨1, ![16]⟩
abbrev S_ : Shape := ⟨0, ![]⟩
abbrev S2x128x256 : Shape := ⟨3, ![2, 128, 256]⟩
abbrev S32 : Shape := ⟨1, ![32]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S1x16384x1x32 : Shape := ⟨4, ![1, 16384, 1, 32]⟩
abbrev S1x16384x4x32 : Shape := ⟨4, ![1, 16384, 4, 32]⟩
abbrev S16384x128 : Shape := ⟨2, ![16384, 128]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S32768x1024 : Shape := ⟨2, ![32768, 1024]⟩
abbrev S32768x256 : Shape := ⟨2, ![32768, 256]⟩
abbrev S512x1024 : Shape := ⟨2, ![512, 1024]⟩
abbrev S512x512 : Shape := ⟨2, ![512, 512]⟩
abbrev S512x128 : Shape := ⟨2, ![512, 128]⟩
abbrev S1x128x256 : Shape := ⟨3, ![1, 128, 256]⟩
abbrev S512x256 : Shape := ⟨2, ![512, 256]⟩
abbrev S640x256 : Shape := ⟨2, ![640, 256]⟩
abbrev S128x256 : Shape := ⟨2, ![128, 256]⟩
abbrev S256x192 : Shape := ⟨2, ![256, 192]⟩
abbrev S256x1 : Shape := ⟨2, ![256, 1]⟩
abbrev S64x64 : Shape := ⟨2, ![64, 64]⟩
abbrev S256x64 : Shape := ⟨2, ![256, 64]⟩
abbrev S192x64 : Shape := ⟨2, ![192, 64]⟩
abbrev S1 : Shape := ⟨1, ![1]⟩
abbrev S256 : Shape := ⟨1, ![256]⟩
abbrev S64x128 : Shape := ⟨2, ![64, 128]⟩

abbrev nBuf : Space → Nat
  | .hbm => 34
  | .vmem => 18
  | .smem => 1
  | _ => 0

abbrev bufTy : (tb : Table) → Fin (tcTables nBuf tb) → BufTy
  | .hbm, ⟨0, _⟩ => ⟨S32768x3584, .f32⟩
  | .hbm, ⟨1, _⟩ => ⟨S16, .f32⟩
  | .hbm, ⟨2, _⟩ => ⟨S_, .f32⟩
  | .hbm, ⟨3, _⟩ => ⟨S2x128x256, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S16384, .i32⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .f32⟩
  | .hbm, ⟨17, _⟩ => ⟨S16384x1, .f32⟩
  | .hbm, ⟨18, _⟩ => ⟨S1x32, .f32⟩
  | .hbm, ⟨19, _⟩ => ⟨S16384x32, .f32⟩
  | .hbm, ⟨20, _⟩ => ⟨S16384x32, .f32⟩
  | .hbm, ⟨21, _⟩ => ⟨S16384x32, .f32⟩
  | .hbm, ⟨22, _⟩ => ⟨S16384x32, .f32⟩
  | .hbm, ⟨23, _⟩ => ⟨S16384x32, .f32⟩
  | .hbm, ⟨24, _⟩ => ⟨S1x16384x1x32, .f32⟩
  | .hbm, ⟨25, _⟩ => ⟨S1x16384x4x32, .f32⟩
  | .hbm, ⟨26, _⟩ => ⟨S16384x128, .f32⟩
  | .hbm, ⟨27, _⟩ => ⟨S16384x32, .f32⟩
  | .hbm, ⟨28, _⟩ => ⟨S16384x64, .f32⟩
  | .hbm, ⟨29, _⟩ => ⟨S1x16384x1x64, .f32⟩
  | .hbm, ⟨30, _⟩ => ⟨S1x16384x2x64, .f32⟩
  | .hbm, ⟨31, _⟩ => ⟨S16384x128, .f32⟩
  | .hbm, ⟨32, _⟩ => ⟨S32768x1024, .f32⟩
  | .hbm, ⟨33, _⟩ => ⟨S32768x256, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x128x256, .f32⟩
  | .local _ .vmem, ⟨9, _⟩ => ⟨S1x128x256, .f32⟩
  | .local _ .vmem, ⟨10, _⟩ => ⟨S1x128x256, .f32⟩
  | .local _ .vmem, ⟨11, _⟩ => ⟨S1x128x256, .f32⟩
  | .local _ .vmem, ⟨12, _⟩ => ⟨S512x1024, .f32⟩
  | .local _ .vmem, ⟨13, _⟩ => ⟨S512x1024, .f32⟩
  | .local _ .vmem, ⟨14, _⟩ => ⟨S512x256, .f32⟩
  | .local _ .vmem, ⟨15, _⟩ => ⟨S512x256, .f32⟩
  | .local _ .vmem, ⟨16, _⟩ => ⟨S640x256, .f32⟩
  | .local _ .vmem, ⟨17, _⟩ => ⟨S640x256, .f32⟩
  | .local _ .smem, ⟨0, _⟩ => ⟨S16, .f32⟩
  | _, _ => ⟨S32768x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26_0 : Ref sig .tc := ⟨.hbm, 32, rfl⟩
abbrev main_v26_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c6_i32 : BitVec 32 := 6#32
  let c0_i32 : BitVec 32 := 0#32
  ![v1.toNat, c6_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .smem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference10Ideal.lean ====
abbrev S32768x3584 : Shape := ⟨2, ![32768, 3584]⟩
abbrev S16 : Shape := ⟨1, ![16]⟩
abbrev S32768x256 : Shape := ⟨2, ![32768, 256]⟩
abbrev S2x16384x4x64 : Shape := ⟨4, ![2, 16384, 4, 64]⟩
abbrev S16384 : Shape := ⟨1, ![16384]⟩
abbrev S_ : Shape := ⟨0, ![]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S1x16384x1x32 : Shape := ⟨4, ![1, 16384, 1, 32]⟩
abbrev S2x16384x4x32 : Shape := ⟨4, ![2, 16384, 4, 32]⟩

abbrev nBuf : Space → Nat
  | .hbm => 40
  | .vmem => 0
  | .smem => 0
  | _ => 0

abbrev bufTy : (tb : Table) → Fin (tcTables nBuf tb) → BufTy
  | .hbm, ⟨0, _⟩ => ⟨S32768x3584, .f32⟩
  | .hbm, ⟨1, _⟩ => ⟨S16, .f32⟩
  | .hbm, ⟨2, _⟩ => ⟨S32768x256, .f32⟩
  | .hbm, ⟨3, _⟩ => ⟨S2x16384x4x64, .f32⟩
  | .hbm, ⟨4, _⟩ => ⟨S16384, .i32⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S16384, .f32⟩
  | .hbm, ⟨17, _⟩ => ⟨S16384x1, .f32⟩
  | .hbm, ⟨18, _⟩ => ⟨S1x32, .f32⟩
  | .hbm, ⟨19, _⟩ => ⟨S16384x32, .f32⟩
  | .hbm, ⟨20, _⟩ => ⟨S16384x32, .f32⟩
  | .hbm, ⟨21, _⟩ => ⟨S16384x32, .f32⟩
  | .hbm, ⟨22, _⟩ => ⟨S16384x32, .f32⟩
  | .hbm, ⟨23, _⟩ => ⟨S1x16384x1x32, .f32⟩
  | .hbm, ⟨24, _⟩ => ⟨S16384x32, .f32⟩
  | .hbm, ⟨25, _⟩ => ⟨S1x16384x1x32, .f32⟩
  | .hbm, ⟨26, _⟩ => ⟨S2x16384x4x32, .f32⟩
  | .hbm, ⟨27, _⟩ => ⟨S2x16384x4x32, .f32⟩
  | .hbm, ⟨28, _⟩ => ⟨S2x16384x4x32, .f32⟩
  | .hbm, ⟨29, _⟩ => ⟨S2x16384x4x32, .f32⟩
  | .hbm, ⟨30, _⟩ => ⟨S2x16384x4x32, .f32⟩
  | .hbm, ⟨31, _⟩ => ⟨S2x16384x4x32, .f32⟩
  | .hbm, ⟨32, _⟩ => ⟨S2x16384x4x32, .f32⟩
  | .hbm, ⟨33, _⟩ => ⟨S2x16384x4x32, .f32⟩
  | .hbm, ⟨34, _⟩ => ⟨S2x16384x4x32, .f32⟩
  | .hbm, ⟨35, _⟩ => ⟨S2x16384x4x32, .f32⟩
  | .hbm, ⟨36, _⟩ => ⟨S2x16384x4x32, .f32⟩
  | .hbm, ⟨37, _⟩ => ⟨S2x16384x4x32, .f32⟩
  | .hbm, ⟨38, _⟩ => ⟨S2x16384x4x64, .f32⟩
  | .hbm, ⟨39, _⟩ => ⟨S32768x256, .f32⟩
  | _, _ => ⟨S32768x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩

abbrev nD : Nat := 1
abbrev τ : Topo := Topo.v7x

variable {F : FTy → Type} [FloatOps F]
-- ==== Kernel11.lean ====
abbrev S1024x3584 : Shape := ⟨2, ![1024, 3584]⟩
abbrev S16x128x4x64 : Shape := ⟨4, ![16, 128, 4, 64]⟩
abbrev S16 : Shape := ⟨1, ![16]⟩
abbrev S16x128x256 : Shape := ⟨3, ![16, 128, 256]⟩
abbrev S32 : Shape := ⟨1, ![32]⟩
abbrev S_ : Shape := ⟨0, ![]⟩
abbrev S64 : Shape := ⟨1, ![64]⟩
abbrev S64x1 : Shape := ⟨2, ![64, 1]⟩
abbrev S1x32 : Shape := ⟨2, ![1, 32]⟩
abbrev S64x32 : Shape := ⟨2, ![64, 32]⟩
abbrev S1x64x1x32 : Shape := ⟨4, ![1, 64, 1, 32]⟩
abbrev S1x64x4x32 : Shape := ⟨4, ![1, 64, 4, 32]⟩
abbrev S64x128 : Shape := ⟨2, ![64, 128]⟩
abbrev S64x64 : Shape := ⟨2, ![64, 64]⟩
abbrev S1x64x1x64 : Shape := ⟨4, ![1, 64, 1, 64]⟩
abbrev S1x64x2x64 : Shape := ⟨4, ![1, 64, 2, 64]⟩
abbrev S1024x1024 : Shape := ⟨2, ![1024, 1024]⟩
abbrev S1024x256 : Shape := ⟨2, ![1024, 256]⟩
abbrev S64x1024 : Shape := ⟨2, ![64, 1024]⟩
abbrev S64x512 : Shape := ⟨2, ![64, 512]⟩
abbrev S1x128x256 : Shape := ⟨3, ![1, 128, 256]⟩
abbrev S64x256 : Shape := ⟨2, ![64, 256]⟩
abbrev S192x256 : Shape := ⟨2, ![192, 256]⟩
abbrev S128x256 : Shape := ⟨2, ![128, 256]⟩
abbrev S256x192 : Shape := ⟨2, ![256, 192]⟩
abbrev S256x1 : Shape := ⟨2, ![256, 1]⟩
abbrev S256x64 : Shape := ⟨2, ![256, 64]⟩
abbrev S192x64 : Shape := ⟨2, ![192, 64]⟩
abbrev S1 : Shape := ⟨1, ![1]⟩
abbrev S256 : Shape := ⟨1, ![256]⟩

abbrev nBuf : Space → Nat
  | .hbm => 36
  | .vmem => 16
  | .smem => 1
  | _ => 0

abbrev bufTy : (tb : Table) → Fin (tcTables nBuf tb) → BufTy
  | .hbm, ⟨0, _⟩ => ⟨S1024x3584, .f32⟩
  | .hbm, ⟨1, _⟩ => ⟨S16x128x4x64, .f32⟩
  | .hbm, ⟨2, _⟩ => ⟨S16x128x4x64, .f32⟩
  | .hbm, ⟨3, _⟩ => ⟨S16, .f32⟩
  | .hbm, ⟨4, _⟩ => ⟨S16x128x256, .f32⟩
  | .hbm, ⟨5, _⟩ => ⟨S16x128x256, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S64, .i32⟩
  | .hbm, ⟨15, _⟩ => ⟨S_, .i32⟩
  | .hbm, ⟨16, _⟩ => ⟨S64, .i32⟩
  | .hbm, ⟨17, _⟩ => ⟨S64, .i32⟩
  | .hbm, ⟨18, _⟩ => ⟨S64, .f32⟩
  | .hbm, ⟨19, _⟩ => ⟨S64x1, .f32⟩
  | .hbm, ⟨20, _⟩ => ⟨S1x32, .f32⟩
  | .hbm, ⟨21, _⟩ => ⟨S64x32, .f32⟩
  | .hbm, ⟨22, _⟩ => ⟨S64x32, .f32⟩
  | .hbm, ⟨23, _⟩ => ⟨S64x32, .f32⟩
  | .hbm, ⟨24, _⟩ => ⟨S64x32, .f32⟩
  | .hbm, ⟨25, _⟩ => ⟨S64x32, .f32⟩
  | .hbm, ⟨26, _⟩ => ⟨S1x64x1x32, .f32⟩
  | .hbm, ⟨27, _⟩ => ⟨S1x64x4x32, .f32⟩
  | .hbm, ⟨28, _⟩ => ⟨S64x128, .f32⟩
  | .hbm, ⟨29, _⟩ => ⟨S64x32, .f32⟩
  | .hbm, ⟨30, _⟩ => ⟨S64x64, .f32⟩
  | .hbm, ⟨31, _⟩ => ⟨S1x64x1x64, .f32⟩
  | .hbm, ⟨32, _⟩ => ⟨S1x64x2x64, .f32⟩
  | .hbm, ⟨33, _⟩ => ⟨S64x128, .f32⟩
  | .hbm, ⟨34, _⟩ => ⟨S1024x1024, .f32⟩
  | .hbm, ⟨35, _⟩ => ⟨S1024x256, .f32⟩
  | .local _ .vmem, ⟨0, _⟩ => ⟨S64x1024, .f32⟩
  | .local _ .vmem, ⟨1, _⟩ => ⟨S64x1024, .f32⟩
  | .local _ .vmem, ⟨2, _⟩ => ⟨S64x512, .f32⟩
  | .local _ .vmem, ⟨3, _⟩ => ⟨S64x512, .f32⟩
  | .local _ .vmem, ⟨4, _⟩ => ⟨S64x128, .f32⟩
  | .local _ .vmem, ⟨5, _⟩ => ⟨S64x128, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S64x1024, .f32⟩
  | .local _ .vmem, ⟨11, _⟩ => ⟨S64x1024, .f32⟩
  | .local _ .vmem, ⟨12, _⟩ => ⟨S64x256, .f32⟩
  | .local _ .vmem, ⟨13, _⟩ => ⟨S64x256, .f32⟩
  | .local _ .vmem, ⟨14, _⟩ => ⟨S192x256, .f32⟩
  | .local _ .vmem, ⟨15, _⟩ => ⟨S192x256, .f32⟩
  | .local _ .smem, ⟨0, _⟩ => ⟨S16, .f32⟩
  | _, _ => ⟨S1024x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27_0 : Ref sig .tc := ⟨.hbm, 34, rfl⟩
abbrev main_v27_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c6_i32 : BitVec 32 := 6#32
  let c0_i32 : BitVec 32 := 0#32
  ![v1.toNat, c6_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .smem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference11Ideal.lean ====
abbrev S1024x3584 : Shape := ⟨2, ![1024, 3584]⟩
abbrev S16x128x4x64 : Shape := ⟨4, ![16, 128, 4, 64]⟩
abbrev S16 : Shape := ⟨1, ![16]⟩
abbrev S1024x256 : Shape := ⟨2, ![1024, 256]⟩
abbrev S16x64x4x64 : Shape := ⟨4, ![16, 64, 4, 64]⟩
abbrev S64 : Shape := ⟨1, ![64]⟩
abbrev S_ : Shape := ⟨0, ![]⟩
abbrev S32 : Shape := ⟨1, ![32]⟩
abbrev S64x1 : Shape := ⟨2, ![64, 1]⟩
abbrev S1x32 : Shape := ⟨2, ![1, 32]⟩
abbrev S64x32 : Shape := ⟨2, ![64, 32]⟩
abbrev S1x64x1x32 : Shape := ⟨4, ![1, 64, 1, 32]⟩
abbrev S16x64x4x32 : Shape := ⟨4, ![16, 64, 4, 32]⟩

abbrev nBuf : Space → Nat
  | .hbm => 42
  | .vmem => 0
  | .smem => 0
  | _ => 0

abbrev bufTy : (tb : Table) → Fin (tcTables nBuf tb) → BufTy
  | .hbm, ⟨0, _⟩ => ⟨S1024x3584, .f32⟩
  | .hbm, ⟨1, _⟩ => ⟨S16x128x4x64, .f32⟩
  | .hbm, ⟨2, _⟩ => ⟨S16x128x4x64, .f32⟩
  | .hbm, ⟨3, _⟩ => ⟨S16, .f32⟩
  | .hbm, ⟨4, _⟩ => ⟨S1024x256, .f32⟩
  | .hbm, ⟨5, _⟩ => ⟨S16x64x4x64, .f32⟩
  | .hbm, ⟨6, _⟩ => ⟨S64, .i32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S64, .f32⟩
  | .hbm, ⟨19, _⟩ => ⟨S64x1, .f32⟩
  | .hbm, ⟨20, _⟩ => ⟨S1x32, .f32⟩
  | .hbm, ⟨21, _⟩ => ⟨S64x32, .f32⟩
  | .hbm, ⟨22, _⟩ => ⟨S64x32, .f32⟩
  | .hbm, ⟨23, _⟩ => ⟨S64x32, .f32⟩
  | .hbm, ⟨24, _⟩ => ⟨S64x32, .f32⟩
  | .hbm, ⟨25, _⟩ => ⟨S1x64x1x32, .f32⟩
  | .hbm, ⟨26, _⟩ => ⟨S64x32, .f32⟩
  | .hbm, ⟨27, _⟩ => ⟨S1x64x1x32, .f32⟩
  | .hbm, ⟨28, _⟩ => ⟨S16x64x4x32, .f32⟩
  | .hbm, ⟨29, _⟩ => ⟨S16x64x4x32, .f32⟩
  | .hbm, ⟨30, _⟩ => ⟨S16x64x4x32, .f32⟩
  | .hbm, ⟨31, _⟩ => ⟨S16x64x4x32, .f32⟩
  | .hbm, ⟨32, _⟩ => ⟨S16x64x4x32, .f32⟩
  | .hbm, ⟨33, _⟩ => ⟨S16x64x4x32, .f32⟩
  | .hbm, ⟨34, _⟩ => ⟨S16x64x4x32, .f32⟩
  | .hbm, ⟨35, _⟩ => ⟨S16x64x4x32, .f32⟩
  | .hbm, ⟨36, _⟩ => ⟨S16x64x4x32, .f32⟩
  | .hbm, ⟨37, _⟩ => ⟨S16x64x4x32, .f32⟩
  | .hbm, ⟨38, _⟩ => ⟨S16x64x4x32, .f32⟩
  | .hbm, ⟨39, _⟩ => ⟨S16x64x4x32, .f32⟩
  | .hbm, ⟨40, _⟩ => ⟨S16x64x4x64, .f32⟩
  | .hbm, ⟨41, _⟩ => ⟨S1024x256, .f32⟩
  | _, _ => ⟨S1024x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== Kernel12.lean ====
abbrev S16x64x2048 : Shape := ⟨3, ![16, 64, 2048]⟩
abbrev S2048 : Shape := ⟨1, ![2048]⟩
abbrev S2048x3584 : Shape := ⟨2, ![2048, 3584]⟩
abbrev S2048x1024 : Shape := ⟨2, ![2048, 1024]⟩
abbrev S2048x2048 : Shape := ⟨2, ![2048, 2048]⟩
abbrev S2048x512 : Shape := ⟨2, ![2048, 512]⟩
abbrev S1024x2048 : Shape := ⟨2, ![1024, 2048]⟩
abbrev S1x2048 : Shape := ⟨2, ![1, 2048]⟩
abbrev S1024x3584 : Shape := ⟨2, ![1024, 3584]⟩
abbrev S2048x1792 : Shape := ⟨2, ![2048, 1792]⟩
abbrev S1024x1792 : Shape := ⟨2, ![1024, 1792]⟩
abbrev S1024 : Shape := ⟨1, ![1024]⟩
abbrev S1024x1 : Shape := ⟨2, ![1024, 1]⟩

abbrev nBuf : Space → Nat
  | .hbm => 11
  | .vmem => 7
  | .smem => 0
  | _ => 0

abbrev bufTy : (tb : Table) → Fin (tcTables nBuf tb) → BufTy
  | .hbm, ⟨0, _⟩ => ⟨S16x64x2048, .f32⟩
  | .hbm, ⟨1, _⟩ => ⟨S2048, .f32⟩
  | .hbm, ⟨2, _⟩ => ⟨S2048x3584, .f32⟩
  | .hbm, ⟨3, _⟩ => ⟨S2048x1024, .f32⟩
  | .hbm, ⟨4, _⟩ => ⟨S2048x2048, .f32⟩
  | .hbm, ⟨5, _⟩ => ⟨S2048x512, .f32⟩
  | .hbm, ⟨6, _⟩ => ⟨S2048x3584, .f32⟩
  | .hbm, ⟨7, _⟩ => ⟨S1024x2048, .f32⟩
  | .hbm, ⟨8, _⟩ => ⟨S2048x3584, .bf16⟩
  | .hbm, ⟨9, _⟩ => ⟨S1x2048, .f32⟩
  | .hbm, ⟨10, _⟩ => ⟨S1024x3584, .f32⟩
  | .local _ .vmem, ⟨0, _⟩ => ⟨S1024x2048, .f32⟩
  | .local _ .vmem, ⟨1, _⟩ => ⟨S1x2048, .f32⟩
  | .local _ .vmem, ⟨2, _⟩ => ⟨S2048x1792, .bf16⟩
  | .local _ .vmem, ⟨3, _⟩ => ⟨S2048x1792, .bf16⟩
  | .local _ .vmem, ⟨4, _⟩ => ⟨S1024x1792, .f32⟩
  | .local _ .vmem, ⟨5, _⟩ => ⟨S1024x1792, .f32⟩
  | .local _ .vmem, ⟨6, _⟩ => ⟨S1024x2048, .bf16⟩
  | _, _ => ⟨S16x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S16x64x2048 : Shape := ⟨3, ![16, 64, 2048]⟩
abbrev S2048 : Shape := ⟨1, ![2048]⟩
abbrev S2048x3584 : Shape := ⟨2, ![2048, 3584]⟩
abbrev S_ : Shape := ⟨0, ![]⟩
abbrev S16x64 : Shape := ⟨2, ![16, 64]⟩
abbrev S16x64x1 : Shape := ⟨3, ![16, 64, 1]⟩
abbrev S1x1x2048 : Shape := ⟨3, ![1, 1, 2048]⟩
abbrev S16x64x3584 : Shape := ⟨3, ![16, 64, 3584]⟩
abbrev S1024x3584 : Shape := ⟨2, ![1024, 3584]⟩
abbrev S1024x1024 : Shape := ⟨2, ![1024, 1024]⟩
abbrev S1024x512 : Shape := ⟨2, ![1024, 512]⟩
abbrev S1024x2048 : Shape := ⟨2, ![1024, 2048]⟩

abbrev nBuf : Space → Nat
  | .hbm => 25
  | .vmem => 0
  | .smem => 0
  | _ => 0

abbrev bufTy : (tb : Table) → Fin (tcTables nBuf tb) → BufTy
  | .hbm, ⟨0, _⟩ => ⟨S16x64x2048, .f32⟩
  | .hbm, ⟨1, _⟩ => ⟨S2048, .f32⟩
  | .hbm, ⟨2, _⟩ => ⟨S2048x3584, .f32⟩
  | .hbm, ⟨3, _⟩ => ⟨S16x64x2048, .f32⟩
  | .hbm, ⟨4, _⟩ => ⟨S_, .f32⟩
  | .hbm, ⟨5, _⟩ => ⟨S16x64, .f32⟩
  | .hbm, ⟨6, _⟩ => ⟨S16x64x1, .f32⟩
  | .hbm, ⟨7, _⟩ => ⟨S_, .f32⟩
  | .hbm, ⟨8, _⟩ => ⟨S16x64x1, .f32⟩
  | .hbm, ⟨9, _⟩ => ⟨S16x64x1, .f32⟩
  | .hbm, ⟨10, _⟩ => ⟨S_, .f32⟩
  | .hbm, ⟨11, _⟩ => ⟨S16x64x1, .f32⟩
  | .hbm, ⟨12, _⟩ => ⟨S16x64x1, .f32⟩
  | .hbm, ⟨13, _⟩ => ⟨S16x64x1, .f32⟩
  | .hbm, ⟨14, _⟩ => ⟨S16x64x2048, .f32⟩
  | .hbm, ⟨15, _⟩ => ⟨S16x64x2048, .f32⟩
  | .hbm, ⟨16, _⟩ => ⟨S1x1x2048, .f32⟩
  | .hbm, ⟨17, _⟩ => ⟨S16x64x2048, .f32⟩
  | .hbm, ⟨18, _⟩ => ⟨S16x64x2048, .f32⟩
  | .hbm, ⟨19, _⟩ => ⟨S16x64x3584, .f32⟩
  | .hbm, ⟨20, _⟩ => ⟨S1024x3584, .f32⟩
  | .hbm, ⟨21, _⟩ => ⟨S1024x1024, .f32⟩
  | .hbm, ⟨22, _⟩ => ⟨S1024x512, .f32⟩
  | .hbm, ⟨23, _⟩ => ⟨S1024x2048, .f32⟩
  | .hbm, ⟨24, _⟩ => ⟨S1024x3584, .f32⟩
  | _, _ => ⟨S16x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel13.lean ====
abbrev S1024x6400 : Shape := ⟨2, ![1024, 6400]⟩
abbrev S16x3x1024 : Shape := ⟨3, ![16, 3, 1024]⟩
abbrev S16x1024 : Shape := ⟨2, ![16, 1024]⟩
abbrev S4x1024 : Shape := ⟨2, ![4, 1024]⟩
abbrev S1024 : Shape := ⟨1, ![1024]⟩
abbrev S8x128x128 : Shape := ⟨3, ![8, 128, 128]⟩
abbrev S16x1x1024 : Shape := ⟨3, ![16, 1, 1024]⟩
abbrev S1x1024 : Shape := ⟨2, ![1, 1024]⟩
abbrev S1024x1024 : Shape := ⟨2, ![1024, 1024]⟩
abbrev S64x1024 : Shape := ⟨2, ![64, 1024]⟩
abbrev S1x3x1024 : Shape := ⟨3, ![1, 3, 1024]⟩
abbrev S1x1x1024 : Shape := ⟨3, ![1, 1, 1024]⟩
abbrev S72x1024 : Shape := ⟨2, ![72, 1024]⟩
abbrev S96x1024 : Shape := ⟨2, ![96, 1024]⟩
abbrev S3x1024 : Shape := ⟨2, ![3, 1024]⟩
abbrev S32x1024 : Shape := ⟨2, ![32, 1024]⟩
abbrev S64x128 : Shape := ⟨2, ![64, 128]⟩
abbrev S1x128x128 : Shape := ⟨3, ![1, 128, 128]⟩
abbrev S128x128 : Shape := ⟨2, ![128, 128]⟩
abbrev S64x1 : Shape := ⟨2, ![64, 1]⟩
abbrev S8x1024 : Shape := ⟨2, ![8, 1024]⟩

abbrev nBuf : Space → Nat
  | .hbm => 18
  | .vmem => 25
  | .smem => 0
  | _ => 0

abbrev bufTy : (tb : Table) → Fin (tcTables nBuf tb) → BufTy
  | .hbm, ⟨0, _⟩ => ⟨S1024x6400, .f32⟩
  | .hbm, ⟨1, _⟩ => ⟨S16x3x1024, .f32⟩
  | .hbm, ⟨2, _⟩ => ⟨S16x1024, .f32⟩
  | .hbm, ⟨3, _⟩ => ⟨S4x1024, .f32⟩
  | .hbm, ⟨4, _⟩ => ⟨S1024, .f32⟩
  | .hbm, ⟨5, _⟩ => ⟨S8x128x128, .f32⟩
  | .hbm, ⟨6, _⟩ => ⟨S1024, .f32⟩
  | .hbm, ⟨7, _⟩ => ⟨S8x128x128, .f32⟩
  | .hbm, ⟨8, _⟩ => ⟨S1024, .f32⟩
  | .hbm, ⟨9, _⟩ => ⟨S1024, .f32⟩
  | .hbm, ⟨10, _⟩ => ⟨S16x1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1024x1024, .f32⟩
  | .hbm, ⟨16, _⟩ => ⟨S16x1x1024, .f32⟩
  | .hbm, ⟨17, _⟩ => ⟨S16x3x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S1x3x1024, .f32⟩
  | .local _ .vmem, ⟨5, _⟩ => ⟨S1x3x1024, .f32⟩
  | .local _ .vmem, ⟨6, _⟩ => ⟨S1x1x1024, .f32⟩
  | .local _ .vmem, ⟨7, _⟩ => ⟨S1x1x1024, .f32⟩
  | .local _ .vmem, ⟨8, _⟩ => ⟨S4x1024, .f32⟩
  | .local _ .vmem, ⟨9, _⟩ => ⟨S1x1024, .f32⟩
  | .local _ .vmem, ⟨10, _⟩ => ⟨S8x128x128, .f32⟩
  | .local _ .vmem, ⟨11, _⟩ => ⟨S1x1024, .f32⟩
  | .local _ .vmem, ⟨12, _⟩ => ⟨S8x128x128, .f32⟩
  | .local _ .vmem, ⟨13, _⟩ => ⟨S1x1024, .f32⟩
  | .local _ .vmem, ⟨14, _⟩ => ⟨S1x1024, .f32⟩
  | .local _ .vmem, ⟨15, _⟩ => ⟨S64x1024, .f32⟩
  | .local _ .vmem, ⟨16, _⟩ => ⟨S64x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x3x1024, .f32⟩
  | .local _ .vmem, ⟨20, _⟩ => ⟨S1x3x1024, .f32⟩
  | .local _ .vmem, ⟨21, _⟩ => ⟨S1x1024, .f32⟩
  | .local _ .vmem, ⟨22, _⟩ => ⟨S72x1024, .f32⟩
  | .local _ .vmem, ⟨23, _⟩ => ⟨S96x1024, .f32⟩
  | .local _ .vmem, ⟨24, _⟩ => ⟨S96x1024, .f32⟩
  | _, _ => ⟨S1024x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![16, 1], ![false, false]⟩

def k0_cond3 (i : grid0.Coords) : BitVec 1 :=
  let arg1 : BitVec 32 := BitVec.ofNat 32 (i 1).val
  let c0_i32_143 : BitVec 32 := 0#32
  let v330 : BitVec 1 := Scalar.cmpi .eq arg1 c0_i32_143
  let v331 : BitVec 32 := Scalar.extui v330
  let c0_i32_144 : BitVec 32 := 0#32
  let v332 : BitVec 1 := Scalar.cmpi .ne v331 c0_i32_144
  v332

def k0_cond2 (i : grid0.Coords) : BitVec 1 :=
  let arg1 : BitVec 32 := BitVec.ofNat 32 (i 1).val
  let c0_i32_16 : BitVec 32 := 0#32
  let v30 : BitVec 1 := Scalar.cmpi .eq arg1 c0_i32_16
  let v31 : BitVec 32 := Scalar.extui v30
  let c0_i32_17 : BitVec 32 := 0#32
  let v32 : BitVec 1 := Scalar.cmpi .ne v31 c0_i32_17
  v32

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c4_i32 : BitVec 32 := 4#32
  let c0_i32 : BitVec 32 := 0#32
  ![v1.toNat, c4_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c5_i32 : BitVec 32 := 5#32
  let c0_i32 : BitVec 32 := 0#32
  ![v1.toNat, c5_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x3x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference13Ideal.lean ====
abbrev S1024x6400 : Shape := ⟨2, ![1024, 6400]⟩
abbrev S16x3x1024 : Shape := ⟨3, ![16, 3, 1024]⟩
abbrev S16x1024 : Shape := ⟨2, ![16, 1024]⟩
abbrev S4x1024 : Shape := ⟨2, ![4, 1024]⟩
abbrev S1024 : Shape := ⟨1, ![1024]⟩
abbrev S8x128x128 : Shape := ⟨3, ![8, 128, 128]⟩
abbrev S1024x1024 : Shape := ⟨2, ![1024, 1024]⟩
abbrev S16x64x1024 : Shape := ⟨3, ![16, 64, 1024]⟩
abbrev S16x67x1024 : Shape := ⟨3, ![16, 67, 1024]⟩

abbrev nBuf : Space → Nat
  | .hbm => 14
  | .vmem => 0
  | .smem => 0
  | _ => 0

abbrev bufTy : (tb : Table) → Fin (tcTables nBuf tb) → BufTy
  | .hbm, ⟨0, _⟩ => ⟨S1024x6400, .f32⟩
  | .hbm, ⟨1, _⟩ => ⟨S16x3x1024, .f32⟩
  | .hbm, ⟨2, _⟩ => ⟨S16x1024, .f32⟩
  | .hbm, ⟨3, _⟩ => ⟨S4x1024, .f32⟩
  | .hbm, ⟨4, _⟩ => ⟨S1024, .f32⟩
  | .hbm, ⟨5, _⟩ => ⟨S8x128x128, .f32⟩
  | .hbm, ⟨6, _⟩ => ⟨S1024, .f32⟩
  | .hbm, ⟨7, _⟩ => ⟨S8x128x128, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S16x64x1024, .f32⟩
  | .hbm, ⟨12, _⟩ => ⟨S16x67x1024, .f32⟩
  | .hbm, ⟨13, _⟩ => ⟨S16x3x1024, .f32⟩
  | _, _ => ⟨S1024x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== Kernel14.lean ====
abbrev S1024x6400 : Shape := ⟨2, ![1024, 6400]⟩
abbrev S16x3x3072 : Shape := ⟨3, ![16, 3, 3072]⟩
abbrev S16x8x128x128 : Shape := ⟨4, ![16, 8, 128, 128]⟩
abbrev S4x3072 : Shape := ⟨2, ![4, 3072]⟩
abbrev S8 : Shape := ⟨1, ![8]⟩
abbrev S128 : Shape := ⟨1, ![128]⟩
abbrev S_ : Shape := ⟨0, ![]⟩
abbrev S2x128 : Shape := ⟨2, ![2, 128]⟩
abbrev S1 : Shape := ⟨1, ![1]⟩
abbrev S2 : Shape := ⟨1, ![2]⟩
abbrev S1x128 : Shape := ⟨2, ![1, 128]⟩
abbrev S1024x1024 : Shape := ⟨2, ![1024, 1024]⟩
abbrev S64x3072 : Shape := ⟨2, ![64, 3072]⟩
abbrev S64x1024 : Shape := ⟨2, ![64, 1024]⟩
abbrev S64x128 : Shape := ⟨2, ![64, 128]⟩
abbrev S1x3x3072 : Shape := ⟨3, ![1, 3, 3072]⟩
abbrev S1x8x128x128 : Shape := ⟨4, ![1, 8, 128, 128]⟩
abbrev S8x128x128 : Shape := ⟨3, ![8, 128, 128]⟩
abbrev S72x3072 : Shape := ⟨2, ![72, 3072]⟩
abbrev S3x3072 : Shape := ⟨2, ![3, 3072]⟩
abbrev S1x3072 : Shape := ⟨2, ![1, 3072]⟩
abbrev S64x64 : Shape := ⟨2, ![64, 64]⟩
abbrev S64x384 : Shape := ⟨2, ![64, 384]⟩
abbrev S128x64 : Shape := ⟨2, ![128, 64]⟩
abbrev S64x1 : Shape := ⟨2, ![64, 1]⟩
abbrev S1x64 : Shape := ⟨2, ![1, 64]⟩
abbrev S64 : Shape := ⟨1, ![64]⟩
abbrev S128x128 : Shape := ⟨2, ![128, 128]⟩
abbrev S64x256 : Shape := ⟨2, ![64, 256]⟩
abbrev S1x1 : Shape := ⟨2, ![1, 1]⟩
abbrev S1x128x128 : Shape := ⟨3, ![1, 128, 128]⟩

abbrev nBuf : Space → Nat
  | .hbm => 25
  | .vmem => 21
  | .smem => 0
  | _ => 0

abbrev bufTy : (tb : Table) → Fin (tcTables nBuf tb) → BufTy
  | .hbm, ⟨0, _⟩ => ⟨S1024x6400, .f32⟩
  | .hbm, ⟨1, _⟩ => ⟨S16x3x3072, .f32⟩
  | .hbm, ⟨2, _⟩ => ⟨S16x8x128x128, .f32⟩
  | .hbm, ⟨3, _⟩ => ⟨S4x3072, .f32⟩
  | .hbm, ⟨4, _⟩ => ⟨S8, .f32⟩
  | .hbm, ⟨5, _⟩ => ⟨S8, .f32⟩
  | .hbm, ⟨6, _⟩ => ⟨S128, .f32⟩
  | .hbm, ⟨7, _⟩ => ⟨S_, .f32⟩
  | .hbm, ⟨8, _⟩ => ⟨S2x128, .f32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S2, .i32⟩
  | .hbm, ⟨14, _⟩ => ⟨S2x128, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S2x128, .f32⟩
  | .hbm, ⟨21, _⟩ => ⟨S1x128, .f32⟩
  | .hbm, ⟨22, _⟩ => ⟨S1024x1024, .f32⟩
  | .hbm, ⟨23, _⟩ => ⟨S16x8x128x128, .f32⟩
  | .hbm, ⟨24, _⟩ => ⟨S16x3x3072, .f32⟩
  | .local _ .vmem, ⟨0, _⟩ => ⟨S64x3072, .f32⟩
  | .local _ .vmem, ⟨1, _⟩ => ⟨S64x3072, .f32⟩
  | .local _ .vmem, ⟨2, _⟩ => ⟨S64x1024, .f32⟩
  | .local _ .vmem, ⟨3, _⟩ => ⟨S64x1024, .f32⟩
  | .local _ .vmem, ⟨4, _⟩ => ⟨S64x128, .f32⟩
  | .local _ .vmem, ⟨5, _⟩ => ⟨S64x128, .f32⟩
  | .local _ .vmem, ⟨6, _⟩ => ⟨S1x3x3072, .f32⟩
  | .local _ .vmem, ⟨7, _⟩ => ⟨S1x3x3072, .f32⟩
  | .local _ .vmem, ⟨8, _⟩ => ⟨S1x8x128x128, .f32⟩
  | .local _ .vmem, ⟨9, _⟩ => ⟨S1x8x128x128, .f32⟩
  | .local _ .vmem, ⟨10, _⟩ => ⟨S4x3072, .f32⟩
  | .local _ .vmem, ⟨11, _⟩ => ⟨S2x128, .f32⟩
  | .local _ .vmem, ⟨12, _⟩ => ⟨S1x128, .f32⟩
  | .local _ .vmem, ⟨13, _⟩ => ⟨S64x1024, .f32⟩
  | .local _ .vmem, ⟨14, _⟩ => ⟨S64x1024, .f32⟩
  | .local _ .vmem, ⟨15, _⟩ => ⟨S1x8x128x128, .f32⟩
  | .local _ .vmem, ⟨16, _⟩ => ⟨S1x8x128x128, .f32⟩
  | .local _ .vmem, ⟨17, _⟩ => ⟨S1x3x3072, .f32⟩
  | .local _ .vmem, ⟨18, _⟩ => ⟨S1x3x3072, .f32⟩
  | .local _ .vmem, ⟨19, _⟩ => ⟨S8x128x128, .f32⟩
  | .local _ .vmem, ⟨20, _⟩ => ⟨S72x3072, .f32⟩
  | _, _ => ⟨S1024x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![16, 1], ![false, false]⟩

def k0_cond3 (i : grid0.Coords) : BitVec 1 :=
  let arg1 : BitVec 32 := BitVec.ofNat 32 (i 1).val
  let c0_i32_471 : BitVec 32 := 0#32
  let v1592 : BitVec 1 := Scalar.cmpi .eq arg1 c0_i32_471
  let v1593 : BitVec 32 := Scalar.extui v1592
  let c0_i32_472 : BitVec 32 := 0#32
  let v1594 : BitVec 1 := Scalar.cmpi .ne v1593 c0_i32_472
  v1594

def k0_cond2 (i : grid0.Coords) : BitVec 1 :=
  let arg1 : BitVec 32 := BitVec.ofNat 32 (i 1).val
  let c0_i32_16 : BitVec 32 := 0#32
  let v30 : BitVec 1 := Scalar.cmpi .eq arg1 c0_i32_16
  let v31 : BitVec 32 := Scalar.extui v30
  let c0_i32_17 : BitVec 32 := 0#32
  let v32 : BitVec 1 := Scalar.cmpi .ne v31 c0_i32_17
  v32

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  ![v1.toNat, c3_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c48_i32 : BitVec 32 := 48#32
  let c0_i32 : BitVec 32 := 0#32
  ![v1.toNat, c48_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x3x3072 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference14Ideal.lean ====
abbrev S1024x6400 : Shape := ⟨2, ![1024, 6400]⟩
abbrev S16x3x3072 : Shape := ⟨3, ![16, 3, 3072]⟩
abbrev S16x8x128x128 : Shape := ⟨4, ![16, 8, 128, 128]⟩
abbrev S4x3072 : Shape := ⟨2, ![4, 3072]⟩
abbrev S8 : Shape := ⟨1, ![8]⟩
abbrev S128 : Shape := ⟨1, ![128]⟩
abbrev S1024x3072 : Shape := ⟨2, ![1024, 3072]⟩
abbrev S16x64x3072 : Shape := ⟨3, ![16, 64, 3072]⟩
abbrev S16x67x3072 : Shape := ⟨3, ![16, 67, 3072]⟩

abbrev nBuf : Space → Nat
  | .hbm => 11
  | .vmem => 0
  | .smem => 0
  | _ => 0

abbrev bufTy : (tb : Table) → Fin (tcTables nBuf tb) → BufTy
  | .hbm, ⟨0, _⟩ => ⟨S1024x6400, .f32⟩
  | .hbm, ⟨1, _⟩ => ⟨S16x3x3072, .f32⟩
  | .hbm, ⟨2, _⟩ => ⟨S16x8x128x128, .f32⟩
  | .hbm, ⟨3, _⟩ => ⟨S4x3072, .f32⟩
  | .hbm, ⟨4, _⟩ => ⟨S8, .f32⟩
  | .hbm, ⟨5, _⟩ => ⟨S8, .f32⟩
  | .hbm, ⟨6, _⟩ => ⟨S128, .f32⟩
  | .hbm, ⟨7, _⟩ => ⟨S1024x3072, .f32⟩
  | .hbm, ⟨8, _⟩ => ⟨S16x64x3072, .f32⟩
  | .hbm, ⟨9, _⟩ => ⟨S16x67x3072, .f32⟩
  | .hbm, ⟨10, _⟩ => ⟨S16x3x3072, .f32⟩
  | _, _ => ⟨S1024x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩

abbrev nD : Nat := 1
abbrev τ : Topo := Topo.v7x

variable {F : FTy → Type} [FloatOps F]
-- ==== Kernel15.lean ====
abbrev S16x64x2048 : Shape := ⟨3, ![16, 64, 2048]⟩
abbrev S2048 : Shape := ⟨1, ![2048]⟩
abbrev S2048x6160 : Shape := ⟨2, ![2048, 6160]⟩
abbrev S2048x4096 : Shape := ⟨2, ![2048, 4096]⟩
abbrev S2048x2048 : Shape := ⟨2, ![2048, 2048]⟩
abbrev S2048x16 : Shape := ⟨2, ![2048, 16]⟩
abbrev S_ : Shape := ⟨0, ![]⟩
abbrev S2048x240 : Shape := ⟨2, ![2048, 240]⟩
abbrev S2048x6400 : Shape := ⟨2, ![2048, 6400]⟩
abbrev S1024x2048 : Shape := ⟨2, ![1024, 2048]⟩
abbrev S1x2048 : Shape := ⟨2, ![1, 2048]⟩
abbrev S1024x6400 : Shape := ⟨2, ![1024, 6400]⟩
abbrev S2048x1280 : Shape := ⟨2, ![2048, 1280]⟩
abbrev S1024x1280 : Shape := ⟨2, ![1024, 1280]⟩
abbrev S1024 : Shape := ⟨1, ![1024]⟩
abbrev S1024x1 : Shape := ⟨2, ![1024, 1]⟩

abbrev nBuf : Space → Nat
  | .hbm => 13
  | .vmem => 7
  | .smem => 0
  | _ => 0

abbrev bufTy : (tb : Table) → Fin (tcTables nBuf tb) → BufTy
  | .hbm, ⟨0, _⟩ => ⟨S16x64x2048, .f32⟩
  | .hbm, ⟨1, _⟩ => ⟨S2048, .f32⟩
  | .hbm, ⟨2, _⟩ => ⟨S2048x6160, .f32⟩
  | .hbm, ⟨3, _⟩ => ⟨S2048x4096, .f32⟩
  | .hbm, ⟨4, _⟩ => ⟨S2048x2048, .f32⟩
  | .hbm, ⟨5, _⟩ => ⟨S2048x16, .f32⟩
  | .hbm, ⟨6, _⟩ => ⟨S_, .f32⟩
  | .hbm, ⟨7, _⟩ => ⟨S2048x240, .f32⟩
  | .hbm, ⟨8, _⟩ => ⟨S2048x6400, .f32⟩
  | .hbm, ⟨9, _⟩ => ⟨S1024x2048, .f32⟩
  | .hbm, ⟨10, _⟩ => ⟨S2048x6400, .bf16⟩
  | .hbm, ⟨11, _⟩ => ⟨S1x2048, .f32⟩
  | .hbm, ⟨12, _⟩ => ⟨S1024x6400, .f32⟩
  | .local _ .vmem, ⟨0, _⟩ => ⟨S1024x2048, .f32⟩
  | .local _ .vmem, ⟨1, _⟩ => ⟨S1x2048, .f32⟩
  | .local _ .vmem, ⟨2, _⟩ => ⟨S2048x1280, .bf16⟩
  | .local _ .vmem, ⟨3, _⟩ => ⟨S2048x1280, .bf16⟩
  | .local _ .vmem, ⟨4, _⟩ => ⟨S1024x1280, .f32⟩
  | .local _ .vmem, ⟨5, _⟩ => ⟨S1024x1280, .f32⟩
  | .local _ .vmem, ⟨6, _⟩ => ⟨S1024x2048, .bf16⟩
  | _, _ => ⟨S16x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference15Ideal.lean ====
abbrev S16x64x2048 : Shape := ⟨3, ![16, 64, 2048]⟩
abbrev S2048 : Shape := ⟨1, ![2048]⟩
abbrev S2048x6160 : Shape := ⟨2, ![2048, 6160]⟩
abbrev S_ : Shape := ⟨0, ![]⟩
abbrev S16x64 : Shape := ⟨2, ![16, 64]⟩
abbrev S16x64x1 : Shape := ⟨3, ![16, 64, 1]⟩
abbrev S1x1x2048 : Shape := ⟨3, ![1, 1, 2048]⟩
abbrev S16x64x6160 : Shape := ⟨3, ![16, 64, 6160]⟩
abbrev S1024x6160 : Shape := ⟨2, ![1024, 6160]⟩
abbrev S1024x4096 : Shape := ⟨2, ![1024, 4096]⟩
abbrev S1024x16 : Shape := ⟨2, ![1024, 16]⟩
abbrev S1024x2048 : Shape := ⟨2, ![1024, 2048]⟩
abbrev S1024x240 : Shape := ⟨2, ![1024, 240]⟩
abbrev S1024x6400 : Shape := ⟨2, ![1024, 6400]⟩

abbrev nBuf : Space → Nat
  | .hbm => 27
  | .vmem => 0
  | .smem => 0
  | _ => 0

abbrev bufTy : (tb : Table) → Fin (tcTables nBuf tb) → BufTy
  | .hbm, ⟨0, _⟩ => ⟨S16x64x2048, .f32⟩
  | .hbm, ⟨1, _⟩ => ⟨S2048, .f32⟩
  | .hbm, ⟨2, _⟩ => ⟨S2048x6160, .f32⟩
  | .hbm, ⟨3, _⟩ => ⟨S16x64x2048, .f32⟩
  | .hbm, ⟨4, _⟩ => ⟨S_, .f32⟩
  | .hbm, ⟨5, _⟩ => ⟨S16x64, .f32⟩
  | .hbm, ⟨6, _⟩ => ⟨S16x64x1, .f32⟩
  | .hbm, ⟨7, _⟩ => ⟨S_, .f32⟩
  | .hbm, ⟨8, _⟩ => ⟨S16x64x1, .f32⟩
  | .hbm, ⟨9, _⟩ => ⟨S16x64x1, .f32⟩
  | .hbm, ⟨10, _⟩ => ⟨S_, .f32⟩
  | .hbm, ⟨11, _⟩ => ⟨S16x64x1, .f32⟩
  | .hbm, ⟨12, _⟩ => ⟨S16x64x1, .f32⟩
  | .hbm, ⟨13, _⟩ => ⟨S16x64x1, .f32⟩
  | .hbm, ⟨14, _⟩ => ⟨S16x64x2048, .f32⟩
  | .hbm, ⟨15, _⟩ => ⟨S16x64x2048, .f32⟩
  | .hbm, ⟨16, _⟩ => ⟨S1x1x2048, .f32⟩
  | .hbm, ⟨17, _⟩ => ⟨S16x64x2048, .f32⟩
  | .hbm, ⟨18, _⟩ => ⟨S16x64x2048, .f32⟩
  | .hbm, ⟨19, _⟩ => ⟨S16x64x6160, .f32⟩
  | .hbm, ⟨20, _⟩ => ⟨S1024x6160, .f32⟩
  | .hbm, ⟨21, _⟩ => ⟨S1024x4096, .f32⟩
  | .hbm, ⟨22, _⟩ => ⟨S1024x16, .f32⟩
  | .hbm, ⟨23, _⟩ => ⟨S1024x2048, .f32⟩
  | .hbm, ⟨24, _⟩ => ⟨S_, .f32⟩
  | .hbm, ⟨25, _⟩ => ⟨S1024x240, .f32⟩
  | .hbm, ⟨26, _⟩ => ⟨S1024x6400, .f32⟩
  | _, _ => ⟨S16x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Proof.Ref2.lean ====
module

public import proofs.«01_k».proof.Proof.Gen.Reference2Ideal
public import Idealize.ShloMosaic.Lib.StableHlo.Run
public import Idealize.ShloMosaic.PureOps.Ideal

/-! The result of Reference2Ideal, stage by stage, over variables. -/

@[expose] public section

set_option maxRecDepth 16384

noncomputable section

open Idealize.ShloMosaic Idealize.ShloMosaic.TcCoe

namespace Cert.Reference2Ideal.Value

open Cert.Reference2Ideal Cert.Reference2Ideal.Gen

/-- The value v12 of the reference. -/
def r_v12 (a0 : FVec Ideal S2x16384x2048 .f32) (a1 : FVec Ideal S2048 .f32) : FVec Ideal S2x16384x2048 .f32 :=
  mulf (mulf a0 (broadcastInDim S2x16384x2048 ![0, 1, 2] bcast_S2x16384x1_S2x16384x2048_0_1_2 (Host.rsqrt (addf
    (Host.divf (broadcastInDim S2x16384x1 ![0, 1] bcast_S2x16384_S2x16384x1_0_1 (Host.reduceAdd (mulf a0 a0)
    (constant S_ .f32 0x00000000#32) reducesTo_S2x16384x2048_S2x16384_d2 h_S_)) (broadcastInDim S2x16384x1 ![]
    bcast_S_S2x16384x1 (constant S_ .f32 0x45000000#32))) (broadcastInDim S2x16384x1 ![] bcast_S_S2x16384x1
    (constant S_ .f32 0x358637BD#32)))))) (broadcastInDim S2x16384x2048 ![0, 1, 2]
    bcast_S1x1x2048_S2x16384x2048_0_1_2 (broadcastInDim S1x1x2048 ![2] bcast_S2048_S1x1x2048_2 a1))

/-- The value v13 of the reference. -/
def r_v13 (a0 : FVec Ideal S2x16384x2048 .f32) (a1 : FVec Ideal S2048 .f32) (a2 : FVec Ideal S2048x5632 .f32) : FVec Ideal S2x16384x5632 .f32 :=
  Host.dotGeneral dot_S2x16384x2048_S2048x5632_S2x16384x5632_2_0_01_1_n_n none (r_v12 a0 a1) a2

/-- The value v17 of the reference. -/
def r_v17 (a0 : FVec Ideal S2x16384x2048 .f32) (a1 : FVec Ideal S2048 .f32) (a2 : FVec Ideal S2048x5632 .f32) (a3 : FVec Ideal S2048x5632 .f32) (a4 : FVec Ideal S5632x2048 .f32) : FVec Ideal S2x16384x2048 .f32 :=
  Host.dotGeneral dot_S2x16384x5632_S5632x2048_S2x16384x2048_2_0_01_1_n_n none (mulf (mulf (r_v13 a0 a1 a2)
    (Host.divf (broadcastInDim S2x16384x5632 ![] bcast_S_S2x16384x5632 (constant S_ .f32 0x3F800000#32)) (addf
    (broadcastInDim S2x16384x5632 ![] bcast_S_S2x16384x5632 (constant S_ .f32 0x3F800000#32)) (Host.exp (Host.negf
    (r_v13 a0 a1 a2)))))) (Host.dotGeneral dot_S2x16384x2048_S2048x5632_S2x16384x5632_2_0_01_1_n_n none (r_v12 a0
    a1) a3)) a4

/-- The value v32 of the reference. -/
def REF (a0 : FVec Ideal S2x16384x2048 .f32) (a1 : FVec Ideal S2048 .f32) (a2 : FVec Ideal S2048x5632 .f32) (a3 : FVec Ideal S2048x5632 .f32) (a4 : FVec Ideal S5632x2048 .f32) (a5 : FVec Ideal S2048 .f32) : FVec Ideal S32768x2048 .f32 :=
  shapeCast S32768x2048 (addf a0 (mulf (mulf (r_v17 a0 a1 a2 a3 a4) (broadcastInDim S2x16384x2048 ![0, 1, 2]
    bcast_S2x16384x1_S2x16384x2048_0_1_2 (Host.rsqrt (addf (Host.divf (broadcastInDim S2x16384x1 ![0, 1]
    bcast_S2x16384_S2x16384x1_0_1 (Host.reduceAdd (mulf (r_v17 a0 a1 a2 a3 a4) (r_v17 a0 a1 a2 a3 a4)) (constant S_
    .f32 0x00000000#32) reducesTo_S2x16384x2048_S2x16384_d2 h_S_)) (broadcastInDim S2x16384x1 ![] bcast_S_S2x16384x1
    (constant S_ .f32 0x45000000#32))) (broadcastInDim S2x16384x1 ![] bcast_S_S2x16384x1 (constant S_ .f32
    0x358637BD#32)))))) (broadcastInDim S2x16384x2048 ![0, 1, 2] bcast_S1x1x2048_S2x16384x2048_0_1_2 (broadcastInDim
    S1x1x2048 ![2] bcast_S2048_S1x1x2048_2 a5)))) shapeCasts_S2x16384x2048_S32768x2048

end Cert.Reference2Ideal.Value

end
-- ==== Proof.Value2.lean ====
module

public import proofs.«01_k».proof.Proof.Gen.Kernel2Ideal.Frame
public import proofs.«01_k».proof.Proof.Ref2
public import Idealize.ShloMosaic.Lib.Claim
public import Idealize.ShloMosaic.Lib.Pipeline.ValueKit
public import Idealize.ShloMosaic.Lib.Pointwise

/-! The dense feed-forward call. -/

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen

variable (m : (ℓ : Loc nD τ sig) → Buf (Elt Ideal) ℓ)

/-- The windows' block indices. -/
theorem idx : ∀ t : Fin cfg0.N, win0_0.index t = ![t.val / 11, 0] ∧ win0_1.index t = ![0, 0]
    ∧ win0_2.index t = ![0, t.val % 11] ∧ win0_3.index t = ![0, t.val % 11] ∧ win0_4.index t = ![t.val % 11, 0]
    ∧ win0_5.index t = ![0, 0] ∧ win0_6.index t = ![t.val / 11, 0] ∧ t.val / 11 < 64 :=
  (by decide +kernel : ∀ t : Fin grid0.N, _)

/-- Two successive points of one row tile see the same rows. -/
theorem rows_eq (c : Dev nD) (n : ℕ) (h : n + 1 < cfg0.N) (h' : n < cfg0.N) (h0 : ¬ (n + 1) % 11 = 0) :
    iblk m c 0 ⟨n + 1, h⟩ = iblk m c 0 ⟨n, h'⟩ := by
  funext y
  have e : (n + 1) / 11 = n / 11 := by omega
  have i1 := (idx ⟨n + 1, h⟩).1
  have i2 := (idx ⟨n, h'⟩).1
  dsimp only at i1 i2
  rw [e] at i1
  blk_ext [iblk, i1, i2]

/-- ... and the same gains. -/
theorem gain_eq (c : Dev nD) (t t' : Fin cfg0.N) : iblk m c 1 t = iblk m c 1 t' := by
  funext y
  blk_ext [iblk, (idx t).2.1, (idx t').2.1]

/-- The kernel's power of two, its exponent scaled by the named constant, is the exponential. -/
theorem exp2_neg (x : EReal) : FloatOps.exp2 (F := Ideal) (φ := FTy.f32) (x * Named.named (F := Ideal) (φ := FTy.f32) κ "neg_log2_e" 0xBFB8AA3B#32) = Ideal.exp (-x) := by
  have hk : Named.named (F := Ideal) (φ := FTy.f32) κ "neg_log2_e" 0xBFB8AA3B#32 = (((-((Real.log 2)⁻¹) : ℝ)) : EReal) :=
    IdealRules.named_const.ideal_named_scalar _ _ _ _ rfl
  have hl : (0 : ℝ) < Real.log 2 := Real.log_pos (by norm_num)
  have hn : (-((Real.log 2)⁻¹) : ℝ) < 0 := neg_lt_zero.mpr (inv_pos.mpr hl)
  rw [hk]
  show Ideal.exp2 _ = _
  induction x using EReal.rec with
  | bot => rw [EReal.bot_mul_coe_of_neg hn, EReal.neg_bot]; rfl
  | top => rw [EReal.top_mul_coe_of_neg hn, EReal.neg_top]; rfl
  | coe r =>
    rw [← EReal.coe_mul, ← EReal.coe_neg]
    simp only [Ideal.exp2_coe, Ideal.exp_coe]
    refine congrArg _ ?_
    show (2 : ℝ) ^ (r * -(Real.log 2)⁻¹) = Real.exp (-r)
    rw [Real.rpow_def_of_pos (by norm_num)]
    congr 1
    field_simp

/-- The gate's activation. -/
def silu (g : EReal) : EReal := g * Ideal.div 1 (1 + Ideal.exp (-g))

set_option maxHeartbeats 1600000 in
/-- One point's update of the accumulator, at an index. -/
theorem pay3_at (hn : FVec Ideal S512x2048 .bf16) (wg wu : FVec Ideal S2048x512 .bf16) (acc : FVec Ideal S512x2048 .f32)
    (wd : FVec Ideal S512x2048 .bf16) (i : Fin 512) (j : Fin 2048) :
    k0_pay3 (F := Ideal) hn wg wu acc wd (ix2 i j) = acc (ix2 i j)
      + ∑ q : Fin 512, silu (∑ k : Fin 2048, hn (ix2 i k) * wg (ix2 k q)) * (∑ k : Fin 2048, hn (ix2 i k) * wu (ix2 k q))
          * wd (ix2 q j) := by
  pointwise [k0_pay3]
  refine congrArg _ (Finset.sum_congr rfl fun q _ => ?_)
  rw [exp2_neg]
  rfl

section Reference

variable (a0 : FVec Ideal Cert.Reference2Ideal.S2x16384x2048 .f32) (a1 : FVec Ideal Cert.Reference2Ideal.S2048 .f32)
  (a2 a3 : FVec Ideal Cert.Reference2Ideal.S2048x5632 .f32) (a4 : FVec Ideal Cert.Reference2Ideal.S5632x2048 .f32)
  (a5 : FVec Ideal Cert.Reference2Ideal.S2048 .f32)

/-- The normalised rows. -/
def hn (b : Fin 2) (s : Fin 16384) (k : Fin 2048) : EReal :=
  a0 (ix3 b s k) * Ideal.rsqrt (Ideal.div (∑ y : Fin 2048, a0 (ix3 b s y) * a0 (ix3 b s y)) (Ideal.ofBits FTy.f32 1157627904#32)
    + Ideal.ofBits FTy.f32 897988541#32) * a1 (ix1 k)

/-- The hidden activation. -/
def act (b : Fin 2) (s : Fin 16384) (f : Fin 5632) : EReal :=
  silu (∑ k : Fin 2048, hn a0 a1 b s k * a2 (ix2 k f)) * ∑ k : Fin 2048, hn a0 a1 b s k * a3 (ix2 k f)

/-- The addend of one tile of the hidden features. -/
def tile (b : Fin 2) (s : Fin 16384) (j : Fin 2048) (q : ℕ) : EReal :=
  if h : q < 11 then ∑ x : Fin 512, act a0 a1 a2 a3 b s ⟨q * 512 + x.val, by omega⟩ * a4 (ix2 ⟨q * 512 + x.val, by omega⟩ j) else 0

/-- The feed-forward rows, tile by tile. -/
def ff (b : Fin 2) (s : Fin 16384) (j : Fin 2048) : EReal := ∑ q ∈ Finset.range 11, tile a0 a1 a2 a3 a4 b s j q

theorem hn_at (b : Fin 2) (s : Fin 16384) (k : Fin 2048) : Cert.Reference2Ideal.Value.r_v12 a0 a1 (ix3 b s k) = hn a0 a1 b s k := by
  pointwise [Cert.Reference2Ideal.Value.r_v12]
  rfl

theorem gate_at (b : Fin 2) (s : Fin 16384) (f : Fin 5632) : Cert.Reference2Ideal.Value.r_v13 a0 a1 a2 (ix3 b s f)
    = ∑ k : Fin 2048, hn a0 a1 b s k * a2 (ix2 k f) := by
  pointwise [Cert.Reference2Ideal.Value.r_v13]
  simp only [hn_at]

theorem ff_at (b : Fin 2) (s : Fin 16384) (j : Fin 2048) : Cert.Reference2Ideal.Value.r_v17 a0 a1 a2 a3 a4 (ix3 b s j)
    = ff a0 a1 a2 a3 a4 b s j := by
  pointwise [Cert.Reference2Ideal.Value.r_v17]
  simp only [hn_at, gate_at]
  refine (Fin.sum_univ_tiles 11 512 rfl _).trans ?_
  unfold ff
  rw [Finset.sum_range]
  refine Finset.sum_congr rfl fun q _ => ?_
  unfold tile
  rw [dif_pos q.isLt]
  rfl

theorem ref_at (i : Fin 32768) (j : Fin 2048) : Cert.Reference2Ideal.Value.REF a0 a1 a2 a3 a4 a5 (ix2 i j)
    = a0 (ix3 ⟨i.val / 16384, by omega⟩ ⟨i.val % 16384, by omega⟩ j)
      + ff a0 a1 a2 a3 a4 ⟨i.val / 16384, by omega⟩ ⟨i.val % 16384, by omega⟩ j
        * Ideal.rsqrt (Ideal.div (∑ y : Fin 2048, ff a0 a1 a2 a3 a4 ⟨i.val / 16384, by omega⟩ ⟨i.val % 16384, by omega⟩ y
            * ff a0 a1 a2 a3 a4 ⟨i.val / 16384, by omega⟩ ⟨i.val % 16384, by omega⟩ y) (Ideal.ofBits FTy.f32 1157627904#32)
          + Ideal.ofBits FTy.f32 897988541#32) * a5 (ix1 j) := by
  pointwise [Cert.Reference2Ideal.Value.REF]
  simp only [ff_at]

end Reference

/-- The batch and the position of a row of a row tile. -/
def bOf (t : Fin cfg0.N) (i : Fin 512) : Fin 2 := ⟨(t.val / 11 * 512 + i.val) / 16384, by have := (idx t).2.2.2.2.2.2.2; omega⟩
def sOf (t : Fin cfg0.N) (i : Fin 512) : Fin 16384 := ⟨(t.val / 11 * 512 + i.val) % 16384, by omega⟩

set_option maxHeartbeats 1600000 in
/-- A point's normalised rows. -/
theorem pay1_at (c : Dev nD) (t : Fin cfg0.N) (i : Fin 512) (k : Fin 2048) :
    k0_pay1 (F := Ideal) (iblk m c 0 t) (iblk m c 1 t) (ix2 i k)
      = hn (m ((c : Thread nD τ).loc main_arg0)) (m ((c : Thread nD τ).loc main_arg1)) (bOf t i) (sOf t i) k := by
  unfold hn bOf sOf
  pointwise [k0_pay1]
  blk_point [iblk, V, idx t]

set_option maxHeartbeats 1600000 in
theorem wg_at (c : Dev nD) (t : Fin cfg0.N) (k : Fin 2048) (q : Fin 512) :
    (show FVec Ideal S2048x512 .bf16 from iblk m c 2 t) (ix2 k q)
      = m ((c : Thread nD τ).loc main_arg2) (ix2 k ⟨t.val % 11 * 512 + q.val, by omega⟩) := by
  blk_point [iblk, V, idx t]

set_option maxHeartbeats 1600000 in
theorem wu_at (c : Dev nD) (t : Fin cfg0.N) (k : Fin 2048) (q : Fin 512) :
    (show FVec Ideal S2048x512 .bf16 from iblk m c 3 t) (ix2 k q)
      = m ((c : Thread nD τ).loc main_arg3) (ix2 k ⟨t.val % 11 * 512 + q.val, by omega⟩) := by
  blk_point [iblk, V, idx t]

set_option maxHeartbeats 1600000 in
theorem wd_at (c : Dev nD) (t : Fin cfg0.N) (q : Fin 512) (j : Fin 2048) :
    (show FVec Ideal S512x2048 .bf16 from iblk m c 4 t) (ix2 q j)
      = m ((c : Thread nD τ).loc main_arg4) (ix2 ⟨t.val % 11 * 512 + q.val, by omega⟩ j) := by
  blk_point [iblk, V, idx t]

/-- The tile a point adds, over the kernel's arguments. -/
abbrev T (c : Dev nD) (t : Fin cfg0.N) (i : Fin 512) (j : Fin 2048) (q : ℕ) : EReal :=
  tile (m ((c : Thread nD τ).loc main_arg0)) (m ((c : Thread nD τ).loc main_arg1)) (m ((c : Thread nD τ).loc main_arg2))
    (m ((c : Thread nD τ).loc main_arg3)) (m ((c : Thread nD τ).loc main_arg4)) (bOf t i) (sOf t i) j q

set_option maxHeartbeats 1600000 in
/-- One point's update, over the kernel's arguments. -/
theorem step_at (c : Dev nD) (t : Fin cfg0.N) (acc : FVec Ideal S512x2048 .f32) (i : Fin 512) (j : Fin 2048) :
    k0_pay3 (F := Ideal) (k0_pay1 (iblk m c 0 t) (iblk m c 1 t)) (iblk m c 2 t) (iblk m c 3 t) acc (iblk m c 4 t) (ix2 i j)
      = acc (ix2 i j) + T m c t i j (t.val % 11) := by
  refine (pay3_at _ _ _ _ _ i j).trans (congrArg _ ?_)
  unfold T tile
  rw [dif_pos (Nat.mod_lt _ (by norm_num))]
  refine Finset.sum_congr rfl fun q _ => ?_
  unfold act
  refine congrArg₂ (· * ·) (congrArg₂ (· * ·) (congrArg silu (Finset.sum_congr rfl fun k _ => ?_)) (Finset.sum_congr rfl fun k _ => ?_)) ?_
  · exact congrArg₂ (· * ·) (pay1_at m c t i k) (wg_at m c t k q)
  · exact congrArg₂ (· * ·) (pay1_at m c t i k) (wu_at m c t k q)
  · exact wd_at m c t q j

set_option maxHeartbeats 1600000 in
theorem out_A (c : Dev nD) (t : Fin cfg0.N) (h0 : t.val % 11 = 0) (h1 : ¬t.val % 11 = 10) :
    (outsAt0 m c t.val t.isLt).2.1 = k0_pay1 (iblk m c 0 t) (iblk m c 1 t)
    ∧ (outsAt0 m c t.val t.isLt).2.2 = k0_pay3 (k0_pay1 (iblk m c 0 t) (iblk m c 1 t)) (iblk m c 2 t) (iblk m c 3 t) (k0_pay2 (F := Ideal)) (iblk m c 4 t) := by
  rw [outsAt0_A m c t h0 h1]
  constructor
  · frame_out
  · frame_out

set_option maxHeartbeats 1600000 in
theorem out_S (c : Dev nD) (t : Fin cfg0.N) (h0 : ¬ t.val % 11 = 0) :
    (outsAt0 m c t.val t.isLt).2.1 = (outsAt0 m c (t.val - 1) (Nat.lt_of_le_of_lt (Nat.sub_le _ _) t.isLt)).2.1
    ∧ (outsAt0 m c t.val t.isLt).2.2 = k0_pay3 (outsAt0 m c (t.val - 1) (Nat.lt_of_le_of_lt (Nat.sub_le _ _) t.isLt)).2.1 (iblk m c 2 t) (iblk m c 3 t)
        (outsAt0 m c (t.val - 1) (Nat.lt_of_le_of_lt (Nat.sub_le _ _) t.isLt)).2.2 (iblk m c 4 t) := by
  by_cases h1 : t.val % 11 = 10
  · rw [outsAt0_C m c t h0 h1]
    constructor
    · dsimp only; unfold sout0_C_0; exact rfl
    · frame_out
      exact congrArg₂ (fun X Y => k0_pay3 X (iblk m c 2 t) (iblk m c 3 t) Y (iblk m c 4 t)) (Memref.IsWhole.read_unread _ _) (Memref.IsWhole.read_unread _ _)
  · rw [outsAt0_B m c t h0 h1]
    constructor
    · dsimp only; unfold sout0_B_0; exact rfl
    · frame_out
      exact congrArg₂ (fun X Y => k0_pay3 X (iblk m c 2 t) (iblk m c 3 t) Y (iblk m c 4 t)) (Memref.IsWhole.read_unread _ _) (Memref.IsWhole.read_unread _ _)

set_option maxHeartbeats 1600000 in
/-- The last point of a row tile stores the normalised accumulator over the residual. -/
theorem out_C (c : Dev nD) (t : Fin cfg0.N) (h1 : t.val % 11 = 10) :
    (outsAt0 m c t.val t.isLt).1 = k0_pay4 (iblk m c 0 t) (outsAt0 m c t.val t.isLt).2.2 (iblk m c 5 t) := by
  have h0 : ¬ t.val % 11 = 0 := by omega
  rw [(out_S m c t h0).2, outsAt0_C m c t h0 h1]
  frame_out
  exact congrArg₂ (fun X Y => k0_pay4 (iblk m c 0 t) (k0_pay3 X (iblk m c 2 t) (iblk m c 3 t) Y (iblk m c 4 t)) (iblk m c 5 t)) (Memref.IsWhole.read_unread _ _) (Memref.IsWhole.read_unread _ _)

set_option maxHeartbeats 1600000 in
/-- After every point: the normalised rows, and the sum of the tiles so far. -/
theorem carry (c : Dev nD) : ∀ (n : ℕ) (h : n < cfg0.N),
    (outsAt0 m c n h).2.1 = k0_pay1 (iblk m c 0 ⟨n, h⟩) (iblk m c 1 ⟨n, h⟩)
    ∧ ∀ (i : Fin 512) (j : Fin 2048), (outsAt0 m c n h).2.2 (ix2 i j) = ∑ q ∈ Finset.range (n % 11 + 1), T m c ⟨n, h⟩ i j q := by
  have zero : ∀ (n : ℕ) (h : n < cfg0.N), n % 11 = 0 → (outsAt0 m c n h).2.1 = k0_pay1 (iblk m c 0 ⟨n, h⟩) (iblk m c 1 ⟨n, h⟩)
      ∧ ∀ (i : Fin 512) (j : Fin 2048), (outsAt0 m c n h).2.2 (ix2 i j) = ∑ q ∈ Finset.range (n % 11 + 1), T m c ⟨n, h⟩ i j q := by
    intro n h h0
    have e := out_A m c ⟨n, h⟩ h0 (by simp only; omega)
    refine ⟨e.1, fun i j => ?_⟩
    refine (congrFun e.2 (ix2 i j)).trans ((step_at m c ⟨n, h⟩ _ i j).trans ?_)
    rw [h0, Finset.sum_range_one]
    refine (congrArg (· + _) (show (k0_pay2 (F := Ideal)) (ix2 i j) = 0 by pointwise [k0_pay2])).trans (zero_add _)
  intro n
  induction n with
  | zero => exact fun h => zero 0 h (Nat.zero_mod _)
  | succ n ih =>
    intro h
    by_cases h0 : (n + 1) % 11 = 0
    · exact zero (n + 1) h h0
    · obtain ⟨e1, e2⟩ := out_S m c ⟨n + 1, h⟩ h0
      obtain ⟨i1, i2⟩ := ih (Nat.lt_of_succ_lt h)
      have r1 : k0_pay1 (F := Ideal) (iblk m c 0 ⟨n, Nat.lt_of_succ_lt h⟩) (iblk m c 1 ⟨n, Nat.lt_of_succ_lt h⟩)
          = k0_pay1 (iblk m c 0 ⟨n + 1, h⟩) (iblk m c 1 ⟨n + 1, h⟩) := by
        rw [rows_eq m c n h (Nat.lt_of_succ_lt h) h0, gain_eq m c ⟨n + 1, h⟩ ⟨n, Nat.lt_of_succ_lt h⟩]
      have q1 : (outsAt0 m c n (Nat.lt_of_succ_lt h)).2.1 = k0_pay1 (iblk m c 0 ⟨n + 1, h⟩) (iblk m c 1 ⟨n + 1, h⟩) := i1.trans r1
      refine ⟨e1.trans q1, fun i j => ?_⟩
      refine (congrFun e2 (ix2 i j)).trans ?_
      refine (congrArg (fun X => k0_pay3 (F := Ideal) X (iblk m c 2 ⟨n + 1, h⟩) (iblk m c 3 ⟨n + 1, h⟩)
        (outsAt0 m c n (Nat.lt_of_succ_lt h)).2.2 (iblk m c 4 ⟨n + 1, h⟩) (ix2 i j)) q1).trans ?_
      refine (step_at m c ⟨n + 1, h⟩ _ i j).trans ?_
      have em : (n + 1) % 11 = n % 11 + 1 := by omega
      have ed : (n + 1) / 11 = n / 11 := by omega
      have et : ∀ q, T m c ⟨n, Nat.lt_of_succ_lt h⟩ i j q = T m c ⟨n + 1, h⟩ i j q := by
        intro q
        have eb : bOf ⟨n, Nat.lt_of_succ_lt h⟩ i = bOf ⟨n + 1, h⟩ i := Fin.ext (by simp only [bOf, ed])
        have es : sOf ⟨n, Nat.lt_of_succ_lt h⟩ i = sOf ⟨n + 1, h⟩ i := Fin.ext (by simp only [sOf, ed])
        unfold T; rw [eb, es]
      rw [i2 i j, Finset.sum_congr rfl fun q _ => et q]
      simp only [em]
      rw [Finset.sum_range_succ _ (n % 11 + 1)]

set_option maxHeartbeats 1600000 in
/-- The kernel's result array is the reference's term over the kernel's arguments. -/
theorem final (c : Dev nD) : (dats m 0 c).arrAt 6 (cfgs 0).N
    = Cert.Reference2Ideal.Value.REF (m ((c : Thread nD τ).loc main_arg0))
        (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_covers 6 _ (by decide +kernel) fun t hf y => ?_
  have h1 : t.val % 11 = 10 := (flush0_6 t).mp hf
  blk_simp; rw [after0_6, out_C m c t h1]
  idx_vars y
  refine Eq.trans ?_ ((ref_at _ _ _ _ _ _ ⟨t.val / 11 * 512 + y0.val, by have := (idx t).2.2.2.2.2.2.2; omega⟩ y1).symm.trans
    (congrArg (Cert.Reference2Ideal.Value.REF _ _ _ _ _ _) ?_))
  · have acc : ∀ j : Fin 2048, (outsAt0 m c t.val t.isLt).2.2 (ix2 y0 j)
        = ff (m ((c : Thread nD τ).loc main_arg0)) (m ((c : Thread nD τ).loc main_arg1)) (m ((c : Thread nD τ).loc main_arg2))
            (m ((c : Thread nD τ).loc main_arg3)) (m ((c : Thread nD τ).loc main_arg4)) (bOf t y0) (sOf t y0) j := by
      intro j
      refine ((carry m c t.val t.isLt).2 y0 j).trans ?_
      rw [h1]; rfl
    pointwise [k0_pay4]
    refine congrArg₂ (· + ·) ?_ (congrArg₂ (· * ·) (congrArg₂ (· * ·) (acc y1) (congrArg Ideal.rsqrt (congrArg (· + _)
      (congrArg (fun X => Ideal.div X _) (Finset.sum_congr rfl fun x _ => congrArg₂ (· * ·) (acc x) (acc x)))))) ?_)
    · blk_point [iblk, V, idx t]
    · blk_point [iblk, V, idx t]
  · blk_ext [idx t]

end Cert.Kernel2Ideal.Value

end
-- ==== Proof.Ref3.lean ====
module

public import proofs.«01_k».proof.Proof.Gen.Reference3Ideal
public import Idealize.ShloMosaic.Lib.StableHlo.Run
public import Idealize.ShloMosaic.PureOps.Ideal

/-! The result of Reference3Ideal, stage by stage, over variables. -/

@[expose] public section

set_option maxRecDepth 16384

noncomputable section

open Idealize.ShloMosaic Idealize.ShloMosaic.TcCoe

namespace Cert.Reference3Ideal.Value

open Cert.Reference3Ideal Cert.Reference3Ideal.Gen

/-- The value v14 of the reference. -/
def r_v14 (a0 : FVec Ideal S2x16384x2048 .f32) (a1 : FVec Ideal S2048 .f32) (a2 : FVec Ideal S2048x6160 .f32) : FVec Ideal S32768x6160 .f32 :=
  shapeCast S32768x6160 (Host.dotGeneral dot_S2x16384x2048_S2048x6160_S2x16384x6160_2_0_01_1_n_n none (mulf (mulf a0
    (broadcastInDim S2x16384x2048 ![0, 1, 2] bcast_S2x16384x1_S2x16384x2048_0_1_2 (Host.rsqrt (addf (Host.divf
    (broadcastInDim S2x16384x1 ![0, 1] bcast_S2x16384_S2x16384x1_0_1 (Host.reduceAdd (mulf a0 a0) (constant S_ .f32
    0x00000000#32) reducesTo_S2x16384x2048_S2x16384_d2 h_S_)) (broadcastInDim S2x16384x1 ![] bcast_S_S2x16384x1
    (constant S_ .f32 0x45000000#32))) (broadcastInDim S2x16384x1 ![] bcast_S_S2x16384x1 (constant S_ .f32
    0x358637BD#32)))))) (broadcastInDim S2x16384x2048 ![0, 1, 2] bcast_S1x1x2048_S2x16384x2048_0_1_2 (broadcastInDim
    S1x1x2048 ![2] bcast_S2048_S1x1x2048_2 a1))) a2) shapeCasts_S2x16384x6160_S32768x6160

/-- The value v19 of the reference. -/
def REF (a0 : FVec Ideal S2x16384x2048 .f32) (a1 : FVec Ideal S2048 .f32) (a2 : FVec Ideal S2048x6160 .f32) : FVec Ideal S32768x6400 .f32 :=
  concatenate S32768x6400 1 [⟨S32768x4096, (extractStridedSlice S32768x4096 ![0, 0] (r_v14 a0 a1 a2)
    slices_S32768x6160_S32768x4096_0_0)⟩, ⟨S32768x2048, (extractStridedSlice S32768x2048 ![0, 4112] (r_v14 a0 a1 a2)
    slices_S32768x6160_S32768x2048_0_4112)⟩, ⟨S32768x16, (extractStridedSlice S32768x16 ![0, 4096] (r_v14 a0 a1 a2)
    slices_S32768x6160_S32768x16_0_4096)⟩, ⟨S32768x240, (broadcastInDim S32768x240 ![] bcast_S_S32768x240 (constant
    S_ .f32 0x00000000#32))⟩] concatenates_S32768x4096_S32768x2048_S32768x16_S32768x240_S32768x6400_d1

end Cert.Reference3Ideal.Value

end
-- ==== Proof.Value3.lean ====
module

public import proofs.«01_k».proof.Proof.Gen.Kernel3Ideal.Frame
public import proofs.«01_k».proof.Proof.Ref3
public import Idealize.ShloMosaic.Lib.Claim
public import Idealize.ShloMosaic.Lib.Pipeline.ValueKit
public import Idealize.ShloMosaic.Lib.Pointwise

/-! The input projection call. -/

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen

variable (m : (ℓ : Loc nD τ sig) → Buf (Elt Ideal) ℓ)

/-- The windows' block indices. -/
theorem idx : ∀ t : Fin cfg0.N, win0_0.index t = ![t.val / 5, 0] ∧ win0_1.index t = ![0, 0]
    ∧ win0_2.index t = ![0, t.val % 5] ∧ win0_3.index t = ![t.val / 5, t.val % 5] ∧ t.val / 5 < 32 :=
  (by decide +kernel : ∀ t : Fin grid0.N, _)

/-- Two successive points of one row tile see the same rows. -/
theorem rows_eq (c : Dev nD) (n : ℕ) (h : n + 1 < cfg0.N) (h' : n < cfg0.N) (h0 : ¬ (n + 1) % 5 = 0) :
    iblk m c 0 ⟨n + 1, h⟩ = iblk m c 0 ⟨n, h'⟩ := by
  funext y
  have e : (n + 1) / 5 = n / 5 := by omega
  have i1 := (idx ⟨n + 1, h⟩).1
  have i2 := (idx ⟨n, h'⟩).1
  dsimp only at i1 i2
  rw [e] at i1
  blk_ext [iblk, i1, i2]

/-- ... and the same gains. -/
theorem gain_eq (c : Dev nD) (t t' : Fin cfg0.N) : iblk m c 1 t = iblk m c 1 t' := by
  funext y
  blk_ext [iblk, (idx t).2.1, (idx t').2.1]

set_option maxHeartbeats 1600000 in
/-- After every point the scratch holds the normalised rows of the point's row tile. -/
theorem carry (c : Dev nD) : ∀ (n : ℕ) (h : n < cfg0.N),
    (outsAt0 m c n h).2 = k0_pay1 (iblk m c 0 ⟨n, h⟩) (iblk m c 1 ⟨n, h⟩) := by
  intro n
  induction n with
  | zero => intro h; rw [outsAt0_A m c ⟨0, h⟩ (Nat.zero_mod _)]; frame_out
  | succ n ih =>
    intro h
    by_cases h0 : (n + 1) % 5 = 0
    · rw [outsAt0_A m c ⟨n + 1, h⟩ h0]; frame_out
    · rw [outsAt0_B m c ⟨n + 1, h⟩ h0]; frame_out
      rw [rows_eq m c n h (Nat.lt_of_succ_lt h) h0, gain_eq m c ⟨n + 1, h⟩ ⟨n, Nat.lt_of_succ_lt h⟩]
      exact ih _

set_option maxHeartbeats 1600000 in
/-- What every point stores. -/
theorem stored (c : Dev nD) (t : Fin cfg0.N) : (outsAt0 m c t.val t.isLt).1
    = k0_pay2 (k0_pay1 (iblk m c 0 t) (iblk m c 1 t)) (iblk m c 2 t) := by
  by_cases h0 : t.val % 5 = 0
  · rw [outsAt0_A m c t h0]; frame_out
  · rw [outsAt0_B m c t h0]; frame_out
    obtain ⟨n, h⟩ := t
    cases n with
    | zero => exact absurd rfl h0
    | succ n =>
      rw [rows_eq m c n h (Nat.lt_of_succ_lt h) h0, gain_eq m c ⟨n + 1, h⟩ ⟨n, Nat.lt_of_succ_lt h⟩,
        ← carry m c n (Nat.lt_of_succ_lt h)]
      exact congrArg (fun X => k0_pay2 X (iblk m c 2 ⟨n + 1, h⟩)) (Memref.IsWhole.read_unread _ _)

/-- The packed weight at a row and a column: the columns of the recurrence's decay and step words come last, zeros after. -/
def packed (a2 : FVec Ideal S2048x6160 .f32) (k : Fin 2048) (j : ℕ) : EReal :=
  if h : j < 4096 then a2 (ix2 k ⟨j, by omega⟩)
  else if h : j < 6144 then a2 (ix2 k ⟨16 + j, by omega⟩)
  else if h : j < 6160 then a2 (ix2 k ⟨j - 2048, by omega⟩)
  else 0

set_option maxHeartbeats 1600000 in
/-- The reference's packed row is one product with the packed weight. -/
theorem ref_at (a0 : FVec Ideal Cert.Reference3Ideal.S2x16384x2048 .f32) (a1 : FVec Ideal Cert.Reference3Ideal.S2048 .f32)
    (a2 : FVec Ideal Cert.Reference3Ideal.S2048x6160 .f32) (i : Fin 32768) (j : Fin 6400) :
    Cert.Reference3Ideal.Value.REF a0 a1 a2 (ix2 i j)
      = ∑ x : Fin 2048, a0 (ix3 ⟨i.val / 16384, by omega⟩ ⟨i.val % 16384, by omega⟩ x)
          * Ideal.rsqrt (Ideal.div (∑ y : Fin 2048, a0 (ix3 ⟨i.val / 16384, by omega⟩ ⟨i.val % 16384, by omega⟩ y)
              * a0 (ix3 ⟨i.val / 16384, by omega⟩ ⟨i.val % 16384, by omega⟩ y)) (Ideal.ofBits FTy.f32 1157627904#32)
            + Ideal.ofBits FTy.f32 897988541#32) * a1 (ix1 x) * packed a2 x j.val := by
  pointwise [Cert.Reference3Ideal.Value.REF, Cert.Reference3Ideal.Value.r_v14]
  by_cases h1 : j.val < 4096
  · rw [dif_pos h1]
    refine Finset.sum_congr rfl fun x _ => congrArg _ ?_
    unfold packed; rw [dif_pos h1]
  rw [dif_neg h1]
  by_cases h2 : j.val - 4096 < 2048
  · rw [dif_pos h2]
    refine Finset.sum_congr rfl fun x _ => congrArg _ ?_
    unfold packed; rw [dif_neg h1, dif_pos (by omega)]
    exact congrArg a2 (congrArg (ix2 x) (Fin.ext (by simp only; omega)))
  rw [dif_neg h2]
  by_cases h3 : j.val - 4096 - 2048 < 16
  · rw [dif_pos h3]
    refine Finset.sum_congr rfl fun x _ => congrArg _ ?_
    unfold packed; rw [dif_neg h1, dif_neg (by omega), dif_pos (by omega)]
    exact congrArg a2 (congrArg (ix2 x) (Fin.ext (by simp only; omega)))
  rw [dif_neg h3]
  refine (Finset.sum_eq_zero fun x _ => ?_).symm
  unfold packed; rw [dif_neg h1, dif_neg (by omega), dif_neg (by omega), mul_zero]

/-- The packed weight the host hands to the kernel. -/
theorem V_w (c : Dev nD) : V m c main_v6 = truncf .bf16 (concatenate S2048x6400 1
    [⟨S2048x4096, (extractStridedSlice S2048x4096 ![0, 0] (m ((c : Thread nD τ).loc main_arg2)) slices_S2048x6160_S2048x4096_0_0)⟩,
     ⟨S2048x2048, (extractStridedSlice S2048x2048 ![0, 4112] (m ((c : Thread nD τ).loc main_arg2)) slices_S2048x6160_S2048x2048_0_4112)⟩,
     ⟨S2048x16, (extractStridedSlice S2048x16 ![0, 4096] (m ((c : Thread nD τ).loc main_arg2)) slices_S2048x6160_S2048x16_0_4096)⟩,
     ⟨S2048x240, (broadcastInDim S2048x240 ![] bcast_S_S2048x240 (constant (F := Ideal) S_ .f32 0x00000000#32))⟩]
     concatenates_S2048x4096_S2048x2048_S2048x16_S2048x240_S2048x6400_d1) bitsLt_bf16_f32 := by
  rfl

set_option maxHeartbeats 1600000 in
/-- The weight block of a point, read. -/
theorem w_at (c : Dev nD) (t : Fin cfg0.N) (k : Fin 2048) (j : Fin 1280) :
    (show FVec Ideal S2048x1280 .bf16 from iblk m c 2 t) (ix2 k j)
      = packed (m ((c : Thread nD τ).loc main_arg2)) k (t.val % 5 * 1280 + j.val) := by
  have e : ((cfg0.win 2).blk t).view.emb (ix2 k j) = ix2 k ⟨t.val % 5 * 1280 + j.val, by omega⟩ := by
    blk_ext [idx t]
  show (V m c main_v6 : FVec Ideal S2048x6400 .bf16) (((cfg0.win 2).blk t).view.emb (ix2 k j)) = _
  rw [e, V_w]
  pointwise
  unfold packed
  by_cases h1 : t.val % 5 * 1280 + j.val < 4096
  · rw [dif_pos h1, dif_pos h1]
  rw [dif_neg h1, dif_neg h1]
  by_cases h2 : t.val % 5 * 1280 + j.val - 4096 < 2048
  · rw [dif_pos h2, dif_pos (by omega : t.val % 5 * 1280 + j.val < 6144)]
    exact congrArg (m ((c : Thread nD τ).loc main_arg2)) (congrArg (ix2 k) (Fin.ext (by simp only; omega)))
  rw [dif_neg h2, dif_neg (by omega : ¬ t.val % 5 * 1280 + j.val < 6144)]
  by_cases h3 : t.val % 5 * 1280 + j.val - 4096 - 2048 < 16
  · rw [dif_pos h3, dif_pos (by omega : t.val % 5 * 1280 + j.val < 6160)]
    exact congrArg (m ((c : Thread nD τ).loc main_arg2)) (congrArg (ix2 k) (Fin.ext (by simp only; omega)))
  rw [dif_neg h3, dif_neg (by omega : ¬ t.val % 5 * 1280 + j.val < 6160)]

set_option maxHeartbeats 1600000 in
/-- The kernel's result array is the reference's term over the kernel's arguments. -/
theorem final (c : Dev nD) : (dats m 0 c).arrAt 3 (cfgs 0).N
    = Cert.Reference3Ideal.Value.REF (m ((c : Thread nD τ).loc main_arg0))
        (m ((c : Thread nD τ).loc main_arg1)) (m ((c : Thread nD τ).loc main_arg2)) := by
  refine (dats m 0 c).arrAt_eq_of_covers 3 _ (by decide +kernel) fun t hf y => ?_
  blk_simp; rw [after0_3, stored]
  idx_vars y
  refine Eq.trans ?_ ((ref_at _ _ _ ⟨t.val / 5 * 1024 + y0.val, by have := (idx t).2.2.2.2; omega⟩
    ⟨t.val % 5 * 1280 + y1.val, by omega⟩).symm.trans (congrArg (Cert.Reference3Ideal.Value.REF _ _ _) ?_))
  · pointwise [k0_pay1, k0_pay2]
    show @Eq EReal _ _
    refine Finset.sum_congr rfl fun x _ => congrArg₂ (· * ·) ?_ ?_
    · blk_point [iblk, V, idx t]
    · exact w_at m c t x y1
  · blk_ext [idx t]

end Cert.Kernel3Ideal.Value

end
-- ==== Proof.Ref4.lean ====
module

public import proofs.«01_k».proof.Proof.Gen.Reference4Ideal
public import Idealize.ShloMosaic.Lib.StableHlo.Run
public import Idealize.ShloMosaic.PureOps.Ideal

/-! The result of Reference4Ideal, over variables. -/

@[expose] public section

set_option maxRecDepth 16384

noncomputable section

open Idealize.ShloMosaic Idealize.ShloMosaic.TcCoe

namespace Cert.Reference4Ideal.Value

open Cert.Reference4Ideal Cert.Reference4Ideal.Gen

/-- The reference's result main_v14, as one term over its arguments. -/
abbrev REF (a0 : FVec Ideal S2x256x2048 .f32) (a1 : FVec Ideal S2048 .f32) (a2 : FVec Ideal S2048x512 .f32) :
    FVec Ideal S512x512 .f32 :=
  shapeCast _ (Host.dotGeneral dot_S2x256x2048_S2048x512_S2x256x512_2_0_01_1_n_n none (mulf (mulf a0 (broadcastInDim
    S2x256x2048 ![0, 1, 2] bcast_S2x256x1_S2x256x2048_0_1_2 (Host.rsqrt (addf (Host.divf (broadcastInDim S2x256x1
    ![0, 1] bcast_S2x256_S2x256x1_0_1 (Host.reduceAdd (mulf a0 a0) (constant S_ .f32 0x00000000#32)
    reducesTo_S2x256x2048_S2x256_d2 h_S_)) (broadcastInDim S2x256x1 ![] bcast_S_S2x256x1 (constant S_ .f32
    0x45000000#32))) (broadcastInDim S2x256x1 ![] bcast_S_S2x256x1 (constant S_ .f32 0x358637BD#32))))))
    (broadcastInDim S2x256x2048 ![0, 1, 2] bcast_S1x1x2048_S2x256x2048_0_1_2 (broadcastInDim S1x1x2048 ![2]
    bcast_S2048_S1x1x2048_2 a1))) a2) shapeCasts_S2x256x512_S512x512

end Cert.Reference4Ideal.Value

end
-- ==== Proof.Value4.lean ====
module

public import proofs.«01_k».proof.Proof.Gen.Kernel4Ideal.Frame
public import proofs.«01_k».proof.Proof.Ref4
public import Idealize.ShloMosaic.Lib.Claim
public import Idealize.ShloMosaic.Lib.Pipeline.ValueKit
public import Idealize.ShloMosaic.Lib.Pointwise

/-! The memory projection call: one block, one product of the normalised rows with the weights. -/

@[expose] public section

set_option maxRecDepth 16384

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen

variable (m : (ℓ : Loc nD τ sig) → Buf (Elt Ideal) ℓ)

/-- The block index of every window is zero. -/
theorem idx : ∀ t : Fin cfg0.N, win0_0.index t = ![0, 0] ∧ win0_1.index t = ![0, 0]
    ∧ win0_2.index t = ![0, 0] ∧ win0_3.index t = ![0, 0] :=
  (by decide +kernel : ∀ t : Fin grid0.N, _)

set_option maxHeartbeats 1600000 in
/-- The kernel's result array is the reference's term over the kernel's arguments. -/
theorem final (c : Dev nD) : (dats m 0 c).arrAt 3 (cfgs 0).N
    = Cert.Reference4Ideal.Value.REF (m ((c : Thread nD τ).loc main_arg0))
        (m ((c : Thread nD τ).loc main_arg1)) (m ((c : Thread nD τ).loc main_arg2)) := by
  refine (dats m 0 c).arrAt_eq_of_covers 3 _ (by decide +kernel) fun t hf y => ?_
  blk_simp; rw [after0_3, outsAt0]; frame_out
  pointwise [k0_pay1, k0_pay2, Cert.Reference4Ideal.Value.REF]
  blk_point [iblk, V, idx t]

end Cert.Kernel4Ideal.Value

end
-- ==== Proof.Ref6.lean ====
module

public import proofs.«01_k».proof.Proof.Gen.Reference6Ideal
public import Idealize.ShloMosaic.Lib.StableHlo.Run
public import Idealize.ShloMosaic.PureOps.Ideal

/-! The result of Reference6Ideal, stage by stage, over variables. -/

@[expose] public section

set_option maxRecDepth 16384

noncomputable section

open Idealize.ShloMosaic Idealize.ShloMosaic.TcCoe

namespace Cert.Reference6Ideal.Value

open Cert.Reference6Ideal Cert.Reference6Ideal.Gen

/-- The value v1 of the reference. -/
def r_v1 (a0 : FVec Ideal S2x16384x1024 .f32) (a1 : FVec Ideal S2x16384x1024 .f32) (a2 : FVec Ideal S2048x2048 .f32) : FVec Ideal S2x16384x2048 .f32 :=
  Host.dotGeneral dot_S2x16384x2048_S2048x2048_S2x16384x2048_2_0_01_1_n_n none (concatenate S2x16384x2048 2
    [⟨S2x16384x1024, a0⟩, ⟨S2x16384x1024, a1⟩] concatenates_S2x16384x1024_S2x16384x1024_S2x16384x2048_d2) a2

/-- The value v16 of the reference. -/
def REF (a0 : FVec Ideal S2x16384x1024 .f32) (a1 : FVec Ideal S2x16384x1024 .f32) (a2 : FVec Ideal S2048x2048 .f32) (a3 : FVec Ideal S2x16384x2048 .f32) (a4 : FVec Ideal S2048 .f32) : FVec Ideal S32768x2048 .f32 :=
  shapeCast S32768x2048 (addf a3 (mulf (mulf (r_v1 a0 a1 a2) (broadcastInDim S2x16384x2048 ![0, 1, 2]
    bcast_S2x16384x1_S2x16384x2048_0_1_2 (Host.rsqrt (addf (Host.divf (broadcastInDim S2x16384x1 ![0, 1]
    bcast_S2x16384_S2x16384x1_0_1 (Host.reduceAdd (mulf (r_v1 a0 a1 a2) (r_v1 a0 a1 a2)) (constant S_ .f32
    0x00000000#32) reducesTo_S2x16384x2048_S2x16384_d2 h_S_)) (broadcastInDim S2x16384x1 ![] bcast_S_S2x16384x1
    (constant S_ .f32 0x45000000#32))) (broadcastInDim S2x16384x1 ![] bcast_S_S2x16384x1 (constant S_ .f32
    0x358637BD#32)))))) (broadcastInDim S2x16384x2048 ![0, 1, 2] bcast_S1x1x2048_S2x16384x2048_0_1_2 (broadcastInDim
    S1x1x2048 ![2] bcast_S2048_S1x1x2048_2 a4)))) shapeCasts_S2x16384x2048_S32768x2048

end Cert.Reference6Ideal.Value

end
-- ==== Proof.Value6.lean ====
module

public import proofs.«01_k».proof.Proof.Gen.Kernel6Ideal.Frame
public import proofs.«01_k».proof.Proof.Ref6
public import Idealize.ShloMosaic.Lib.Claim
public import Idealize.ShloMosaic.Lib.Pipeline.ValueKit
public import Idealize.ShloMosaic.Lib.Pointwise

/-! The output projection call. -/

@[expose] public section

set_option maxRecDepth 16384

noncomputable section

open Idealize.ShloMosaic Idealize.ShloMosaic.TcCoe Idealize.SL.Sem
open Idealize.ShloMosaic.Pipeline (Dat)

namespace Cert.Kernel6Ideal.Value

open Cert.Kernel6Ideal Cert.Kernel6Ideal.Gen

variable (m : (ℓ : Loc nD τ sig) → Buf (Elt Ideal) ℓ)

/-- The windows' block indices. -/
theorem idx : ∀ t : Fin cfg0.N, win0_0.index t = ![t.val, 0] ∧ win0_1.index t = ![t.val, 0]
    ∧ win0_2.index t = ![0, 0] ∧ win0_3.index t = ![1, 0] ∧ win0_4.index t = ![t.val, 0]
    ∧ win0_5.index t = ![0, 0] ∧ win0_6.index t = ![t.val, 0] ∧ t.val < 64 :=
  (by decide +kernel : ∀ t : Fin grid0.N, _)

/-- A sum over both head groups, whose left factor is chosen by the group, is the two groups' sums. -/
theorem split (A : (x : Fin 2048) → (x : ℕ) < 1024 → EReal) (B : (x : Fin 2048) → ¬ (x : ℕ) < 1024 → EReal)
    (C : Fin 2048 → EReal) :
    ∑ x : Fin 2048, (if h : (x : ℕ) < 1024 then A x h else B x h) * C x
      = ∑ x : Fin 1024, A ⟨x.val, by omega⟩ x.isLt * C ⟨x.val, by omega⟩
        + ∑ x : Fin 1024, B ⟨1024 + x.val, by omega⟩ (by simp) * C ⟨1024 + x.val, by omega⟩ := by
  rw [show (∑ x : Fin 2048, (if h : (x : ℕ) < 1024 then A x h else B x h) * C x)
    = ∑ x : Fin (1024 + 1024), (if h : (x : ℕ) < 1024 then A x h else B x h) * C x from rfl, Fin.sum_univ_add]
  refine congrArg₂ _ ?_ ?_
  · refine Finset.sum_congr rfl fun x _ => ?_
    rw [dif_pos (by simp)]; rfl
  · refine Finset.sum_congr rfl fun x _ => ?_
    rw [dif_neg (by simp)]; exact rfl

/-- The reference's product of the joined heads, at an index. -/
theorem ref_mix (a0 : FVec Ideal Cert.Reference6Ideal.S2x16384x1024 .f32) (a1 : FVec Ideal Cert.Reference6Ideal.S2x16384x1024 .f32)
    (a2 : FVec Ideal Cert.Reference6Ideal.S2048x2048 .f32) (b : Fin 2) (s : Fin 16384) (j : Fin 2048) :
    Cert.Reference6Ideal.Value.r_v1 a0 a1 a2 (ix3 b s j)
      = ∑ x : Fin 1024, a0 (ix3 b s x) * a2 (ix2 ⟨x.val, by omega⟩ j)
        + ∑ x : Fin 1024, a1 (ix3 b s x) * a2 (ix2 ⟨1024 + x.val, by omega⟩ j) := by
  pointwise [Cert.Reference6Ideal.Value.r_v1]

/-- The reference's result, at an index. -/
theorem ref_at (a0 : FVec Ideal Cert.Reference6Ideal.S2x16384x1024 .f32) (a1 : FVec Ideal Cert.Reference6Ideal.S2x16384x1024 .f32)
    (a2 : FVec Ideal Cert.Reference6Ideal.S2048x2048 .f32) (a3 : FVec Ideal Cert.Reference6Ideal.S2x16384x2048 .f32)
    (a4 : FVec Ideal Cert.Reference6Ideal.S2048 .f32) (i : Fin 32768) (j : Fin 2048) :
    Cert.Reference6Ideal.Value.REF a0 a1 a2 a3 a4 (ix2 i j)
      = a3 (ix3 ⟨i.val / 16384, by omega⟩ ⟨i.val % 16384, by omega⟩ j)
        + (∑ x : Fin 1024, a0 (ix3 ⟨i.val / 16384, by omega⟩ ⟨i.val % 16384, by omega⟩ x) * a2 (ix2 ⟨x.val, by omega⟩ j)
          + ∑ x : Fin 1024, a1 (ix3 ⟨i.val / 16384, by omega⟩ ⟨i.val % 16384, by omega⟩ x)
              * a2 (ix2 ⟨1024 + x.val, by omega⟩ j))
          * Ideal.rsqrt (Ideal.div (∑ k : Fin 2048,
              (∑ x : Fin 1024, a0 (ix3 ⟨i.val / 16384, by omega⟩ ⟨i.val % 16384, by omega⟩ x)
                  * a2 (ix2 ⟨x.val, by omega⟩ k)
                + ∑ x : Fin 1024, a1 (ix3 ⟨i.val / 16384, by omega⟩ ⟨i.val % 16384, by omega⟩ x)
                  * a2 (ix2 ⟨1024 + x.val, by omega⟩ k))
              * (∑ x : Fin 1024, a0 (ix3 ⟨i.val / 16384, by omega⟩ ⟨i.val % 16384, by omega⟩ x)
                  * a2 (ix2 ⟨x.val, by omega⟩ k)
                + ∑ x : Fin 1024, a1 (ix3 ⟨i.val / 16384, by omega⟩ ⟨i.val % 16384, by omega⟩ x)
                  * a2 (ix2 ⟨1024 + x.val, by omega⟩ k))) (Ideal.ofBits FTy.f32 1157627904#32)
            + Ideal.ofBits FTy.f32 897988541#32) * a4 (ix1 j) := by
  pointwise [Cert.Reference6Ideal.Value.REF]
  simp only [ref_mix]

set_option maxHeartbeats 1600000 in
/-- The kernel's result array is the reference's term over the kernel's arguments. -/
theorem final (c : Dev nD) : (dats m 0 c).arrAt 6 (cfgs 0).N
    = Cert.Reference6Ideal.Value.REF (m ((c : Thread nD τ).loc main_arg0))
        (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  blk_simp; rw [after0_6]; frame_out
  idx_vars y
  refine Eq.trans ?_ ((ref_at _ _ _ _ _ ⟨t.val * 512 + y0.val, by have := (idx t).2.2.2.2.2.2.2; omega⟩ y1).symm.trans
    (congrArg (Cert.Reference6Ideal.Value.REF _ _ _ _ _) ?_))
  · pointwise [k0_pay1]
    blk_point [iblk, V, idx t]
  · blk_ext [idx t]

end Cert.Kernel6Ideal.Value

end
-- ==== Proof.Ref7.lean ====
module

public import proofs.«01_k».proof.Proof.Gen.Reference7Ideal
public import Idealize.ShloMosaic.Lib.StableHlo.Run
public import Idealize.ShloMosaic.PureOps.Ideal

/-! The result of Reference7Ideal, stage by stage, over variables. -/

@[expose] public section

set_option maxRecDepth 16384

noncomputable section

open Idealize.ShloMosaic Idealize.ShloMosaic.TcCoe

namespace Cert.Reference7Ideal.Value

open Cert.Reference7Ideal Cert.Reference7Ideal.Gen

/-- The value v14 of the reference. -/
def r_v14 (a0 : FVec Ideal S2x16384x2048 .f32) (a1 : FVec Ideal S2048 .f32) (a2 : FVec Ideal S2048x3584 .f32) : FVec Ideal S32768x3584 .f32 :=
  shapeCast S32768x3584 (Host.dotGeneral dot_S2x16384x2048_S2048x3584_S2x16384x3584_2_0_01_1_n_n none (mulf (mulf a0
    (broadcastInDim S2x16384x2048 ![0, 1, 2] bcast_S2x16384x1_S2x16384x2048_0_1_2 (Host.rsqrt (addf (Host.divf
    (broadcastInDim S2x16384x1 ![0, 1] bcast_S2x16384_S2x16384x1_0_1 (Host.reduceAdd (mulf a0 a0) (constant S_ .f32
    0x00000000#32) reducesTo_S2x16384x2048_S2x16384_d2 h_S_)) (broadcastInDim S2x16384x1 ![] bcast_S_S2x16384x1
    (constant S_ .f32 0x45000000#32))) (broadcastInDim S2x16384x1 ![] bcast_S_S2x16384x1 (constant S_ .f32
    0x358637BD#32)))))) (broadcastInDim S2x16384x2048 ![0, 1, 2] bcast_S1x1x2048_S2x16384x2048_0_1_2 (broadcastInDim
    S1x1x2048 ![2] bcast_S2048_S1x1x2048_2 a1))) a2) shapeCasts_S2x16384x3584_S32768x3584

/-- The value v18 of the reference. -/
def REF (a0 : FVec Ideal S2x16384x2048 .f32) (a1 : FVec Ideal S2048 .f32) (a2 : FVec Ideal S2048x3584 .f32) : FVec Ideal S32768x3584 .f32 :=
  concatenate S32768x3584 1 [⟨S32768x1024, (extractStridedSlice S32768x1024 ![0, 0] (r_v14 a0 a1 a2)
    slices_S32768x3584_S32768x1024_0_0)⟩, ⟨S32768x2048, (extractStridedSlice S32768x2048 ![0, 1536] (r_v14 a0 a1 a2)
    slices_S32768x3584_S32768x2048_0_1536)⟩, ⟨S32768x512, (extractStridedSlice S32768x512 ![0, 1024] (r_v14 a0 a1
    a2) slices_S32768x3584_S32768x512_0_1024)⟩] concatenates_S32768x1024_S32768x2048_S32768x512_S32768x3584_d1

end Cert.Reference7Ideal.Value

end
-- ==== Proof.Value7.lean ====
module

public import proofs.«01_k».proof.Proof.Gen.Kernel7Ideal.Frame
public import proofs.«01_k».proof.Proof.Ref7
public import Idealize.ShloMosaic.Lib.Claim
public import Idealize.ShloMosaic.Lib.Pipeline.ValueKit
public import Idealize.ShloMosaic.Lib.Pointwise

/-! The input projection call of the second layer. -/

@[expose] public section

set_option maxRecDepth 16384

noncomputable section

open Idealize.ShloMosaic Idealize.ShloMosaic.TcCoe Idealize.SL.Sem
open Idealize.ShloMosaic.Pipeline (Dat)

namespace Cert.Kernel7Ideal.Value

open Cert.Kernel7Ideal Cert.Kernel7Ideal.Gen

variable (m : (ℓ : Loc nD τ sig) → Buf (Elt Ideal) ℓ)

/-- The windows' block indices. -/
theorem idx : ∀ t : Fin cfg0.N, win0_0.index t = ![t.val / 2, 0] ∧ win0_1.index t = ![0, 0]
    ∧ win0_2.index t = ![0, t.val % 2] ∧ win0_3.index t = ![t.val / 2, t.val % 2] ∧ t.val / 2 < 32 :=
  (by decide +kernel : ∀ t : Fin grid0.N, _)

/-- Two successive points of one row tile see the same rows. -/
theorem rows_eq (c : Dev nD) (n : ℕ) (h : n + 1 < cfg0.N) (h' : n < cfg0.N) (h0 : ¬ (n + 1) % 2 = 0) :
    iblk m c 0 ⟨n + 1, h⟩ = iblk m c 0 ⟨n, h'⟩ := by
  funext y
  have e : (n + 1) / 2 = n / 2 := by omega
  have i1 := (idx ⟨n + 1, h⟩).1
  have i2 := (idx ⟨n, h'⟩).1
  dsimp only at i1 i2
  rw [e] at i1
  blk_ext [iblk, i1, i2]

/-- ... and the same gains. -/
theorem gain_eq (c : Dev nD) (t t' : Fin cfg0.N) : iblk m c 1 t = iblk m c 1 t' := by
  funext y
  blk_ext [iblk, (idx t).2.1, (idx t').2.1]

set_option maxHeartbeats 1600000 in
/-- After every point the scratch holds the normalised rows of the point's row tile. -/
theorem carry (c : Dev nD) : ∀ (n : ℕ) (h : n < cfg0.N),
    (outsAt0 m c n h).2 = k0_pay1 (iblk m c 0 ⟨n, h⟩) (iblk m c 1 ⟨n, h⟩) := by
  intro n
  induction n with
  | zero => intro h; rw [outsAt0_A m c ⟨0, h⟩ (Nat.zero_mod _)]; frame_out
  | succ n ih =>
    intro h
    by_cases h0 : (n + 1) % 2 = 0
    · rw [outsAt0_A m c ⟨n + 1, h⟩ h0]; frame_out
    · rw [outsAt0_B m c ⟨n + 1, h⟩ h0]; frame_out
      rw [rows_eq m c n h (Nat.lt_of_succ_lt h) h0, gain_eq m c ⟨n + 1, h⟩ ⟨n, Nat.lt_of_succ_lt h⟩]
      exact ih _

set_option maxHeartbeats 1600000 in
/-- What every point stores. -/
theorem stored (c : Dev nD) (t : Fin cfg0.N) : (outsAt0 m c t.val t.isLt).1
    = k0_pay2 (k0_pay1 (iblk m c 0 t) (iblk m c 1 t)) (iblk m c 2 t) := by
  by_cases h0 : t.val % 2 = 0
  · rw [outsAt0_A m c t h0]; frame_out
  · rw [outsAt0_B m c t h0]; frame_out
    obtain ⟨n, h⟩ := t
    cases n with
    | zero => exact absurd rfl h0
    | succ n =>
      rw [rows_eq m c n h (Nat.lt_of_succ_lt h) h0, gain_eq m c ⟨n + 1, h⟩ ⟨n, Nat.lt_of_succ_lt h⟩,
        ← carry m c n (Nat.lt_of_succ_lt h)]
      exact congrArg (fun X => k0_pay2 X (iblk m c 2 ⟨n + 1, h⟩)) (Memref.IsWhole.read_unread _ _)

/-- The call's weight at a row and a column: the keys' and values' columns come last. -/
def packed (a2 : FVec Ideal S2048x3584 .f32) (k : Fin 2048) (j : Fin 3584) : EReal :=
  if h : j.val < 1024 then a2 (ix2 k ⟨j.val, by omega⟩)
  else if h : j.val < 3072 then a2 (ix2 k ⟨512 + j.val, by omega⟩)
  else a2 (ix2 k ⟨j.val - 2048, by omega⟩)

set_option maxHeartbeats 1600000 in
/-- The reference's packed row is one product with the packed weight. -/
theorem ref_at (a0 : FVec Ideal Cert.Reference7Ideal.S2x16384x2048 .f32) (a1 : FVec Ideal Cert.Reference7Ideal.S2048 .f32)
    (a2 : FVec Ideal Cert.Reference7Ideal.S2048x3584 .f32) (i : Fin 32768) (j : Fin 3584) :
    Cert.Reference7Ideal.Value.REF a0 a1 a2 (ix2 i j)
      = ∑ x : Fin 2048, a0 (ix3 ⟨i.val / 16384, by omega⟩ ⟨i.val % 16384, by omega⟩ x)
          * Ideal.rsqrt (Ideal.div (∑ y : Fin 2048, a0 (ix3 ⟨i.val / 16384, by omega⟩ ⟨i.val % 16384, by omega⟩ y)
              * a0 (ix3 ⟨i.val / 16384, by omega⟩ ⟨i.val % 16384, by omega⟩ y)) (Ideal.ofBits FTy.f32 1157627904#32)
            + Ideal.ofBits FTy.f32 897988541#32) * a1 (ix1 x) * packed a2 x j := by
  pointwise [Cert.Reference7Ideal.Value.REF, Cert.Reference7Ideal.Value.r_v14]
  by_cases h1 : j.val < 1024
  · rw [dif_pos h1]
    refine Finset.sum_congr rfl fun x _ => congrArg _ ?_
    unfold packed; rw [dif_pos h1]
  rw [dif_neg h1]
  by_cases h2 : j.val - 1024 < 2048
  · rw [dif_pos h2]
    refine Finset.sum_congr rfl fun x _ => congrArg _ ?_
    unfold packed; rw [dif_neg h1, dif_pos (by omega)]
    exact congrArg a2 (congrArg (ix2 x) (Fin.ext (by simp only; omega)))
  rw [dif_neg h2]
  refine Finset.sum_congr rfl fun x _ => congrArg _ ?_
  unfold packed; rw [dif_neg h1, dif_neg (by omega)]
  exact congrArg a2 (congrArg (ix2 x) (Fin.ext (by simp only; omega)))

/-- The weight the host hands to the kernel. -/
theorem V_w (c : Dev nD) : V m c main_v5 = truncf (F := Ideal) .bf16 (concatenate S2048x3584 1
    [⟨S2048x1024, (extractStridedSlice S2048x1024 ![0, 0] (m ((c : Thread nD τ).loc main_arg2)) slices_S2048x3584_S2048x1024_0_0)⟩,
     ⟨S2048x2048, (extractStridedSlice S2048x2048 ![0, 1536] (m ((c : Thread nD τ).loc main_arg2)) slices_S2048x3584_S2048x2048_0_1536)⟩,
     ⟨S2048x512, (extractStridedSlice S2048x512 ![0, 1024] (m ((c : Thread nD τ).loc main_arg2)) slices_S2048x3584_S2048x512_0_1024)⟩]
     concatenates_S2048x1024_S2048x2048_S2048x512_S2048x3584_d1) bitsLt_bf16_f32 := by
  rfl

set_option maxHeartbeats 1600000 in
/-- The weight block of a point, read. -/
theorem w_at (c : Dev nD) (t : Fin cfg0.N) (k : Fin 2048) (j : Fin 1792) :
    (show FVec Ideal S2048x1792 .bf16 from iblk m c 2 t) (ix2 k j)
      = packed (m ((c : Thread nD τ).loc main_arg2)) k ⟨t.val % 2 * 1792 + j.val, by omega⟩ := by
  have e : ((cfg0.win 2).blk t).view.emb (ix2 k j) = ix2 k ⟨t.val % 2 * 1792 + j.val, by omega⟩ := by
    blk_ext [idx t]
  show (V m c main_v5 : FVec Ideal S2048x3584 .bf16) (((cfg0.win 2).blk t).view.emb (ix2 k j)) = _
  rw [e, V_w]
  pointwise
  unfold packed
  dsimp only
  by_cases h1 : t.val % 2 * 1792 + j.val < 1024
  · rw [dif_pos h1, dif_pos h1]
  rw [dif_neg h1, dif_neg h1]
  by_cases h2 : t.val % 2 * 1792 + j.val - 1024 < 2048
  · rw [dif_pos h2, dif_pos (by omega : t.val % 2 * 1792 + j.val < 3072)]
    exact congrArg (m ((c : Thread nD τ).loc main_arg2)) (congrArg (ix2 k) (Fin.ext (by simp only; omega)))
  rw [dif_neg h2, dif_neg (by omega : ¬ t.val % 2 * 1792 + j.val < 3072)]
  exact congrArg (m ((c : Thread nD τ).loc main_arg2)) (congrArg (ix2 k) (Fin.ext (by simp only; omega)))

set_option maxHeartbeats 1600000 in
/-- The kernel's result array is the reference's term over the kernel's arguments. -/
theorem final (c : Dev nD) : (dats m 0 c).arrAt 3 (cfgs 0).N
    = Cert.Reference7Ideal.Value.REF (m ((c : Thread nD τ).loc main_arg0))
        (m ((c : Thread nD τ).loc main_arg1)) (m ((c : Thread nD τ).loc main_arg2)) := by
  refine (dats m 0 c).arrAt_eq_of_covers 3 _ (by decide +kernel) fun t hf y => ?_
  blk_simp; rw [after0_3, stored]
  idx_vars y
  refine Eq.trans ?_ ((ref_at _ _ _ ⟨t.val / 2 * 1024 + y0.val, by have := (idx t).2.2.2.2; omega⟩
    ⟨t.val % 2 * 1792 + y1.val, by omega⟩).symm.trans (congrArg (Cert.Reference7Ideal.Value.REF _ _ _) ?_))
  · pointwise [k0_pay1, k0_pay2]
    show @Eq EReal _ _
    refine Finset.sum_congr rfl fun x _ => congrArg₂ (· * ·) ?_ ?_
    · blk_point [iblk, V, idx t]
    · exact w_at m c t x y1
  · blk_ext [idx t]

end Cert.Kernel7Ideal.Value

end
-- ==== Proof.Ref8.lean ====
module

public import proofs.«01_k».proof.Proof.Gen.Reference8Ideal
public import Idealize.ShloMosaic.Lib.StableHlo.Run
public import Idealize.ShloMosaic.PureOps.Ideal

/-! The result of Reference8Ideal, stage by stage, over variables. -/

@[expose] public section

set_option maxRecDepth 16384

noncomputable section

open Idealize.ShloMosaic Idealize.ShloMosaic.TcCoe

namespace Cert.Reference8Ideal.Value

open Cert.Reference8Ideal Cert.Reference8Ideal.Gen

/-- The value v1 of the reference. -/
def r_v1 (a0 : FVec Ideal S1024x3584 .f32) : FVec Ideal S16x64x1024 .f32 :=
  shapeCast S16x64x1024 (extractStridedSlice S1024x1024 ![0, 1024] a0 slices_S1024x3584_S1024x1024_0_1024)
    shapeCasts_S1024x1024_S16x64x1024

/-- The value v3 of the reference. -/
def r_v3 (a0 : FVec Ideal S1024x3584 .f32) : FVec Ideal S16x64x1024 .f32 :=
  shapeCast S16x64x1024 (extractStridedSlice S1024x1024 ![0, 2048] a0 slices_S1024x3584_S1024x1024_0_2048)
    shapeCasts_S1024x1024_S16x64x1024

/-- The value v29 of the reference. -/
def r_v29 (a0 : FVec Ideal S1024x3584 .f32) : FVec Ideal S16x64x1024 .f32 :=
  mulf (r_v3 a0) (mulf (broadcastInDim S16x64x1024 ![] bcast_S_S16x64x1024 (constant S_ .f32 0x3F000000#32)) (addf
    (broadcastInDim S16x64x1024 ![] bcast_S_S16x64x1024 (constant S_ .f32 0x3F800000#32)) (Host.tanh (mulf
    (broadcastInDim S16x64x1024 ![] bcast_S_S16x64x1024 (constant S_ .f32 0x3F4C422A#32)) (addf (r_v3 a0) (mulf
    (broadcastInDim S16x64x1024 ![] bcast_S_S16x64x1024 (constant S_ .f32 0x3D372713#32)) (mulf (mulf (r_v3 a0)
    (r_v3 a0)) (r_v3 a0))))))))

/-- The value v35 of the reference. -/
def r_v35 (a0 : FVec Ideal S1024x3584 .f32) : FVec Ideal S16x64x1024 .f32 :=
  subf (r_v29 a0) (broadcastInDim S16x64x1024 ![0, 1, 2] bcast_S16x64x1_S16x64x1024_0_1_2 (Host.divf (broadcastInDim
    S16x64x1 ![0, 1] bcast_S16x64_S16x64x1_0_1 (Host.reduceAdd (r_v29 a0) (constant S_ .f32 0x00000000#32)
    reducesTo_S16x64x1024_S16x64_d2 h_S_)) (broadcastInDim S16x64x1 ![] bcast_S_S16x64x1 (constant S_ .f32
    0x44800000#32))))

/-- The value v51 of the reference. -/
def r_v51 (a0 : FVec Ideal S1024x3584 .f32) (a1 : FVec Ideal S1024 .f32) (a2 : FVec Ideal S1024 .f32) : FVec Ideal S16x64x1024 .f32 :=
  addf (mulf (mulf (r_v35 a0) (broadcastInDim S16x64x1024 ![0, 1, 2] bcast_S16x64x1_S16x64x1024_0_1_2 (Host.rsqrt
    (addf (Host.divf (broadcastInDim S16x64x1 ![0, 1] bcast_S16x64_S16x64x1_0_1 (Host.reduceAdd (mulf (r_v35 a0)
    (r_v35 a0)) (constant S_ .f32 0x00000000#32) reducesTo_S16x64x1024_S16x64_d2 h_S_)) (broadcastInDim S16x64x1 ![]
    bcast_S_S16x64x1 (constant S_ .f32 0x44800000#32))) (broadcastInDim S16x64x1 ![] bcast_S_S16x64x1 (constant S_
    .f32 0x358637BD#32)))))) (broadcastInDim S16x64x1024 ![0, 1, 2] bcast_S1x1x1024_S16x64x1024_0_1_2
    (broadcastInDim S1x1x1024 ![2] bcast_S1024_S1x1x1024_2 a1))) (broadcastInDim S16x64x1024 ![0, 1, 2]
    bcast_S1x1x1024_S16x64x1024_0_1_2 (broadcastInDim S1x1x1024 ![2] bcast_S1024_S1x1x1024_2 a2))

/-- The value v53 of the reference. -/
def r_v53  : IVec S64 32 :=
  iotaInDim S64 32 0

/-- The value v70 of the reference. -/
def REF0 (a0 : FVec Ideal S1024x3584 .f32) (a1 : FVec Ideal S1024 .f32) (a2 : FVec Ideal S1024 .f32) (a3 : FVec Ideal S8x128x128 .f32) (a4 : FVec Ideal S8x128 .f32) : FVec Ideal S1024x1024 .f32 :=
  shapeCast S1024x1024 (mulf (mulf (r_v1 a0) (mulf (broadcastInDim S16x64x1024 ![] bcast_S_S16x64x1024 (constant S_
    .f32 0x3F000000#32)) (addf (broadcastInDim S16x64x1024 ![] bcast_S_S16x64x1024 (constant S_ .f32 0x3F800000#32))
    (Host.tanh (mulf (broadcastInDim S16x64x1024 ![] bcast_S_S16x64x1024 (constant S_ .f32 0x3F4C422A#32)) (addf
    (r_v1 a0) (mulf (broadcastInDim S16x64x1024 ![] bcast_S_S16x64x1024 (constant S_ .f32 0x3D372713#32)) (mulf
    (mulf (r_v1 a0) (r_v1 a0)) (r_v1 a0))))))))) (shapeCast S16x64x1024 (addf (transpose S16x1x64x8x128 [1, 2, 4, 0,
    3] (Host.dotGeneral dot_S16x1x64x8x128_S8x64x64_S8x16x1x128x64_2_2_014_1_3_0 none (shapeCast S16x1x64x8x128
    (r_v51 a0 a1 a2) shapeCasts_S16x64x1024_S16x1x64x8x128) (select (broadcastInDim S8x64x64 ![1, 2]
    bcast_S64x64_S8x64x64_1_2 (cmpi .sge (broadcastInDim S64x64 ![0, 1] bcast_S64x1_S64x64_0_1 (broadcastInDim S64x1
    ![0] bcast_S64_S64x1_0 r_v53)) (broadcastInDim S64x64 ![0, 1] bcast_S1x64_S64x64_0_1 (broadcastInDim S1x64 ![1]
    bcast_S64_S1x64_1 r_v53)))) (extractStridedSlice S8x64x64 ![0, 0, 0] a3 slices_S8x128x128_S8x64x64_0_0_0)
    (broadcastInDim S8x64x64 ![] bcast_S_S8x64x64 (constant S_ .f32 0x00000000#32))))
    transposes_S8x16x1x128x64_S16x1x64x8x128_1_2_4_0_3) (broadcastInDim S16x1x64x8x128 ![0, 1, 2, 3, 4]
    bcast_S1x1x64x8x1_S16x1x64x8x128_0_1_2_3_4 (broadcastInDim S1x1x64x8x1 ![2, 3] bcast_S64x8_S1x1x64x8x1_2_3
    (transpose S64x8 [1, 0] (extractStridedSlice S8x64 ![0, 0] a4 slices_S8x128_S8x64_0_0)
    transposes_S8x64_S64x8_1_0)))) shapeCasts_S16x1x64x8x128_S16x64x1024)) shapeCasts_S16x64x1024_S1024x1024

/-- The value v71 of the reference. -/
def REF1 (a0 : FVec Ideal S1024x3584 .f32) (a1 : FVec Ideal S1024 .f32) (a2 : FVec Ideal S1024 .f32) (a3 : FVec Ideal S8x128x128 .f32) (a4 : FVec Ideal S8x128 .f32) : FVec Ideal S1024x1024 .f32 :=
  shapeCast S1024x1024 (r_v51 a0 a1 a2) shapeCasts_S16x64x1024_S1024x1024

end Cert.Reference8Ideal.Value

end
-- ==== Proof.Value8.lean ====
module

public import proofs.«01_k».proof.Proof.Gen.Kernel8Ideal.Frame
public import proofs.«01_k».proof.Proof.Ref8
public import Idealize.ShloMosaic.Lib.Claim
public import Idealize.ShloMosaic.Lib.Pipeline.ValueKit
public import Idealize.ShloMosaic.Lib.Pointwise
public import Idealize.ShloMosaic.Lib.IdealHost

/-! The spatial gate call. -/

@[expose] public section

set_option maxRecDepth 16384

noncomputable section

open Idealize.ShloMosaic Idealize.ShloMosaic.TcCoe Idealize.SL.Sem
open Idealize.ShloMosaic.Pipeline (Dat)

namespace Cert.Kernel8Ideal.Value

open Cert.Kernel8Ideal Cert.Kernel8Ideal.Gen

variable (m : (ℓ : Loc nD τ sig) → Buf (Elt Ideal) ℓ)

/-- The windows' block indices. -/
theorem idx : ∀ t : Fin cfg0.N, win0_0.index t = ![t.val, 1] ∧ win0_1.index t = ![t.val, 2]
    ∧ win0_2.index t = ![0, 0] ∧ win0_3.index t = ![0, 0] ∧ win0_4.index t = ![0, 0, 0]
    ∧ win0_5.index t = ![0, 0] ∧ win0_6.index t = ![t.val, 0] ∧ win0_7.index t = ![t.val, 0] ∧ t.val < 4 :=
  (by decide +kernel : ∀ t : Fin grid0.N, _)

/-- The root of two over pi, as its word. -/
theorem word_c : Ideal.ofBits FTy.f32 0x3F4C422A#32 = ((13386282 / 16777216 : ℝ) : EReal) := by
  simp [Ideal.ofBits, Ideal.ieee]; rw [← EReal.coe_mul]; norm_num

/-- The cubic coefficient, as its word. -/
theorem word_a : Ideal.ofBits FTy.f32 0x3D372713#32 = ((12003091 / 268435456 : ℝ) : EReal) := by
  simp [Ideal.ofBits, Ideal.ieee]; rw [← EReal.coe_mul]; norm_num

/-- The named constant is the product of the two words. -/
theorem word_d : Named.named (F := Ideal) (φ := FTy.f32) κ "gelu_cube" 0x3D122279#32
    = ((80338380498831 / 2251799813685248 : ℝ) : EReal) :=
  IdealRules.named_const.ideal_named_scalar _ _ _ _ rfl

/-- The smooth rectifier, as the reference writes it. -/
def gel (x : EReal) : EReal :=
  x * (Ideal.ofBits FTy.f32 0x3F000000#32 * (1 + Ideal.tanh (Ideal.ofBits FTy.f32 0x3F4C422A#32
    * (x + Ideal.ofBits FTy.f32 0x3D372713#32 * (x * x * x)))))

/-- The kernel's inner cubic is the reference's. -/
theorem cubic (x : EReal) : x * (Ideal.ofBits FTy.f32 0x3F4C422A#32
      + Named.named (F := Ideal) (φ := FTy.f32) κ "gelu_cube" 0x3D122279#32 * (x * x))
    = Ideal.ofBits FTy.f32 0x3F4C422A#32 * (x + Ideal.ofBits FTy.f32 0x3D372713#32 * (x * x * x)) := by
  rw [word_c, word_a, word_d]
  have hc : (0 : ℝ) < 13386282 / 16777216 := by norm_num
  have ha : (0 : ℝ) < 12003091 / 268435456 := by norm_num
  have hd : (0 : ℝ) < 80338380498831 / 2251799813685248 := by norm_num
  induction x using EReal.rec with
  | bot =>
    simp only [EReal.bot_mul_bot, EReal.coe_mul_top_of_pos hd, EReal.coe_add_top, EReal.bot_mul_top, EReal.top_mul_bot,
      EReal.coe_mul_bot_of_pos ha, EReal.coe_mul_bot_of_pos hc, EReal.bot_add]
  | top =>
    simp only [EReal.top_mul_top, EReal.coe_mul_top_of_pos hd, EReal.coe_add_top,
      EReal.coe_mul_top_of_pos ha, EReal.coe_mul_top_of_pos hc, EReal.top_add_top]
  | coe r =>
    simp only [← EReal.coe_mul, ← EReal.coe_add]
    refine congrArg _ ?_
    ring

/-- The kernel's form of the smooth rectifier is the reference's. -/
theorem gel_eq (x : EReal) : Ideal.ofBits FTy.f32 0x3F000000#32 * x * (1 + Ideal.tanh (x * (Ideal.ofBits FTy.f32 0x3F4C422A#32
      + Named.named (F := Ideal) (φ := FTy.f32) κ "gelu_cube" 0x3D122279#32 * (x * x)))) = gel x := by
  rw [cubic]; unfold gel; rw [mul_comm (Ideal.ofBits FTy.f32 0x3F000000#32) x, mul_assoc]

/-- A row's mean. -/
def mean (G : Fin 1024 → EReal) : EReal := Ideal.div (∑ k, G k) (Ideal.ofBits FTy.f32 0x44800000#32)

/-- A row, normalised. -/
def lnorm (G g b : Fin 1024 → EReal) (j : Fin 1024) : EReal :=
  (G j - mean G) * Ideal.rsqrt (mean (fun k => (G k - mean G) * (G k - mean G)) + Ideal.ofBits FTy.f32 0x358637BD#32) * g j + b j

/-- The gated half's normalised rows. -/
def vn (a0 : FVec Ideal S1024x3584 .f32) (a1 a2 : FVec Ideal S1024 .f32) (i : Fin 1024) (j : Fin 1024) : EReal :=
  lnorm (fun k => gel (a0 (ix2 i ⟨2048 + k.val, by omega⟩))) (fun k => a1 (ix1 k)) (fun k => a2 (ix1 k)) j

theorem ref_v29 (a0 : FVec Ideal Cert.Reference8Ideal.S1024x3584 .f32) (b : Fin 16) (s : Fin 64) (j : Fin 1024) :
    Cert.Reference8Ideal.Value.r_v29 a0 (ix3 b s j) = gel (a0 (ix2 ⟨b.val * 64 + s.val, by omega⟩ ⟨2048 + j.val, by omega⟩)) := by
  pointwise [Cert.Reference8Ideal.Value.r_v29, Cert.Reference8Ideal.Value.r_v3]
  rfl

theorem ref_v51 (a0 : FVec Ideal Cert.Reference8Ideal.S1024x3584 .f32) (a1 a2 : FVec Ideal Cert.Reference8Ideal.S1024 .f32) (b : Fin 16) (s : Fin 64) (j : Fin 1024) :
    Cert.Reference8Ideal.Value.r_v51 a0 a1 a2 (ix3 b s j) = vn a0 a1 a2 ⟨b.val * 64 + s.val, by omega⟩ j := by
  pointwise [Cert.Reference8Ideal.Value.r_v51, Cert.Reference8Ideal.Value.r_v35]
  simp only [ref_v29]
  rfl

theorem ref1_at (a0 : FVec Ideal Cert.Reference8Ideal.S1024x3584 .f32) (a1 a2 : FVec Ideal Cert.Reference8Ideal.S1024 .f32)
    (a3 : FVec Ideal Cert.Reference8Ideal.S8x128x128 .f32) (a4 : FVec Ideal Cert.Reference8Ideal.S8x128 .f32) (i : Fin 1024) (j : Fin 1024) :
    Cert.Reference8Ideal.Value.REF1 a0 a1 a2 a3 a4 (ix2 i j) = vn a0 a1 a2 i j := by
  pointwise [Cert.Reference8Ideal.Value.REF1]
  rw [ref_v51]
  refine congrArg (vn a0 a1 a2 · j) ?_
  ext; simp only []; omega

theorem ref0_at (a0 : FVec Ideal Cert.Reference8Ideal.S1024x3584 .f32) (a1 a2 : FVec Ideal Cert.Reference8Ideal.S1024 .f32)
    (a3 : FVec Ideal Cert.Reference8Ideal.S8x128x128 .f32) (a4 : FVec Ideal Cert.Reference8Ideal.S8x128 .f32) (i : Fin 1024) (j : Fin 1024) :
    Cert.Reference8Ideal.Value.REF0 a0 a1 a2 a3 a4 (ix2 i j) = gel (a0 (ix2 i ⟨1024 + j.val, by omega⟩))
      * (∑ x : Fin 64, Scalar.select (IntOp.cmpi CmpIPredicate.sge (BitVec.ofNat 32 (i.val % 64)) (BitVec.ofNat 32 x.val))
          (vn a0 a1 a2 ⟨i.val / 64 * 64 + x.val, by omega⟩ j
            * a3 (ix3 ⟨j.val / 128, by omega⟩ ⟨i.val % 64, by omega⟩ ⟨x.val, by omega⟩)) 0
        + a4 (ix2 ⟨j.val / 128, by omega⟩ ⟨i.val % 64, by omega⟩)) := by
  pointwise [Cert.Reference8Ideal.Value.REF0, Cert.Reference8Ideal.Value.r_v53, Cert.Reference8Ideal.Value.r_v1]
  simp only [ref_v51]
  rfl

theorem pay3_at (x : FVec Ideal S256x1024 .f32) (g b : FVec Ideal S1x1024 .f32) (r : Fin 256) (j : Fin 1024) :
    (k0_pay3 (F := Ideal) x g b (ix2 r j) : EReal) = lnorm (fun k => gel (x (ix2 r k))) (fun k => g (ix2 0 k)) (fun k => b (ix2 0 k)) j := by
  pointwise [k0_pay3]
  simp only [gel_eq]
  rfl

/-- The second output's block after the body. -/
theorem out7_at (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S8x128x128 .f32) (harg5 : arg5.IsWhole) (arg6 : Memref sig .tc .vmem S128x8 .f32) (harg6 : arg6.IsWhole) (arg7 : Memref sig .tc .vmem S256x1024 .f32) (harg7 : arg7.IsWhole) (arg8 : Memref sig .tc .vmem S256x1024 .f32) (harg8 : arg8.IsWhole)
    (x0 x1 : FVec Ideal S256x1024 .f32) (x2 x3 : FVec Ideal S1x1024 .f32) (x4 : FVec Ideal S8x128x128 .f32) (x5 : FVec Ideal S128x8 .f32) (y : S256x1024.Idx) :
    out0_A_7 (F := Ideal) c i arg1 harg1 arg2 harg2 arg3 harg3 arg4 harg4 arg5 harg5 arg6 harg6 arg7 harg7 arg8 harg8 x0 x1 x2 x3 x4 x5 y = k0_pay3 (F := Ideal) x1 x2 x3 y := by
  frame_out

theorem x0_at (c : Dev nD) (t : Fin cfg0.N) (r : Fin 256) (j : Fin 1024) :
    X0_0 m c t (ix2 r j) = m ((c : Thread nD τ).loc main_arg0) (ix2 ⟨t.val * 256 + r.val, by have := (idx t).2.2.2.2.2.2.2.2; omega⟩ ⟨1024 + j.val, by omega⟩) := by
  unfold X0_0 Pipeline.Window.fill; rw [dif_pos (moved0_0 t _)]
  blk_point [iblk, V, idx t]

theorem x1_at (c : Dev nD) (t : Fin cfg0.N) (r : Fin 256) (j : Fin 1024) :
    X0_1 m c t (ix2 r j) = m ((c : Thread nD τ).loc main_arg0) (ix2 ⟨t.val * 256 + r.val, by have := (idx t).2.2.2.2.2.2.2.2; omega⟩ ⟨2048 + j.val, by omega⟩) := by
  unfold X0_1 Pipeline.Window.fill; rw [dif_pos (moved0_1 t _)]
  blk_point [iblk, V, idx t]

theorem x2_at (c : Dev nD) (t : Fin cfg0.N) (k : Fin 1024) :
    iblk m c 2 t (ix2 0 k) = m ((c : Thread nD τ).loc main_arg1) (ix1 k) := by
  blk_point [iblk, V, idx t]

theorem x3_at (c : Dev nD) (t : Fin cfg0.N) (k : Fin 1024) :
    iblk m c 3 t (ix2 0 k) = m ((c : Thread nD τ).loc main_arg2) (ix1 k) := by
  blk_point [iblk, V, idx t]

theorem x4_at (c : Dev nD) (t : Fin cfg0.N) (g : Fin 8) (a b : Fin 128) :
    iblk m c 4 t (ix3 g a b) = m ((c : Thread nD τ).loc main_arg3) (ix3 g a b) := by
  blk_point [iblk, V, idx t]

theorem x5_at (c : Dev nD) (t : Fin cfg0.N) (a : Fin 128) (g : Fin 8) :
    iblk m c 5 t (ix2 a g) = m ((c : Thread nD τ).loc main_arg4) (ix2 g a) := by
  blk_point [iblk, V, idx t]

/-- The gate's block, at an index of the block, over its operands. -/
def yat (x0 x1 : FVec Ideal S256x1024 .f32) (x2 x3 : FVec Ideal S1x1024 .f32) (x4 : FVec Ideal S8x128x128 .f32) (x5 : FVec Ideal S128x8 .f32)
    (r : Fin 256) (j : Fin 1024) : EReal :=
  gel (x0 (ix2 r j)) * (∑ x : Fin 64, Scalar.select (IntOp.cmpi CmpIPredicate.sge (BitVec.ofNat 32 (r.val % 64)) (BitVec.ofNat 32 x.val))
      (lnorm (fun k => gel (x1 (ix2 ⟨r.val / 64 * 64 + x.val, by omega⟩ k))) (fun k => x2 (ix2 0 k)) (fun k => x3 (ix2 0 k)) j
        * x4 (ix3 ⟨j.val / 128, by omega⟩ ⟨r.val % 64, by omega⟩ ⟨x.val, by omega⟩)) 0
    + x5 (ix2 ⟨r.val % 64, by omega⟩ ⟨j.val / 128, by omega⟩))

theorem pay4_at (x : FVec Ideal S256x1024 .f32) (r : Fin 256) (j : Fin 1024) :
    (k0_pay4 (F := Ideal) x (ix2 r j) : EReal) = gel (x (ix2 r j)) := by
  pointwise [k0_pay4]
  exact gel_eq _

set_option maxHeartbeats 4000000 in
theorem out6_at (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S8x128x128 .f32) (harg5 : arg5.IsWhole) (arg6 : Memref sig .tc .vmem S128x8 .f32) (harg6 : arg6.IsWhole) (arg7 : Memref sig .tc .vmem S256x1024 .f32) (harg7 : arg7.IsWhole) (arg8 : Memref sig .tc .vmem S256x1024 .f32) (harg8 : arg8.IsWhole)
    (x0 x1 : FVec Ideal S256x1024 .f32) (x2 x3 : FVec Ideal S1x1024 .f32) (x4 : FVec Ideal S8x128x128 .f32) (x5 : FVec Ideal S128x8 .f32) (y0 : Fin 256) (y1 : Fin 1024) :
    out0_A_6 (F := Ideal) c i arg1 harg1 arg2 harg2 arg3 harg3 arg4 harg4 arg5 harg5 arg6 harg6 arg7 harg7 arg8 harg8 x0 x1 x2 x3 x4 x5 (ix2 y0 y1) = yat x0 x1 x2 x3 x4 x5 y0 y1 := by
  frame_out
  canon_tiles z h
  all_goals
    idx_vars z
    have e1 : y0.val % 64 = z0.val := by omega
    have e2 : y0.val / 64 * 64 = y0.val - z0.val := by omega
    have e3 : y1.val / 128 = (y1.val - z1.val) / 128 := by omega
    pointwise [k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49]
    simp only [pay3_at, pay4_at]
    unfold yat
    rcases y0 with ⟨y0, hy0⟩
    rcases y1 with ⟨y1, hy1⟩
    dsimp only at h0 h1 e1 e2 e3
    subst h0 h1
    simp only [e1, e2, e3, Nat.add_sub_cancel, Nat.add_sub_cancel_left, Nat.sub_self, Nat.zero_add, Nat.zero_div, Nat.reduceDiv, mul_comm (x4 _), Fin.reduceFinMk, Fin.isValue] <;> rfl

/-- The gate's result at the kernel's block is the reference's. -/
theorem final6 (c : Dev nD) : (dats m 0 c).arrAt 6 (cfgs 0).N
    = Cert.Reference8Ideal.Value.REF0 (m ((c : Thread nD τ).loc main_arg0))
        (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  blk_simp; rw [after0_6]; unfold outsAt0; dsimp only
  idx_vars y
  refine Eq.trans ?_ ((ref0_at _ _ _ _ _ ⟨t.val * 256 + y0.val, by have := (idx t).2.2.2.2.2.2.2.2; omega⟩ y1).symm.trans
    (congrArg (Cert.Reference8Ideal.Value.REF0 _ _ _ _ _) ?_))
  · refine (out6_at _ _ _ _ _ _ _ _ _ _ _ _ _ _ _ _ _ _ _ _ _ _ _ _ y0 y1).trans ?_
    unfold yat vn
    simp only [x0_at, x1_at, x2_at, x3_at, x4_at, x5_at, show (t.val * 256 + y0.val) % 64 = y0.val % 64 by omega,
      show ∀ x : Fin 64, (t.val * 256 + y0.val) / 64 * 64 + x.val = t.val * 256 + (y0.val / 64 * 64 + x.val) by omega]
  · blk_ext [idx t]

/-- The kernel's second result array is the reference's second term over the kernel's arguments. -/
theorem final7 (c : Dev nD) : (dats m 0 c).arrAt 7 (cfgs 0).N
    = Cert.Reference8Ideal.Value.REF1 (m ((c : Thread nD τ).loc main_arg0))
        (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t hf y => ?_
  blk_simp; rw [after0_7]; unfold outsAt0; dsimp only
  idx_vars y
  refine Eq.trans ?_ ((ref1_at _ _ _ _ _ ⟨t.val * 256 + y0.val, by have := (idx t).2.2.2.2.2.2.2.2; omega⟩ y1).symm.trans
    (congrArg (Cert.Reference8Ideal.Value.REF1 _ _ _ _ _) ?_))
  · refine (out7_at _ _ _ _ _ _ _ _ _ _ _ _ _ _ _ _ _ _ _ _ _ _ _ _ _).trans ((pay3_at _ _ _ _ _).trans ?_)
    unfold vn
    simp only [x1_at, x2_at, x3_at]
  · blk_ext [idx t]

end Cert.Kernel8Ideal.Value

end
-- ==== Proof.Run9.lean ====
module

public import proofs.«01_k».proof.Proof.Gen.Kernel9Ideal.Launch
public import proofs.«01_k».proof.Proof.Gen.Kernel9Ideal.Skeleton
public import Idealize.ShloMosaic.Lib.Pipeline.FrameBody
public import Idealize.ShloMosaic.Lib.Ring
public import Idealize.ShloMosaic.Lib.Tactic
public import Idealize.ShloMosaic.Lib.WordCmp

/-! The routed experts' kernel: one grid point's body, run on its three paths. -/

@[expose] public section

set_option maxRecDepth 16384
set_option Elab.async false

noncomputable section

namespace Cert.Kernel9Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (Pipeline.UD sig nD τ) ℕ

/-- The tables, as the body is handed them. -/
abbrev tbE : Memref sig .tc .smem S140 .i32 := Memref.whole main_arg1
abbrev tbV : Memref sig .tc .smem S140 .i32 := Memref.whole main_arg2
abbrev tbN : Memref sig .tc .smem S1 .i32 := Memref.whole main_arg3
/-- The three weight arrays, left in place. -/
abbrev hbG : Memref sig .tc .hbm S8x2048x2816 .bf16 := Memref.whole main_v0
abbrev hbU : Memref sig .tc .hbm S8x2048x2816 .bf16 := Memref.whole main_v1
abbrev hbD : Memref sig .tc .hbm S8x2816x2048 .bf16 := Memref.whole main_v2
/-- The scratch copies of one expert's three matrices. -/
abbrev scG : Memref sig .tc .vmem S2048x2816 .bf16 := Memref.whole cc0_scratch0
abbrev scU : Memref sig .tc .vmem S2048x2816 .bf16 := Memref.whole cc0_scratch1
abbrev scD : Memref sig .tc .vmem S2816x2048 .bf16 := Memref.whole cc0_scratch2

/-- The word of active blocks, the block's expert, the expert of the block before, the block's valid rows. -/
abbrev wN (T2 : S1.Idx → Elt F .i32) : Elt F .i32 := View.readAt (Elt F) (tbN).view (Rect.unit (s := S1) ![0] S1.size inb_S1_S1_0).toLoadRect T2 (Shape.Idx.first (numel1_S1.symm ▸ Nat.one_pos))
abbrev wE (i : grid0.Coords) (T0 : S140.Idx → Elt F .i32) : Elt F .i32 := View.readAt (Elt F) (tbE).view (Rect.unit (s := S140) (k0_off1 i) S1.size (k0_off1_inb i)).toLoadRect T0 (Shape.Idx.first (numel1_S1.symm ▸ Nat.one_pos))
abbrev wP (i : grid0.Coords) (T0 : S140.Idx → Elt F .i32) : Elt F .i32 := View.readAt (Elt F) (tbE).view (Rect.unit (s := S140) (k0_off2 i) S1.size (k0_off2_inb i)).toLoadRect T0 (Shape.Idx.first (numel1_S1.symm ▸ Nat.one_pos))

set_option backward.proofsInPublic true in
set_option maxHeartbeats 8000000 in
/-- PATH A. -/
noncomputable def runA (c : Dev nD) (i : grid0.Coords) (arg4 : Memref sig .tc .vmem S512x2048 .f32) (harg4 : arg4.IsWhole) (arg8 : Memref sig .tc .vmem S512x2048 .f32) (harg8 : arg8.IsWhole)
    (T0 T1 : S140.Idx → Elt F .i32) (T2 : S1.Idx → Elt F .i32) (x0 : S512x2048.Idx → Elt F .f32) (s0 : Buf (Elt F) ((c : Thread nD τ).loc cc0_scratch0)) (s1 : Buf (Elt F) ((c : Thread nD τ).loc cc0_scratch1)) (s2 : Buf (Elt F) ((c : Thread nD τ).loc cc0_scratch2))
    (g0 : Buf (Elt F) (hbG.view.loc (c : Thread nD τ))) (g1 : Buf (Elt F) (hbU.view.loc (c : Thread nD τ))) (g2 : Buf (Elt F) (hbD.view.loc (c : Thread nD τ)))
    (hchk : k0_chk1 i (wN T2) (wE i T0) (wP i T0)) (h1 : k0_cond1 i (wN T2) (wE i T0) (wP i T0) = 1#1) (h2 : k0_cond2 i (wN T2) = 1#1) (h3 : ¬k0_cond3 i (wN T2) = 1#1) :
    Σ' (out0 : List (View.Piece (Elt F) S512x2048 .f32)) (o0 : Buf (Elt F) ((c : Thread nD τ).loc cc0_scratch0)) (o1 : Buf (Elt F) ((c : Thread nD τ).loc cc0_scratch1)), { o2 : Buf (Elt F) ((c : Thread nD τ).loc cc0_scratch2) //
      ∀  (W : Waits sig Unit) (K : PUnit → sProp 𝕄),
        iprop((arg4.view.loc (c : Thread nD τ) ↦[arg4.view.set]{fullShare} arg4.view.rep x0)
          ∗ (tbE.view.loc (c : Thread nD τ) ↦{fullShare.right} T0)
          ∗ (tbV.view.loc (c : Thread nD τ) ↦{fullShare.right} T1)
          ∗ (tbN.view.loc (c : Thread nD τ) ↦{fullShare.right} T2)
          ∗ (∃ d, owns (c : Thread nD τ) arg8 fullShare d)
          ∗ (scG.view.loc (c : Thread nD τ) ↦{fullShare} s0)
          ∗ (scU.view.loc (c : Thread nD τ) ↦{fullShare} s1)
          ∗ (scD.view.loc (c : Thread nD τ) ↦{fullShare} s2)
          ∗ semVal ((c : Thread nD τ), SemLoc.dma 4) 0 ∗ semVal ((c : Thread nD τ), SemLoc.dma 5) 0 ∗ semVal ((c : Thread nD τ), SemLoc.dma 6) 0
          ∗ (hbG.view.loc (c : Thread nD τ) ↦{fullShare} g0)
          ∗ (hbU.view.loc (c : Thread nD τ) ↦{fullShare} g1)
          ∗ (hbD.view.loc (c : Thread nD τ) ↦{fullShare} g2)
          ∗ owes (c : Thread nD τ) 0 W
          ∗ (iprop((arg4.view.loc (c : Thread nD τ) ↦[arg4.view.set]{fullShare} arg4.view.rep x0)
          ∗ (tbE.view.loc (c : Thread nD τ) ↦{fullShare.right} T0)
          ∗ (tbV.view.loc (c : Thread nD τ) ↦{fullShare.right} T1)
          ∗ (tbN.view.loc (c : Thread nD τ) ↦{fullShare.right} T2)
          ∗ (∃ f, arg8.view.loc (c : Thread nD τ) ↦[arg8.view.set]{fullShare} arg8.view.writes (Elt F) f out0)
          ∗ (scG.view.loc (c : Thread nD τ) ↦{fullShare} o0)
          ∗ (scU.view.loc (c : Thread nD τ) ↦{fullShare} o1)
          ∗ (scD.view.loc (c : Thread nD τ) ↦{fullShare} o2)
          ∗ semVal ((c : Thread nD τ), SemLoc.dma 4) 0 ∗ semVal ((c : Thread nD τ), SemLoc.dma 5) 0 ∗ semVal ((c : Thread nD τ), SemLoc.dma 6) 0
          ∗ (hbG.view.loc (c : Thread nD τ) ↦{fullShare} g0)
          ∗ (hbU.view.loc (c : Thread nD τ) ↦{fullShare} g1)
          ∗ (hbD.view.loc (c : Thread nD τ) ↦{fullShare} g2)
            ∗ (∃ W', owes (c : Thread nD τ) 0 W')) -∗ K ⟨⟩))
          ⊢ wp frame (wpE (defs₀ (F := F)) Variants.none c none) Set.univ (cc0_moe_expert_ffn i tbE (Memref.isWhole_whole _) tbV (Memref.isWhole_whole _) tbN (Memref.isWhole_whole _) arg4 harg4 hbG (Memref.isWhole_whole _) hbU (Memref.isWhole_whole _) hbD (Memref.isWhole_whole _) arg8 harg8 scG (Memref.isWhole_whole _) scU (Memref.isWhole_whole _) scD (Memref.isWhole_whole _) cc0_scratch3) K } :=
  ⟨_, _, _, _, fun W K => by
    unfold owns
    rw [cc0_moe_expert_ffn_eq_skeleton]; unfold cc0_moe_expert_ffn_skel
    iintro ⟨H0, HT0, HT1, HT2, ⟨%d4, %f4, -, HO4⟩, HS0, HS1, HS2, Hq0, Hq1, Hq2, Hh0, Hh1, Hh2, HW, Hk⟩
    have hS0 : scG.IsWhole := Memref.isWhole_whole _
    have hS1 : scU.IsWhole := Memref.isWhole_whole _
    have hS2 : scD.IsWhole := Memref.isWhole_whole _
    have hT0 : tbE.IsWhole := Memref.isWhole_whole _
    have hT1 : tbV.IsWhole := Memref.isWhole_whole _
    have hT2 : tbN.IsWhole := Memref.isWhole_whole _
    sl_exec! (disch := first | (guard_target = k0_chk1 _ _ _ _; exact hchk) | (guard_target = k0_cond1 _ _ _ _ = _; exact h1) | (guard_target = k0_cond2 _ _ = _; exact h2) | (guard_target = ¬(k0_cond3 _ _ = _); exact h3))
    sl_step
    iapply Hk
    isplitl [H0]; · iexact H0
    isplitl [HT0]; · iexact HT0
    isplitl [HT1]; · iexact HT1
    isplitl [HT2]; · iexact HT2
    isplitl [HO4]; · iexists _; iexact HO4
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Hh0]; · iexact Hh0
    isplitl [Hh1]; · iexact Hh1
    isplitl [Hh2]; · iexact Hh2
    iexists _; iexact HW⟩

set_option backward.proofsInPublic true in
set_option maxHeartbeats 8000000 in
/-- PATH B. -/
noncomputable def runB (c : Dev nD) (i : grid0.Coords) (arg4 : Memref sig .tc .vmem S512x2048 .f32) (harg4 : arg4.IsWhole) (arg8 : Memref sig .tc .vmem S512x2048 .f32) (harg8 : arg8.IsWhole)
    (T0 T1 : S140.Idx → Elt F .i32) (T2 : S1.Idx → Elt F .i32) (x0 : S512x2048.Idx → Elt F .f32) (s0 : Buf (Elt F) ((c : Thread nD τ).loc cc0_scratch0)) (s1 : Buf (Elt F) ((c : Thread nD τ).loc cc0_scratch1)) (s2 : Buf (Elt F) ((c : Thread nD τ).loc cc0_scratch2))
    (g0 : Buf (Elt F) (hbG.view.loc (c : Thread nD τ))) (g1 : Buf (Elt F) (hbU.view.loc (c : Thread nD τ))) (g2 : Buf (Elt F) (hbD.view.loc (c : Thread nD τ)))
    (hchk : k0_chk1 i (wN T2) (wE i T0) (wP i T0)) (h1 : ¬k0_cond1 i (wN T2) (wE i T0) (wP i T0) = 1#1) (h2 : k0_cond2 i (wN T2) = 1#1) (h3 : ¬k0_cond3 i (wN T2) = 1#1) :
    { out0 : List (View.Piece (Elt F) S512x2048 .f32) //
      ∀  (W : Waits sig Unit) (K : PUnit → sProp 𝕄),
        iprop((arg4.view.loc (c : Thread nD τ) ↦[arg4.view.set]{fullShare} arg4.view.rep x0)
          ∗ (tbE.view.loc (c : Thread nD τ) ↦{fullShare.right} T0)
          ∗ (tbV.view.loc (c : Thread nD τ) ↦{fullShare.right} T1)
          ∗ (tbN.view.loc (c : Thread nD τ) ↦{fullShare.right} T2)
          ∗ (∃ d, owns (c : Thread nD τ) arg8 fullShare d)
          ∗ (scG.view.loc (c : Thread nD τ) ↦{fullShare} s0)
          ∗ (scU.view.loc (c : Thread nD τ) ↦{fullShare} s1)
          ∗ (scD.view.loc (c : Thread nD τ) ↦{fullShare} s2)
          ∗ semVal ((c : Thread nD τ), SemLoc.dma 4) 0 ∗ semVal ((c : Thread nD τ), SemLoc.dma 5) 0 ∗ semVal ((c : Thread nD τ), SemLoc.dma 6) 0
          ∗ (hbG.view.loc (c : Thread nD τ) ↦{fullShare} g0)
          ∗ (hbU.view.loc (c : Thread nD τ) ↦{fullShare} g1)
          ∗ (hbD.view.loc (c : Thread nD τ) ↦{fullShare} g2)
          ∗ owes (c : Thread nD τ) 0 W
          ∗ (iprop((arg4.view.loc (c : Thread nD τ) ↦[arg4.view.set]{fullShare} arg4.view.rep x0)
          ∗ (tbE.view.loc (c : Thread nD τ) ↦{fullShare.right} T0)
          ∗ (tbV.view.loc (c : Thread nD τ) ↦{fullShare.right} T1)
          ∗ (tbN.view.loc (c : Thread nD τ) ↦{fullShare.right} T2)
          ∗ (∃ f, arg8.view.loc (c : Thread nD τ) ↦[arg8.view.set]{fullShare} arg8.view.writes (Elt F) f out0)
          ∗ (scG.view.loc (c : Thread nD τ) ↦{fullShare} s0)
          ∗ (scU.view.loc (c : Thread nD τ) ↦{fullShare} s1)
          ∗ (scD.view.loc (c : Thread nD τ) ↦{fullShare} s2)
          ∗ semVal ((c : Thread nD τ), SemLoc.dma 4) 0 ∗ semVal ((c : Thread nD τ), SemLoc.dma 5) 0 ∗ semVal ((c : Thread nD τ), SemLoc.dma 6) 0
          ∗ (hbG.view.loc (c : Thread nD τ) ↦{fullShare} g0)
          ∗ (hbU.view.loc (c : Thread nD τ) ↦{fullShare} g1)
          ∗ (hbD.view.loc (c : Thread nD τ) ↦{fullShare} g2)
            ∗ (∃ W', owes (c : Thread nD τ) 0 W')) -∗ K ⟨⟩))
          ⊢ wp frame (wpE (defs₀ (F := F)) Variants.none c none) Set.univ (cc0_moe_expert_ffn i tbE (Memref.isWhole_whole _) tbV (Memref.isWhole_whole _) tbN (Memref.isWhole_whole _) arg4 harg4 hbG (Memref.isWhole_whole _) hbU (Memref.isWhole_whole _) hbD (Memref.isWhole_whole _) arg8 harg8 scG (Memref.isWhole_whole _) scU (Memref.isWhole_whole _) scD (Memref.isWhole_whole _) cc0_scratch3) K } :=
  ⟨_, fun W K => by
    unfold owns
    rw [cc0_moe_expert_ffn_eq_skeleton]; unfold cc0_moe_expert_ffn_skel
    iintro ⟨H0, HT0, HT1, HT2, ⟨%d4, %f4, -, HO4⟩, HS0, HS1, HS2, Hq0, Hq1, Hq2, Hh0, Hh1, Hh2, HW, Hk⟩
    have hS0 : scG.IsWhole := Memref.isWhole_whole _
    have hS1 : scU.IsWhole := Memref.isWhole_whole _
    have hS2 : scD.IsWhole := Memref.isWhole_whole _
    have hT0 : tbE.IsWhole := Memref.isWhole_whole _
    have hT1 : tbV.IsWhole := Memref.isWhole_whole _
    have hT2 : tbN.IsWhole := Memref.isWhole_whole _
    sl_exec! (disch := first | (guard_target = k0_chk1 _ _ _ _; exact hchk) | (guard_target = ¬(k0_cond1 _ _ _ _ = _); exact h1) | (guard_target = k0_cond2 _ _ = _; exact h2) | (guard_target = ¬(k0_cond3 _ _ = _); exact h3))
    sl_step
    iapply Hk
    isplitl [H0]; · iexact H0
    isplitl [HT0]; · iexact HT0
    isplitl [HT1]; · iexact HT1
    isplitl [HT2]; · iexact HT2
    isplitl [HO4]; · iexists _; iexact HO4
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Hh0]; · iexact Hh0
    isplitl [Hh1]; · iexact Hh1
    isplitl [Hh2]; · iexact Hh2
    iexists _; iexact HW⟩

set_option backward.proofsInPublic true in
set_option maxHeartbeats 8000000 in
/-- PATH C. -/
noncomputable def runC (c : Dev nD) (i : grid0.Coords) (arg4 : Memref sig .tc .vmem S512x2048 .f32) (harg4 : arg4.IsWhole) (arg8 : Memref sig .tc .vmem S512x2048 .f32) (harg8 : arg8.IsWhole)
    (T0 T1 : S140.Idx → Elt F .i32) (T2 : S1.Idx → Elt F .i32) (x0 : S512x2048.Idx → Elt F .f32) (s0 : Buf (Elt F) ((c : Thread nD τ).loc cc0_scratch0)) (s1 : Buf (Elt F) ((c : Thread nD τ).loc cc0_scratch1)) (s2 : Buf (Elt F) ((c : Thread nD τ).loc cc0_scratch2))
    (g0 : Buf (Elt F) (hbG.view.loc (c : Thread nD τ))) (g1 : Buf (Elt F) (hbU.view.loc (c : Thread nD τ))) (g2 : Buf (Elt F) (hbD.view.loc (c : Thread nD τ)))
    (hchk : k0_chk1 i (wN T2) (wE i T0) (wP i T0)) (h1 : ¬k0_cond1 i (wN T2) (wE i T0) (wP i T0) = 1#1) (h2 : ¬k0_cond2 i (wN T2) = 1#1) (h3 : k0_cond3 i (wN T2) = 1#1) :
    { out0 : List (View.Piece (Elt F) S512x2048 .f32) //
      ∀  (W : Waits sig Unit) (K : PUnit → sProp 𝕄),
        iprop((arg4.view.loc (c : Thread nD τ) ↦[arg4.view.set]{fullShare} arg4.view.rep x0)
          ∗ (tbE.view.loc (c : Thread nD τ) ↦{fullShare.right} T0)
          ∗ (tbV.view.loc (c : Thread nD τ) ↦{fullShare.right} T1)
          ∗ (tbN.view.loc (c : Thread nD τ) ↦{fullShare.right} T2)
          ∗ (∃ d, owns (c : Thread nD τ) arg8 fullShare d)
          ∗ (scG.view.loc (c : Thread nD τ) ↦{fullShare} s0)
          ∗ (scU.view.loc (c : Thread nD τ) ↦{fullShare} s1)
          ∗ (scD.view.loc (c : Thread nD τ) ↦{fullShare} s2)
          ∗ semVal ((c : Thread nD τ), SemLoc.dma 4) 0 ∗ semVal ((c : Thread nD τ), SemLoc.dma 5) 0 ∗ semVal ((c : Thread nD τ), SemLoc.dma 6) 0
          ∗ (hbG.view.loc (c : Thread nD τ) ↦{fullShare} g0)
          ∗ (hbU.view.loc (c : Thread nD τ) ↦{fullShare} g1)
          ∗ (hbD.view.loc (c : Thread nD τ) ↦{fullShare} g2)
          ∗ owes (c : Thread nD τ) 0 W
          ∗ (iprop((arg4.view.loc (c : Thread nD τ) ↦[arg4.view.set]{fullShare} arg4.view.rep x0)
          ∗ (tbE.view.loc (c : Thread nD τ) ↦{fullShare.right} T0)
          ∗ (tbV.view.loc (c : Thread nD τ) ↦{fullShare.right} T1)
          ∗ (tbN.view.loc (c : Thread nD τ) ↦{fullShare.right} T2)
          ∗ (∃ f, arg8.view.loc (c : Thread nD τ) ↦[arg8.view.set]{fullShare} arg8.view.writes (Elt F) f out0)
          ∗ (scG.view.loc (c : Thread nD τ) ↦{fullShare} s0)
          ∗ (scU.view.loc (c : Thread nD τ) ↦{fullShare} s1)
          ∗ (scD.view.loc (c : Thread nD τ) ↦{fullShare} s2)
          ∗ semVal ((c : Thread nD τ), SemLoc.dma 4) 0 ∗ semVal ((c : Thread nD τ), SemLoc.dma 5) 0 ∗ semVal ((c : Thread nD τ), SemLoc.dma 6) 0
          ∗ (hbG.view.loc (c : Thread nD τ) ↦{fullShare} g0)
          ∗ (hbU.view.loc (c : Thread nD τ) ↦{fullShare} g1)
          ∗ (hbD.view.loc (c : Thread nD τ) ↦{fullShare} g2)
            ∗ (∃ W', owes (c : Thread nD τ) 0 W')) -∗ K ⟨⟩))
          ⊢ wp frame (wpE (defs₀ (F := F)) Variants.none c none) Set.univ (cc0_moe_expert_ffn i tbE (Memref.isWhole_whole _) tbV (Memref.isWhole_whole _) tbN (Memref.isWhole_whole _) arg4 harg4 hbG (Memref.isWhole_whole _) hbU (Memref.isWhole_whole _) hbD (Memref.isWhole_whole _) arg8 harg8 scG (Memref.isWhole_whole _) scU (Memref.isWhole_whole _) scD (Memref.isWhole_whole _) cc0_scratch3) K } :=
  ⟨_, fun W K => by
    unfold owns
    rw [cc0_moe_expert_ffn_eq_skeleton]; unfold cc0_moe_expert_ffn_skel
    iintro ⟨H0, HT0, HT1, HT2, ⟨%d4, %f4, -, HO4⟩, HS0, HS1, HS2, Hq0, Hq1, Hq2, Hh0, Hh1, Hh2, HW, Hk⟩
    have hS0 : scG.IsWhole := Memref.isWhole_whole _
    have hS1 : scU.IsWhole := Memref.isWhole_whole _
    have hS2 : scD.IsWhole := Memref.isWhole_whole _
    have hT0 : tbE.IsWhole := Memref.isWhole_whole _
    have hT1 : tbV.IsWhole := Memref.isWhole_whole _
    have hT2 : tbN.IsWhole := Memref.isWhole_whole _
    sl_exec! (disch := first | (guard_target = k0_chk1 _ _ _ _; exact hchk) | (guard_target = ¬(k0_cond1 _ _ _ _ = _); exact h1) | (guard_target = ¬(k0_cond2 _ _ = _); exact h2) | (guard_target = k0_cond3 _ _ = _; exact h3))
    sl_step
    iapply Hk
    isplitl [H0]; · iexact H0
    isplitl [HT0]; · iexact HT0
    isplitl [HT1]; · iexact HT1
    isplitl [HT2]; · iexact HT2
    isplitl [HO4]; · iexists _; iexact HO4
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Hh0]; · iexact Hh0
    isplitl [Hh1]; · iexact Hh1
    isplitl [Hh2]; · iexact Hh2
    iexists _; iexact HW⟩

end Cert.Kernel9Ideal.Gen

end
-- ==== Proof.Words9.lean ====
module

public import proofs.«01_k».proof.Proof.Run9

/-! The routed experts' kernel: what its words decide at a grid point. -/

@[expose] public section

set_option maxRecDepth 16384

noncomputable section

namespace Cert.Kernel9Ideal.Gen

open Idealize.ShloMosaic Idealize.ShloMosaic.TcCoe

variable {F : FTy → Type} [FloatOps F] [Named F]

/-- The tables are in range: every block's expert is one of the eight, at least one and at most 140 blocks are active. -/
structure Good (T0 : S140.Idx → BitVec 32) (T2 : S1.Idx → BitVec 32) : Prop where
  e : ∀ x, (T0 x).toNat < 8
  lo : ∀ x, 1 ≤ (T2 x).toNat
  hi : ∀ x, (T2 x).toNat ≤ 140

theorem i_lt (i : grid0.Coords) : (i 0).val < 140 := (i 0).isLt

/-- The position of the point `i` in a table. -/
def at1 (i : grid0.Coords) : S140.Idx := fun d => match d with | ⟨0, _⟩ => ⟨(i 0).val, i_lt i⟩
/-- The one position of the one-word table. -/
def o1 : S1.Idx := fun d => match d with | ⟨0, _⟩ => ⟨0, Nat.one_pos⟩

theorem wN_eq (T2 : S1.Idx → Elt F .i32) : wN (F := F) T2 = T2 o1 :=
  congrArg T2 (by
    funext a; obtain rfl : a = 0 := Subsingleton.elim (α := Fin 1) _ _
    exact Subsingleton.elim (α := Fin 1) _ _)

theorem wE_eq (i : grid0.Coords) (T0 : S140.Idx → Elt F .i32) : wE (F := F) i T0 = T0 (at1 i) :=
  congrArg T0 (by
    funext a
    obtain rfl : a = 0 := Subsingleton.elim (α := Fin 1) _ _
    refine Fin.ext ?_
    show (BitVec.ofNat 32 (i 0).val).toNat + 1 * 0 = (i 0).val
    rw [BitVec.toNat_ofNat]; have := i_lt i; omega)

theorem wP_eq (i j : grid0.Coords) (hij : (i 0).val = (j 0).val + 1) (T0 : S140.Idx → Elt F .i32) :
    wP (F := F) i T0 = wE (F := F) j T0 := by
  rw [wE_eq]
  refine congrArg T0 ?_
  funext a
  obtain rfl : a = 0 := Subsingleton.elim (α := Fin 1) _ _
  refine Fin.ext ?_
  show (Scalar.maxsi (Scalar.subi (BitVec.ofNat 32 (i 0).val) 1#32) 0#32).toNat + 1 * 0 = (j 0).val
  have h : ∀ k : Fin 139, (Scalar.maxsi (Scalar.subi (BitVec.ofNat 32 (k.val + 1)) 1#32) 0#32).toNat = k.val := by decide
  have := h ⟨(j 0).val, by have := i_lt i; omega⟩
  rw [hij]; omega

theorem bit_ne (b : Bool) : (Scalar.cmpi .ne (Scalar.extui (BitVec.ofBool b) : BitVec 32) 0#32 = 1#1) ↔ b = true := by
  cases b <;> decide

theorem slt_eq (i : grid0.Coords) (v0 : BitVec 32) (h : v0.toNat ≤ 140) :
    Scalar.cmpi .slt (BitVec.ofNat 32 (i 0).val) v0 = BitVec.ofBool (decide ((i 0).val < v0.toNat)) := by
  have hi := i_lt i
  show BitVec.ofBool (decide ((BitVec.ofNat 32 (i 0).val).toInt < v0.toInt)) = _
  refine congrArg BitVec.ofBool (decide_eq_decide.2 ?_)
  rw [BitVec.toInt_eq_toNat_of_lt (by rw [BitVec.toNat_ofNat]; omega), BitVec.toInt_eq_toNat_of_lt (by omega), BitVec.toNat_ofNat]
  omega

theorem cond2_iff (i : grid0.Coords) (v0 : BitVec 32) (h : v0.toNat ≤ 140) : k0_cond2 i v0 = 1#1 ↔ (i 0).val < v0.toNat := by
  unfold k0_cond2; dsimp only
  rw [slt_eq i v0 h, bit_ne, decide_eq_true_iff]

theorem cond3_iff (i : grid0.Coords) (v0 : BitVec 32) (h : v0.toNat ≤ 140) : k0_cond3 i v0 = 1#1 ↔ ¬(i 0).val < v0.toNat := by
  unfold k0_cond3; dsimp only
  rw [slt_eq i v0 h, show ∀ b : Bool, Scalar.xori (BitVec.ofBool b) 1#1 = BitVec.ofBool (!b) from by decide, bit_ne]
  simp

theorem cond1_iff (i : grid0.Coords) (v0 v3 v8 : BitVec 32) (h : v0.toNat ≤ 140) :
    k0_cond1 i v0 v3 v8 = 1#1 ↔ (i 0).val < v0.toNat ∧ ((i 0).val = 0 ∨ v3 ≠ v8) := by
  have hi := i_lt i
  unfold k0_cond1; dsimp only
  rw [slt_eq i v0 h, show Scalar.cmpi .eq (BitVec.ofNat 32 (i 0).val) 0#32 = BitVec.ofBool (decide ((i 0).val = 0)) from by
      show IntOp.cmpi .eq _ _ = _
      rw [WordCmp.cmpi_eq_eq]
      refine congrArg BitVec.ofBool (decide_eq_decide.2 ⟨fun hh => ?_, fun hh => by rw [hh]⟩)
      have := congrArg BitVec.toNat hh
      rw [BitVec.toNat_ofNat] at this
      have h0 : (0#32).toNat = 0 := rfl
      omega,
    show Scalar.cmpi .ne v3 v8 = BitVec.ofBool (decide (v3 ≠ v8)) from WordCmp.cmpi_ne_eq v3 v8,
    show ∀ b c : Bool, Scalar.ori (BitVec.ofBool b) (BitVec.ofBool c) = BitVec.ofBool (b || c) from by decide,
    show ∀ b c : Bool, Scalar.andi (BitVec.ofBool b) (BitVec.ofBool c) = BitVec.ofBool (b && c) from by decide, bit_ne]
  simp

theorem chk1 (i : grid0.Coords) (v0 v3 v8 : BitVec 32) (h : v3.toNat < 8) : k0_chk1 i v0 v3 v8 := by
  unfold k0_chk1 k0_off3 k0_off4
  dsimp only
  generalize v3.toNat = n at h
  refine ⟨fun _ => ?_, fun _ hb => ?_, fun _ => ?_, fun _ hb => ?_⟩
  · intro a; fin_cases a
    · show n + 1 ≤ 8; omega
    · show 0 + 2048 ≤ 2048; omega
    · show 0 + 2816 ≤ 2816; omega
  · exact Or.inr ⟨by decide, rfl, rfl, rfl⟩
  · intro a; fin_cases a
    · show n + 1 ≤ 8; omega
    · show 0 + 2816 ≤ 2816; omega
    · show 0 + 2048 ≤ 2048; omega
  · exact Or.inr ⟨by decide, rfl, rfl, rfl⟩

/-- The tables' contents the launch finds. -/
def pf (T0 T1 : S140.Idx → Elt F .i32) (T2 : S1.Idx → Elt F .i32) : pre0.Contents (Elt F) :=
  fun | ⟨0, _⟩ => T0 | ⟨1, _⟩ => T1 | ⟨2, _⟩ => T2 | ⟨_ + 3, h⟩ => absurd h (by simp)

/-- The row block the point reads: its own while it is active, else the last active one. -/
theorem tr0 (T0 T1 : S140.Idx → Elt F .i32) (T2 : S1.Idx → Elt F .i32) (hg : Good T0 T2) (i : grid0.Coords) :
    cc0_transform_0 inb_S1_S1_0 numel1_S1 (pf T0 T1 T2) i
      = ![min (i 0).val ((wN (F := F) T2).toNat - 1), 0] := by
  have hi := i_lt i
  have h1 := hg.lo o1
  have h2 := hg.hi o1
  rw [wN_eq]
  generalize hv : T2 o1 = v
  have hv' : (pf T0 T1 T2).at 2 (Rect.unit (s := S1) ![0] S1.size inb_S1_S1_0) numel1_S1 = v := by
    exact (show _ = wN (F := F) T2 from rfl).trans ((wN_eq T2).trans hv)
  unfold cc0_transform_0; dsimp only
  rw [hv']; rw [hv] at h1 h2
  have key : (Scalar.minsi (BitVec.ofNat 32 (i 0).val) (Scalar.subi v 1#32)).toNat = min (i 0).val (v.toNat - 1) := by
    have e1 : Scalar.subi v 1#32 = BitVec.ofNat 32 (v.toNat - 1) := by
      apply BitVec.eq_of_toNat_eq
      show (v - 1#32).toNat = _
      have : (1#32).toNat = 1 := rfl
      rw [BitVec.toNat_sub, BitVec.toNat_ofNat (v.toNat - 1), this]
      omega
    rw [e1]
    show (if (BitVec.ofNat 32 (i 0).val).slt (BitVec.ofNat 32 (v.toNat - 1)) then BitVec.ofNat 32 (i 0).val else BitVec.ofNat 32 (v.toNat - 1) : BitVec 32).toNat = _
    rw [BitVec.slt_eq_decide, BitVec.toInt_eq_toNat_of_lt (by rw [BitVec.toNat_ofNat]; omega), BitVec.toInt_eq_toNat_of_lt (by rw [BitVec.toNat_ofNat]; omega),
      BitVec.toNat_ofNat, BitVec.toNat_ofNat]
    simp only [decide_eq_true_iff]
    split_ifs <;> rw [BitVec.toNat_ofNat] <;> omega
  rw [key]; rfl

theorem ok_pf (T0 T1 : S140.Idx → Elt F .i32) (T2 : S1.Idx → Elt F .i32) (hg : Good T0 T2) : ok0 (pf T0 T1 T2) := by
  intro i
  refine ⟨?_, Or.inl rfl⟩
  rw [tr0 T0 T1 T2 hg i]
  have hi := i_lt i
  intro a; fin_cases a
  · show (min (i 0).val ((wN (F := F) T2).toNat - 1) + 1) * 512 ≤ 71680
    omega
  · show (0 + 1) * 2048 ≤ 2048; omega

end Cert.Kernel9Ideal.Gen

end
-- ==== Proof.Slab9.lean ====
module

public import proofs.«01_k».proof.Proof.Words9
public import Idealize.ShloMosaic.Lib.Pointwise

/-! The routed experts' kernel: what one grid point leaves in the scratch copies and in its output block. -/

@[expose] public section

set_option maxRecDepth 16384

noncomputable section

namespace Cert.Kernel9Ideal.Gen

open Idealize.ShloMosaic Idealize.ShloMosaic.TcCoe Idealize.ShloMosaic.Pointwise

variable {F : FTy → Type} [FloatOps F] [Named F]

/-- Expert `e`'s matrix out of the eight stacked ones (gate and up). -/
def slab (e : BitVec 32) (g : S8x2048x2816.Idx → Elt F .bf16) : S2048x2816.Idx → Elt F .bf16 := fun y =>
  g fun d => match d with | ⟨0, _⟩ => ⟨e.toNat % 8, Nat.mod_lt _ (by decide)⟩ | ⟨1, _⟩ => ⟨(y 0).val, (y 0).isLt⟩ | ⟨2, _⟩ => ⟨(y 1).val, (y 1).isLt⟩
/-- Expert `e`'s matrix out of the eight stacked ones (down). -/
def slabD (e : BitVec 32) (g : S8x2816x2048.Idx → Elt F .bf16) : S2816x2048.Idx → Elt F .bf16 := fun y =>
  g fun d => match d with | ⟨0, _⟩ => ⟨e.toNat % 8, Nat.mod_lt _ (by decide)⟩ | ⟨1, _⟩ => ⟨(y 0).val, (y 0).isLt⟩ | ⟨2, _⟩ => ⟨(y 1).val, (y 1).isLt⟩

theorem cast_gate {α : Type} (x : S1x2048x2816.Idx → α) (h : S1x2048x2816.ShapeCasts S2048x2816) (y : S2048x2816.Idx) :
    shapeCast S2048x2816 x h y = x (ix3 (n0 := 1) (n1 := 2048) (n2 := 2816) 0 (y 0) (y 1)) := by
  idx_vars y
  pointwise
theorem cast_down {α : Type} (x : S1x2816x2048.Idx → α) (h : S1x2816x2048.ShapeCasts S2816x2048) (y : S2816x2048.Idx) :
    shapeCast S2816x2048 x h y = x (ix3 (n0 := 1) (n1 := 2816) (n2 := 2048) 0 (y 0) (y 1)) := by
  idx_vars y
  pointwise

theorem off4_0 (v : BitVec 32) (h : v.toNat < 8) : k0_off4 v 0 = v.toNat % 8 := (Nat.mod_eq_of_lt h).symm

theorem off3_0 (v : BitVec 32) (h : v.toNat < 8) : k0_off3 v 0 = v.toNat % 8 := (Nat.mod_eq_of_lt h).symm

variable (c : Dev nD) (i : grid0.Coords) (arg4 : Memref sig .tc .vmem S512x2048 .f32) (harg4 : arg4.IsWhole) (arg8 : Memref sig .tc .vmem S512x2048 .f32) (harg8 : arg8.IsWhole)
    (T0 T1 : S140.Idx → Elt F .i32) (T2 : S1.Idx → Elt F .i32) (x0 : S512x2048.Idx → Elt F .f32) (s0 : Buf (Elt F) ((c : Thread nD τ).loc cc0_scratch0)) (s1 : Buf (Elt F) ((c : Thread nD τ).loc cc0_scratch1)) (s2 : Buf (Elt F) ((c : Thread nD τ).loc cc0_scratch2))
    (g0 : Buf (Elt F) (hbG.view.loc (c : Thread nD τ))) (g1 : Buf (Elt F) (hbU.view.loc (c : Thread nD τ))) (g2 : Buf (Elt F) (hbD.view.loc (c : Thread nD τ)))
    (hchk : k0_chk1 i (wN T2) (wE i T0) (wP i T0))

theorem readG (off : Fin 3 → ℕ) (inb : ∀ a, off a + S1x2048x2816.size a ≤ S8x2048x2816.size a) (hr)
    (g : S8x2048x2816.Idx → Elt F .bf16) (e : BitVec 32) (h0 : off 0 = e.toNat % 8) (h1 : off 1 = 0) (h2 : off 2 = 0) :
    View.read (Elt F) ((hbG.slice (Rect.unit (s := S8x2048x2816) off S1x2048x2816.size inb) hr).squeeze S2048x2816 squeezes_S1x2048x2816_S2048x2816).view g = slab e g := by
  rw [Memref.read_squeeze_slice hbG _ hr _ (show S1x2048x2816.ShapeCasts S2048x2816 by decide)]
  funext y
  refine Eq.trans (cast_gate (View.readAt (Elt F) hbG.view (Rect.unit (s := S8x2048x2816) off S1x2048x2816.size inb).toLoadRect g) (by decide) y) ?_
  refine congrArg g ?_
  funext d
  refine Fin.ext ?_
  match d with
  | ⟨0, _⟩ => show off 0 + 1 * 0 = _; rw [h0]; rfl
  | ⟨1, _⟩ => show off 1 + 1 * (y 0).val = (y 0).val; omega
  | ⟨2, _⟩ => show off 2 + 1 * (y 1).val = (y 1).val; omega

theorem readU (off : Fin 3 → ℕ) (inb : ∀ a, off a + S1x2048x2816.size a ≤ S8x2048x2816.size a) (hr)
    (g : S8x2048x2816.Idx → Elt F .bf16) (e : BitVec 32) (h0 : off 0 = e.toNat % 8) (h1 : off 1 = 0) (h2 : off 2 = 0) :
    View.read (Elt F) ((hbU.slice (Rect.unit (s := S8x2048x2816) off S1x2048x2816.size inb) hr).squeeze S2048x2816 squeezes_S1x2048x2816_S2048x2816).view g = slab e g := by
  rw [Memref.read_squeeze_slice hbU _ hr _ (show S1x2048x2816.ShapeCasts S2048x2816 by decide)]
  funext y
  refine Eq.trans (cast_gate (View.readAt (Elt F) hbU.view (Rect.unit (s := S8x2048x2816) off S1x2048x2816.size inb).toLoadRect g) (by decide) y) ?_
  refine congrArg g ?_
  funext d
  refine Fin.ext ?_
  match d with
  | ⟨0, _⟩ => show off 0 + 1 * 0 = _; rw [h0]; rfl
  | ⟨1, _⟩ => show off 1 + 1 * (y 0).val = (y 0).val; omega
  | ⟨2, _⟩ => show off 2 + 1 * (y 1).val = (y 1).val; omega

theorem readD (off : Fin 3 → ℕ) (inb : ∀ a, off a + S1x2816x2048.size a ≤ S8x2816x2048.size a) (hr)
    (g : S8x2816x2048.Idx → Elt F .bf16) (e : BitVec 32) (h0 : off 0 = e.toNat % 8) (h1 : off 1 = 0) (h2 : off 2 = 0) :
    View.read (Elt F) ((hbD.slice (Rect.unit (s := S8x2816x2048) off S1x2816x2048.size inb) hr).squeeze S2816x2048 squeezes_S1x2816x2048_S2816x2048).view g = slabD e g := by
  rw [Memref.read_squeeze_slice hbD _ hr _ (show S1x2816x2048.ShapeCasts S2816x2048 by decide)]
  funext y
  refine Eq.trans (cast_down (View.readAt (Elt F) hbD.view (Rect.unit (s := S8x2816x2048) off S1x2816x2048.size inb).toLoadRect g) (by decide) y) ?_
  refine congrArg g ?_
  funext d
  refine Fin.ext ?_
  match d with
  | ⟨0, _⟩ => show off 0 + 1 * 0 = _; rw [h0]; rfl
  | ⟨1, _⟩ => show off 1 + 1 * (y 0).val = (y 0).val; omega
  | ⟨2, _⟩ => show off 2 + 1 * (y 1).val = (y 1).val; omega

theorem landG (hg : (wE (F := F) i T0).toNat < 8) (h1 : k0_cond1 i (wN T2) (wE i T0) (wP i T0) = 1#1) (h2 : k0_cond2 i (wN T2) = 1#1) (h3 : ¬k0_cond3 i (wN T2) = 1#1) :
    (runA c i arg4 harg4 arg8 harg8 T0 T1 T2 x0 s0 s1 s2 g0 g1 g2 hchk h1 h2 h3).2.1 = slab (wE i T0) g0 := by
  show View.write (Elt F) scG.view s0 _ Finset.univ = _
  rw [View.write_whole_univ]
  exact readG (k0_off3 (wE (F := F) i T0)) _ _ g0 (wE i T0) (off3_0 _ hg) rfl rfl

theorem landU (hg : (wE (F := F) i T0).toNat < 8) (h1 : k0_cond1 i (wN T2) (wE i T0) (wP i T0) = 1#1) (h2 : k0_cond2 i (wN T2) = 1#1) (h3 : ¬k0_cond3 i (wN T2) = 1#1) :
    (runA c i arg4 harg4 arg8 harg8 T0 T1 T2 x0 s0 s1 s2 g0 g1 g2 hchk h1 h2 h3).2.2.1 = slab (wE i T0) g1 := by
  show View.write (Elt F) scU.view s1 _ Finset.univ = _
  rw [View.write_whole_univ]
  exact readU (k0_off3 (wE (F := F) i T0)) _ _ g1 (wE i T0) (off3_0 _ hg) rfl rfl

theorem landD (hg : (wE (F := F) i T0).toNat < 8) (h1 : k0_cond1 i (wN T2) (wE i T0) (wP i T0) = 1#1) (h2 : k0_cond2 i (wN T2) = 1#1) (h3 : ¬k0_cond3 i (wN T2) = 1#1) :
    (runA c i arg4 harg4 arg8 harg8 T0 T1 T2 x0 s0 s1 s2 g0 g1 g2 hchk h1 h2 h3).2.2.2.1 = slabD (wE i T0) g2 := by
  show View.write (Elt F) scD.view s2 _ Finset.univ = _
  rw [View.write_whole_univ]
  exact readD (k0_off4 (wE (F := F) i T0)) _ _ g2 (wE i T0) (off4_0 _ hg) rfl rfl

/-- What a working point stores. -/
abbrev stB : List (View.Piece (Elt F) S512x2048 .f32) := runB.sl.HO4_1 c i arg4 T1 x0 s0 s1 s2

theorem outA (hg : (wE (F := F) i T0).toNat < 8) (h1 : k0_cond1 i (wN T2) (wE i T0) (wP i T0) = 1#1) (h2 : k0_cond2 i (wN T2) = 1#1) (h3 : ¬k0_cond3 i (wN T2) = 1#1) :
    (runA c i arg4 harg4 arg8 harg8 T0 T1 T2 x0 s0 s1 s2 g0 g1 g2 hchk h1 h2 h3).1 = stB c i arg4 T1 x0 (slab (wE i T0) g0) (slab (wE i T0) g1) (slabD (wE i T0) g2) := by
  rw [← landG c i arg4 harg4 arg8 harg8 T0 T1 T2 x0 s0 s1 s2 g0 g1 g2 hchk hg h1 h2 h3, ← landU c i arg4 harg4 arg8 harg8 T0 T1 T2 x0 s0 s1 s2 g0 g1 g2 hchk hg h1 h2 h3, ← landD c i arg4 harg4 arg8 harg8 T0 T1 T2 x0 s0 s1 s2 g0 g1 g2 hchk hg h1 h2 h3]
  rfl

theorem outB (h1) (h2) (h3) : (runB c i arg4 harg4 arg8 harg8 T0 T1 T2 x0 s0 s1 s2 g0 g1 g2 hchk h1 h2 h3).1 = stB c i arg4 T1 x0 s0 s1 s2 := rfl

end Cert.Kernel9Ideal.Gen

end
-- ==== Proof.Frame9.lean ====
module

public import proofs.«01_k».proof.Proof.Slab9
public import Idealize.ShloMosaic.Lib.Pipeline.TableIdle

/-! The routed experts' kernel: the whole grid, and what the run leaves. -/

@[expose] public section

set_option maxRecDepth 16384
set_option Elab.async false

noncomputable section

namespace Cert.Kernel9Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (Pipeline.UD sig nD τ) ℕ

/-- The three tables, in range. -/
structure Tab where
  T0 : S140.Idx → BitVec 32
  T1 : S140.Idx → BitVec 32
  T2 : S1.Idx → BitVec 32
  good : Good T0 T2

variable (b : Tab) (m : (ℓ : Loc nD τ sig) → Buf (Elt F) ℓ) (ρ : Dev nD → PrngReg)

/-- The memory's tables are these. -/
def Held : Prop := ∀ c : Dev nD, m ((c : Thread nD τ).loc main_arg1) = b.T0 ∧ m ((c : Thread nD τ).loc main_arg2) = b.T1 ∧ m ((c : Thread nD τ).loc main_arg3) = b.T2

/-- The admissible contents, and the pipeline at them. -/
def adm : (pcfg0 (F := F)).Adm := ⟨pf b.T0 b.T1 b.T2, ok_pf b.T0 b.T1 b.T2 b.good⟩
abbrev cfgA : Pipeline.Cfg sig Λ₀ := cfg0 (F := F) (adm b)

/-- Point `t`'s coordinates. -/
abbrev crd (t : Fin (cfgA (F := F) b).N) : (cfgA (F := F) b).grid.Coords := (cfgA (F := F) b).grid.coords t

theorem N_A : (cfgA (F := F) b).N = 140 := N_0

theorem crd0 (t : Fin (cfgA (F := F) b).N) : (crd b t 0).val = t.val := by
  have := lt_of_lt_of_eq t.isLt (N_A (F := F) b)
  show t.val / 1 % 140 = _
  omega

abbrev ms0 (t : Fin (cfgA (F := F) b).N) : Memref sig .tc .vmem S512x2048 .f32 := spec0_0.stage ((cfgA (F := F) b).slots t (0 : Fin 2))
abbrev hs0 (t : Fin (cfgA (F := F) b).N) : (ms0 b t).IsWhole := hstage0_0 (((cfgA (F := F) b).slots t (0 : Fin 2)).cast nbuf0_0)
abbrev ms1 (t : Fin (cfgA (F := F) b).N) : Memref sig .tc .vmem S512x2048 .f32 := spec0_1.stage ((cfgA (F := F) b).slots t (1 : Fin 2))
abbrev hs1 (t : Fin (cfgA (F := F) b).N) : (ms1 b t).IsWhole := hstage0_1 (((cfgA (F := F) b).slots t (1 : Fin 2)).cast nbuf0_1)

/-- Window `w`'s block at point `t`, read off its array at launch. -/
def iblk (c : Dev nD) (w : Fin (cfgA (F := F) b).W) (t : Fin (cfgA (F := F) b).N) : (((cfgA (F := F) b).win w).xblock (crd b t)).Idx → Elt F ((cfgA (F := F) b).win w).elt :=
  (((cfgA (F := F) b).win w).blk t).view.read (Elt F) (m (((cfgA (F := F) b).win w).arr.view.loc (c : Thread nD τ)))

/-- The output block's staging buffer, as a place to read the stored pieces back from. -/
abbrev VO : View sig .tc .vmem S512x2048 .f32 := (spec0_1.stage 0).view

/-- The words at point `t`. -/
abbrev vN : BitVec 32 := wN (F := F) b.T2
abbrev vE (t : Fin (cfgA (F := F) b).N) : BitVec 32 := wE (F := F) (crd b t) b.T0

theorem vN_le : (vN (F := F) b).toNat ≤ 140 := by rw [show vN (F := F) b = b.T2 o1 from wN_eq (F := F) b.T2]; exact b.good.hi _
theorem vE_lt (t : Fin (cfgA (F := F) b).N) : (vE (F := F) b t).toNat < 8 := by rw [show vE (F := F) b t = b.T0 (at1 (crd b t)) from wE_eq (F := F) _ b.T0]; exact b.good.e _

/-- Point `t` works on a block. -/
def Act (t : Fin (cfgA (F := F) b).N) : Prop := t.val < (vN (F := F) b).toNat
instance (t : Fin (cfgA (F := F) b).N) : Decidable (Act b t) := inferInstanceAs (Decidable (_ < _))

/-- What the point leaves in the output's staging buffer. -/
def out (c : Dev nD) (t : Fin (cfgA (F := F) b).N) : S512x2048.Idx → Elt F .f32 :=
  if Act b t then
    VO.read (Elt F) (VO.writes (Elt F) VO.junk (stB c (crd b t) (ms0 b t) b.T1 (iblk b m c (0 : Fin 2) t)
      (slab (vE (F := F) b t) (m ((c : Thread nD τ).loc main_v0))) (slab (vE (F := F) b t) (m ((c : Thread nD τ).loc main_v1))) (slabD (vE (F := F) b t) (m ((c : Thread nD τ).loc main_v2)))))
  else VO.read (Elt F) (VO.writes (Elt F) VO.junk runC.sl.HO4_1)

/-- The scratch copies before position `n`: the expert's of the point before, if that point worked. -/
def Kept (c : Dev nD) (n : ℕ) (s0 : Buf (Elt F) ((c : Thread nD τ).loc cc0_scratch0)) (s1 : Buf (Elt F) ((c : Thread nD τ).loc cc0_scratch1)) (s2 : Buf (Elt F) ((c : Thread nD τ).loc cc0_scratch2)) : Prop :=
  ∀ j : Fin (cfgA (F := F) b).N, n = j.val + 1 → Act b j →
    s0 = slab (vE (F := F) b j) (m ((c : Thread nD τ).loc main_v0)) ∧ s1 = slab (vE (F := F) b j) (m ((c : Thread nD τ).loc main_v1)) ∧ s2 = slabD (vE (F := F) b j) (m ((c : Thread nD τ).loc main_v2))

/-- The invariant before position `n`. -/
def Phi (c : Dev nD) (n : ℕ) : sProp 𝕄 :=
  iprop((∃ s0, ∃ s1, ∃ s2, ⌜Kept b m c n s0 s1 s2⌝ ∗ (scG.view.loc (c : Thread nD τ) ↦{fullShare} s0) ∗ (scU.view.loc (c : Thread nD τ) ↦{fullShare} s1) ∗ (scD.view.loc (c : Thread nD τ) ↦{fullShare} s2))
    ∗ (∃ r, prngReg c r)
    ∗ (semVal ((c : Thread nD τ), SemLoc.dma 4) 0 ∗ semVal ((c : Thread nD τ), SemLoc.dma 5) 0 ∗ semVal ((c : Thread nD τ), SemLoc.dma 6) 0)
    ∗ ((hbG.view.loc (c : Thread nD τ) ↦{fullShare} m ((c : Thread nD τ).loc main_v0)) ∗ (hbU.view.loc (c : Thread nD τ) ↦{fullShare} m ((c : Thread nD τ).loc main_v1)) ∗ (hbD.view.loc (c : Thread nD τ) ↦{fullShare} m ((c : Thread nD τ).loc main_v2)))
    ∗ ((tbE.view.loc (c : Thread nD τ) ↦{fullShare.right} b.T0) ∗ (tbV.view.loc (c : Thread nD τ) ↦{fullShare.right} b.T1) ∗ (tbN.view.loc (c : Thread nD τ) ↦{fullShare.right} b.T2)))

/-- The pipeline's data. -/
def dats (_ : Fin 1) (c : Dev nD) : Dat τ (Elt F) Unit ℕ (Pipeline.UD sig nD τ) ℕ (cfgA (F := F) b) c where
  A w := m (((cfgA (F := F) b).win w).arr.view.loc (c : Thread nD τ))
  after w t := match w with
    | ⟨0, _⟩ => iblk b m c (0 : Fin 2) t
    | ⟨1, _⟩ => out b m c t
  Φ t := Phi b m c t.val
  q _ := fullShare
  owed _ := 0

theorem after0 (c : Dev nD) (t : Fin (cfgA (F := F) b).N) : (dats b m 0 c).after (0 : Fin 2) t = iblk b m c (0 : Fin 2) t := rfl
theorem after1 (c : Dev nD) (t : Fin (cfgA (F := F) b).N) : (dats b m 0 c).after (1 : Fin 2) t = out b m c t := rfl

theorem before0 (c : Dev nD) (t : Fin (cfgA (F := F) b).N) (d) : (dats b m 0 c).before (0 : Fin 2) t d = iblk b m c (0 : Fin 2) t :=
  ((dats b m 0 c).before_in_eq_fetched (0 : Fin 2) rfl (fun _ => rfl) (fun _ _ _ => rfl) (fun t => by rw [after0]; unfold Dat.blockOf iblk; rfl) t d).trans
    (by unfold Dat.fetched Dat.blockOf iblk; rfl)

theorem idle0_1 (pf : pre0.Contents (Elt F)) (i : grid0.Coords) :
    idle0 pf 1 i = (!(k0_cond2 i (pf.atD 2 ![0]) == 1#1) && !(k0_cond3 i (pf.atD 2 ![0]) == 1#1)) := by delta idle0; dsimp only

theorem live (i : grid0.Coords) (v : BitVec 32) (h : v.toNat ≤ 140) : (!(k0_cond2 i v == 1#1) && !(k0_cond3 i v == 1#1)) = false := by
  have h2 := cond2_iff i v h
  have h3 := cond3_iff i v h
  by_cases hh : (i 0).val < v.toNat
  · rw [h2.2 hh]; rfl
  · rw [h3.2 hh]; generalize k0_cond2 i v = x; revert x; decide

theorem atD_2 (T0 T1 : S140.Idx → Elt F .i32) (T2 : S1.Idx → Elt F .i32) : (pf (F := F) T0 T1 T2).atD 2 ![0] = T2 o1 := by
  unfold Pipeline.Prefetch.Contents.atD
  refine (dif_pos (show ∀ a : Fin 1, (![0] : Fin 1 → ℕ) a + 1 ≤ S1.size a by decide)).trans ?_
  refine congrArg T2 ?_
  funext a
  obtain rfl : a = (0 : Fin 1) := Subsingleton.elim (α := Fin 1) _ _
  rfl

theorem idle1 (t : Fin (cfgA (F := F) b).N) : (cfgA (F := F) b).idle (1 : Fin 2) ((cfgA (F := F) b).grid.coords t) = false := by
  refine (idle0_1 (pf b.T0 b.T1 b.T2) (crd b t)).trans ?_
  rw [atD_2]
  exact live _ _ (b.good.hi o1)

/-- The pieces stored are the whole block. -/
theorem covB (c : Dev nD) (i : grid0.Coords) (arg4 : Memref sig .tc .vmem S512x2048 .f32) (T1 : S140.Idx → Elt F .i32) (x0 s0 s1 s2) (y : S512x2048.Idx) :
    ∃ pc ∈ stB (F := F) c i arg4 T1 x0 s0 s1 s2, y ∈ pc.1.set :=
  View.cover_of_tiledL (stB (F := F) c i arg4 T1 x0 s0 s1 s2) S512x2048.size (by sl_kernel_rfl) y
theorem covC (y : S512x2048.Idx) : ∃ pc ∈ runC.sl.HO4_1 (F := F), y ∈ pc.1.set :=
  View.cover_of_tiledL (runC.sl.HO4_1 (F := F)) S512x2048.size (by sl_kernel_rfl) y

theorem step_inj (t j : Fin (cfgA (F := F) b).N) (h : t.val + 1 = j.val + 1) : j = t := Fin.ext (by omega)

/-- A point that does not fetch finds its expert's matrices already there. -/
theorem kept_here (c : Dev nD) (t : Fin (cfgA (F := F) b).N) (s0 s1 s2) (hk : Kept b m c t.val s0 s1 s2) (h2 : Act b t)
    (h1 : ¬k0_cond1 (crd b t) (vN (F := F) b) (vE (F := F) b t) (wP (F := F) (crd b t) b.T0) = 1#1) :
    s0 = slab (vE (F := F) b t) (m ((c : Thread nD τ).loc main_v0)) ∧ s1 = slab (vE (F := F) b t) (m ((c : Thread nD τ).loc main_v1)) ∧ s2 = slabD (vE (F := F) b t) (m ((c : Thread nD τ).loc main_v2)) := by
  rw [cond1_iff _ _ _ _ (vN_le b), crd0] at h1
  have h1' : ¬(t.val = 0 ∨ vE (F := F) b t ≠ wP (F := F) (crd b t) b.T0) := fun h => h1 ⟨h2, h⟩
  rw [not_or, not_not] at h1'
  obtain ⟨h0, he⟩ := h1'
  have hlt := t.isLt
  let j : Fin (cfgA (F := F) b).N := ⟨t.val - 1, by omega⟩
  have hj : t.val = j.val + 1 := by show t.val = t.val - 1 + 1; omega
  have hv : vE (F := F) b t = vE (F := F) b j := he.trans (wP_eq (F := F) (crd b t) (crd b j) (by rw [crd0, crd0]; exact hj) b.T0)
  rw [hv]
  exact hk j hj (by unfold Act at h2 ⊢; omega)

abbrev bodyAt0 (t : Fin (cfgA (F := F) b).N) : Prog (TpuEff nD τ sig (Elt F) Λ₀ .tc) PUnit :=
  cc0_moe_expert_ffn (crd b t) tbE (Memref.isWhole_whole _) tbV (Memref.isWhole_whole _) tbN (Memref.isWhole_whole _) (ms0 b t) (hs0 b t) hbG (Memref.isWhole_whole _) hbU (Memref.isWhole_whole _) hbD (Memref.isWhole_whole _) (ms1 b t) (hs1 b t) scG (Memref.isWhole_whole _) scU (Memref.isWhole_whole _) scD (Memref.isWhole_whole _) cc0_scratch3

set_option maxHeartbeats 4000000 in
/-- The body at any point. -/
theorem sound_body (c : Dev nD) (t : Fin (cfgA (F := F) b).N) :
    iprop((dats b m 0 c).Φ t.castSucc ∗ (dats b m 0 c).owesAt () t.castSucc
        ∗ (∃ d, owns (c : Thread nD τ) (ms0 b t) fullShare ((dats b m 0 c).before (0 : Fin 2) t d))
        ∗ (∃ d, owns (c : Thread nD τ) (ms1 b t) fullShare ((dats b m 0 c).before (1 : Fin 2) t d)))
      ⊢ wp frame (wpE (defs₀ (F := F)) Variants.none c none) Set.univ (bodyAt0 b t) fun _ =>
          iprop((dats b m 0 c).Φ t.succ ∗ (dats b m 0 c).owesAt () t.succ
            ∗ bigSep Finset.univ fun w : Fin (cfgA (F := F) b).W =>
                match (cfgA (F := F) b).idle w ((cfgA (F := F) b).grid.coords t) with
                | true =>
                  match ((cfgA (F := F) b).win w).flush t with
                  | false => iprop(∃ d, owns (c : Thread nD τ) (((cfgA (F := F) b).win w).stage ((cfgA (F := F) b).slots t w)) fullShare ((dats b m 0 c).before w t d))
                  | true => owns (c : Thread nD τ) (((cfgA (F := F) b).win w).stage ((cfgA (F := F) b).slots t w)) fullShare ((dats b m 0 c).after w t)
                | false => owns (c : Thread nD τ) (((cfgA (F := F) b).win w).stage ((cfgA (F := F) b).slots t w)) fullShare ((dats b m 0 c).after w t)) := by
  rw [bigSep_W0]
  have hi := idle1 (F := F) b t
  rewrite [hi]
  simp only [before0, after0, after1]
  rw [show (dats b m 0 c).Φ t.succ = Phi b m c (t.val + 1) from rfl, show (dats b m 0 c).Φ t.castSucc = Phi b m c t.val from rfl]
  unfold Dat.owesAt Pipeline.owesWithin Phi
  rw [show (dats b m 0 c).owed t.castSucc = 0 from rfl, show (dats b m 0 c).owed t.succ = 0 from rfl]
  have hchk := chk1 (crd b t) (wN (F := F) b.T2) (wE (F := F) (crd b t) b.T0) (wP (F := F) (crd b t) b.T0) (vE_lt b t)
  have c2 := cond2_iff (crd b t) (wN (F := F) b.T2) (vN_le b)
  have c3 := cond3_iff (crd b t) (wN (F := F) b.T2) (vN_le b)
  rw [crd0] at c2 c3
  iintro ⟨⟨⟨%s0, %s1, %s2, %hk, HS0, HS1, HS2⟩, Hg, ⟨Hq0, Hq1, Hq2⟩, ⟨Hh0, Hh1, Hh2⟩, ⟨HT0, HT1, HT2⟩⟩, ⟨%W, -, HW⟩, ⟨%d0, H0⟩, ⟨%d1, H1⟩⟩
  by_cases h2 : Act b t
  · by_cases h1 : k0_cond1 (crd b t) (wN (F := F) b.T2) (wE (F := F) (crd b t) b.T0) (wP (F := F) (crd b t) b.T0) = 1#1
    · have k2 := c2.2 h2
      have k3 : ¬k0_cond3 (crd b t) (wN (F := F) b.T2) = 1#1 := fun h => c3.1 h h2
      have eG := landG c (crd b t) (ms0 b t) (hs0 b t) (ms1 b t) (hs1 b t) b.T0 b.T1 b.T2 (iblk b m c (0 : Fin 2) t) s0 s1 s2 (m ((c : Thread nD τ).loc main_v0)) (m ((c : Thread nD τ).loc main_v1)) (m ((c : Thread nD τ).loc main_v2)) hchk (vE_lt b t) h1 k2 k3
      have eU := landU c (crd b t) (ms0 b t) (hs0 b t) (ms1 b t) (hs1 b t) b.T0 b.T1 b.T2 (iblk b m c (0 : Fin 2) t) s0 s1 s2 (m ((c : Thread nD τ).loc main_v0)) (m ((c : Thread nD τ).loc main_v1)) (m ((c : Thread nD τ).loc main_v2)) hchk (vE_lt b t) h1 k2 k3
      have eD := landD c (crd b t) (ms0 b t) (hs0 b t) (ms1 b t) (hs1 b t) b.T0 b.T1 b.T2 (iblk b m c (0 : Fin 2) t) s0 s1 s2 (m ((c : Thread nD τ).loc main_v0)) (m ((c : Thread nD τ).loc main_v1)) (m ((c : Thread nD τ).loc main_v2)) hchk (vE_lt b t) h1 k2 k3
      have eO := outA c (crd b t) (ms0 b t) (hs0 b t) (ms1 b t) (hs1 b t) b.T0 b.T1 b.T2 (iblk b m c (0 : Fin 2) t) s0 s1 s2 (m ((c : Thread nD τ).loc main_v0)) (m ((c : Thread nD τ).loc main_v1)) (m ((c : Thread nD τ).loc main_v2)) hchk (vE_lt b t) h1 k2 k3
      iapply ((runA c (crd b t) (ms0 b t) (hs0 b t) (ms1 b t) (hs1 b t) b.T0 b.T1 b.T2 (iblk b m c (0 : Fin 2) t) s0 s1 s2 (m ((c : Thread nD τ).loc main_v0)) (m ((c : Thread nD τ).loc main_v1)) (m ((c : Thread nD τ).loc main_v2)) hchk h1 k2 k3).2.2.2.2 W _)
      isplitl [H0]; · iapply rep_of_owns; iexact H0
      isplitl [HT0]; · iexact HT0
      isplitl [HT1]; · iexact HT1
      isplitl [HT2]; · iexact HT2
      isplitl [H1]; · iexists _; iexact H1
      isplitl [HS0]; · iexact HS0
      isplitl [HS1]; · iexact HS1
      isplitl [HS2]; · iexact HS2
      isplitl [Hq0]; · iexact Hq0
      isplitl [Hq1]; · iexact Hq1
      isplitl [Hq2]; · iexact Hq2
      isplitl [Hh0]; · iexact Hh0
      isplitl [Hh1]; · iexact Hh1
      isplitl [Hh2]; · iexact Hh2
      isplitl [HW]; · iexact HW
      iintro ⟨H0, HT0, HT1, HT2, ⟨%f1, H1⟩, HS0, HS1, HS2, Hq0, Hq1, Hq2, Hh0, Hh1, Hh2, ⟨%W', HW'⟩⟩
      isplitl [HS0 HS1 HS2 Hg Hq0 Hq1 Hq2 Hh0 Hh1 Hh2 HT0 HT1 HT2]
      · isplitl [HS0 HS1 HS2]
        · iexists _; iexists _; iexists _
          isplitr; swap
          · isplitl [HS0]; · iexact HS0
            isplitl [HS1]; · iexact HS1
            iexact HS2
          · ipureintro; exact fun j hj _ => by cases step_inj b t j hj; exact ⟨eG, eU, eD⟩
        isplitl [Hg]; · iexact Hg
        isplitl [Hq0 Hq1 Hq2]
        · isplitl [Hq0]; · iexact Hq0
          isplitl [Hq1]; · iexact Hq1
          iexact Hq2
        isplitl [Hh0 Hh1 Hh2]
        · isplitl [Hh0]; · iexact Hh0
          isplitl [Hh1]; · iexact Hh1
          iexact Hh2
        isplitl [HT0]; · iexact HT0
        isplitl [HT1]; · iexact HT1
        iexact HT2
      isplitl [HW']
      · iexists W'; isplitr; · ipureintro; exact fun _ _ => Or.inl trivial
        iexact HW'
      isplitl [H0]
      · iapply owns_of_rep; iexact H0
      unfold owns; iexists _; isplitr; swap
      · iexact H1
      · ipureintro; rw [eO]; unfold out; rw [if_pos h2]; exact View.read_writes_of_cover _ _ _ _ _ (covB c _ _ _ _ _ _ _)

    · have k2 := c2.2 h2
      have k3 : ¬k0_cond3 (crd b t) (wN (F := F) b.T2) = 1#1 := fun h => c3.1 h h2
      obtain ⟨eG, eU, eD⟩ := kept_here b m c t s0 s1 s2 hk h2 h1
      iapply ((runB c (crd b t) (ms0 b t) (hs0 b t) (ms1 b t) (hs1 b t) b.T0 b.T1 b.T2 (iblk b m c (0 : Fin 2) t) s0 s1 s2 (m ((c : Thread nD τ).loc main_v0)) (m ((c : Thread nD τ).loc main_v1)) (m ((c : Thread nD τ).loc main_v2)) hchk h1 k2 k3).2 W _)
      isplitl [H0]; · iapply rep_of_owns; iexact H0
      isplitl [HT0]; · iexact HT0
      isplitl [HT1]; · iexact HT1
      isplitl [HT2]; · iexact HT2
      isplitl [H1]; · iexists _; iexact H1
      isplitl [HS0]; · iexact HS0
      isplitl [HS1]; · iexact HS1
      isplitl [HS2]; · iexact HS2
      isplitl [Hq0]; · iexact Hq0
      isplitl [Hq1]; · iexact Hq1
      isplitl [Hq2]; · iexact Hq2
      isplitl [Hh0]; · iexact Hh0
      isplitl [Hh1]; · iexact Hh1
      isplitl [Hh2]; · iexact Hh2
      isplitl [HW]; · iexact HW
      iintro ⟨H0, HT0, HT1, HT2, ⟨%f1, H1⟩, HS0, HS1, HS2, Hq0, Hq1, Hq2, Hh0, Hh1, Hh2, ⟨%W', HW'⟩⟩
      isplitl [HS0 HS1 HS2 Hg Hq0 Hq1 Hq2 Hh0 Hh1 Hh2 HT0 HT1 HT2]
      · isplitl [HS0 HS1 HS2]
        · iexists _; iexists _; iexists _
          isplitr; swap
          · isplitl [HS0]; · iexact HS0
            isplitl [HS1]; · iexact HS1
            iexact HS2
          · ipureintro; exact fun j hj _ => by cases step_inj b t j hj; exact ⟨eG, eU, eD⟩
        isplitl [Hg]; · iexact Hg
        isplitl [Hq0 Hq1 Hq2]
        · isplitl [Hq0]; · iexact Hq0
          isplitl [Hq1]; · iexact Hq1
          iexact Hq2
        isplitl [Hh0 Hh1 Hh2]
        · isplitl [Hh0]; · iexact Hh0
          isplitl [Hh1]; · iexact Hh1
          iexact Hh2
        isplitl [HT0]; · iexact HT0
        isplitl [HT1]; · iexact HT1
        iexact HT2
      isplitl [HW']
      · iexists W'; isplitr; · ipureintro; exact fun _ _ => Or.inl trivial
        iexact HW'
      isplitl [H0]
      · iapply owns_of_rep; iexact H0
      unfold owns; iexists _; isplitr; swap
      · iexact H1
      · ipureintro; rw [outB]; unfold out; rw [if_pos h2, ← eG, ← eU, ← eD]; exact View.read_writes_of_cover _ _ _ _ _ (covB c _ _ _ _ _ _ _)

  · have k1 : ¬k0_cond1 (crd b t) (wN (F := F) b.T2) (wE (F := F) (crd b t) b.T0) (wP (F := F) (crd b t) b.T0) = 1#1 := fun h => by
      rw [cond1_iff _ _ _ _ (vN_le b), crd0] at h; exact h2 h.1
    have k2 : ¬k0_cond2 (crd b t) (wN (F := F) b.T2) = 1#1 := fun h => h2 (c2.1 h)
    have k3 := c3.2 h2
    iapply ((runC c (crd b t) (ms0 b t) (hs0 b t) (ms1 b t) (hs1 b t) b.T0 b.T1 b.T2 (iblk b m c (0 : Fin 2) t) s0 s1 s2 (m ((c : Thread nD τ).loc main_v0)) (m ((c : Thread nD τ).loc main_v1)) (m ((c : Thread nD τ).loc main_v2)) hchk k1 k2 k3).2 W _)
    isplitl [H0]; · iapply rep_of_owns; iexact H0
    isplitl [HT0]; · iexact HT0
    isplitl [HT1]; · iexact HT1
    isplitl [HT2]; · iexact HT2
    isplitl [H1]; · iexists _; iexact H1
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Hh0]; · iexact Hh0
    isplitl [Hh1]; · iexact Hh1
    isplitl [Hh2]; · iexact Hh2
    isplitl [HW]; · iexact HW
    iintro ⟨H0, HT0, HT1, HT2, ⟨%f1, H1⟩, HS0, HS1, HS2, Hq0, Hq1, Hq2, Hh0, Hh1, Hh2, ⟨%W', HW'⟩⟩
    isplitl [HS0 HS1 HS2 Hg Hq0 Hq1 Hq2 Hh0 Hh1 Hh2 HT0 HT1 HT2]
    · isplitl [HS0 HS1 HS2]
      · iexists _; iexists _; iexists _
        isplitr; swap
        · isplitl [HS0]; · iexact HS0
          isplitl [HS1]; · iexact HS1
          iexact HS2
        · ipureintro; exact fun j hj ha => by cases step_inj b t j hj; exact absurd ha h2
      isplitl [Hg]; · iexact Hg
      isplitl [Hq0 Hq1 Hq2]
      · isplitl [Hq0]; · iexact Hq0
        isplitl [Hq1]; · iexact Hq1
        iexact Hq2
      isplitl [Hh0 Hh1 Hh2]
      · isplitl [Hh0]; · iexact Hh0
        isplitl [Hh1]; · iexact Hh1
        iexact Hh2
      isplitl [HT0]; · iexact HT0
      isplitl [HT1]; · iexact HT1
      iexact HT2
    isplitl [HW']
    · iexists W'; isplitr; · ipureintro; exact fun _ _ => Or.inl trivial
      iexact HW'
    isplitl [H0]
    · iapply owns_of_rep; iexact H0
    unfold owns; iexists _; isplitr; swap
    · iexact H1
    · ipureintro; unfold out; rw [if_neg h2]; exact View.read_writes_of_cover _ _ _ _ _ covC

theorem body_obligation (c : Dev nD) : BodyObligation (dats b m 0 c) (defs₀ (F := F)) Variants.none () Set.univ := fun t => by
  rw [bigSep_W0]
  exact sound_body b m c t

/-! ## The launch -/

/-- The region-entry contents. -/
abbrev V (c : Dev nD) (x : Ref sig .tc) : Buf (Elt F) ((c : Thread nD τ).loc x) := m ((c : Thread nD τ).loc x)

abbrev osem0 : Fin 3 → SemLoc sig := fun j => (![SemLoc.dma 4, SemLoc.dma 5, SemLoc.dma 6] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0) := by
  rw [Pipeline.ownSems0_eq_of_list c osem0 [0, 1, 2] (by decide) (by decide)]; rfl
def H0 : Finset (Ref sig .tc) := {main_v0, main_v1, main_v2}
theorem H0_sub : H0 ⊆ Pipeline.restRefsP sig pre0 spec0 := by decide
theorem hbmPts0_eq (c : Dev nD) :
    (bigSep H0 (fun x => ((c : Thread nD τ).loc x) ↦{fullShare} V m c x) : sProp 𝕄)
      = iprop((hbG.view.loc (c : Thread nD τ) ↦{fullShare} m ((c : Thread nD τ).loc main_v0)) ∗ (hbU.view.loc (c : Thread nD τ) ↦{fullShare} m ((c : Thread nD τ).loc main_v1)) ∗ (hbD.view.loc (c : Thread nD τ) ↦{fullShare} m ((c : Thread nD τ).loc main_v2))) := by
  rw [BI.bigSep_eq_bigSepL_of_eq [main_v0, main_v1, main_v2] (by decide) (by decide)]; rfl

theorem prefHeld_eq (c : Dev nD) (q : Fin 3 → PosShare TreeShare) (v : pre0.Contents (Elt F)) :
    (Pipeline.prefHeld (Ix := Unit) (Name := ℕ) (U := Pipeline.UD sig nD τ) (Lvl := ℕ) pre0 c q v : sProp 𝕄)
      = iprop((((c : Thread nD τ).loc main_arg1) ↦{q 0} v 0) ∗ (((c : Thread nD τ).loc main_arg2) ↦{q 1} v 1) ∗ (((c : Thread nD τ).loc main_arg3) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

theorem phi_in (c : Dev nD) : iprop(Pipeline.ΦD osem0 spec0 H0 (V m) c ∗ Pipeline.ΦT pre0 (adm (F := F) b).1 c) ⊢ (dats b m 0 c).Φ 0 := by
  rw [Pipeline.ΦD_eq, scopedRest0_eq, ownSems00_eq, hbmPts0_eq, show (dats b m 0 c).Φ 0 = Phi b m c 0 from rfl]
  unfold Pipeline.ΦT
  rw [prefHeld_eq]
  unfold Phi
  iintro ⟨⟨⟨⟨%s0, HS0⟩, ⟨%s1, HS1⟩, ⟨%s2, HS2⟩⟩, Hg, Hq, Hh⟩, Ht⟩
  isplitl [HS0 HS1 HS2]
  · iexists s0; iexists s1; iexists s2
    isplitr; swap
    · isplitl [HS0]; · iexact HS0
      isplitl [HS1]; · iexact HS1
      iexact HS2
    · ipureintro; exact fun j hj => absurd hj (by omega)
  isplitl [Hg]; · iexact Hg
  isplitl [Hq]; · iexact Hq
  isplitl [Hh]; · iexact Hh
  iexact Ht

theorem phi_out (c : Dev nD) : (dats b m 0 c).Φ (Fin.last (cfgA (F := F) b).N) ⊢ Pipeline.ΦD osem0 spec0 H0 (V m) c := by
  rw [Pipeline.ΦD_eq, scopedRest0_eq, ownSems00_eq, hbmPts0_eq, show (dats b m 0 c).Φ (Fin.last _) = Phi b m c (cfgA (F := F) b).N from rfl]
  unfold Phi
  iintro ⟨⟨%s0, %s1, %s2, -, HS0, HS1, HS2⟩, Hg, Hq, Hh, -⟩
  isplitl [HS0 HS1 HS2]
  · isplitl [HS0]; · iexists _; iexact HS0
    isplitl [HS1]; · iexists _; iexact HS1
    iexists _; iexact HS2
  isplitl [Hg]; · iexact Hg
  isplitl [Hq]; · iexact Hq
  iexact Hh

theorem V_pre (hp : Held b m) (c : Dev nD) (j : Fin 3) : m ((c : Thread nD τ).loc (pre0.ref j)) = (adm (F := F) b).1 j := by
  fin_cases j
  · exact (hp c).1
  · exact (hp c).2.1
  · exact (hp c).2.2

/-- The memory when the call is entered: after the casts of the weights. -/
def mid : (ℓ : Loc nD τ sig) → Buf (Elt F) ℓ := fun ℓ => StableHlo.after hostOps0 (fun x => m (ℓ.1, x)) ℓ.2

/-- The casts leave every other array. -/
theorem mid_of (c : Dev nD) (x : Ref sig .tc) (h : x ≠ main_v0 ∧ x ≠ main_v1 ∧ x ≠ main_v2) :
    mid m ((c : Thread nD τ).loc x) = m ((c : Thread nD τ).loc x) :=
  StableHlo.after_of_forall_not_mem (b := Proc.devRef .tc x) _ _ (List.forall_iff_forall_mem.mp (by
    simp only [hostOps0, List.Forall, StableHlo.unary_writes, Finset.mem_singleton]
    exact ⟨StableHlo.devRef_ne_of_ne h.1, StableHlo.devRef_ne_of_ne h.2.1, StableHlo.devRef_ne_of_ne h.2.2⟩))

theorem mid_arg0 (c : Dev nD) : mid m ((c : Thread nD τ).loc main_arg0) = m ((c : Thread nD τ).loc main_arg0) := mid_of m c main_arg0 (by decide)
theorem mid_arg1 (c : Dev nD) : mid m ((c : Thread nD τ).loc main_arg1) = m ((c : Thread nD τ).loc main_arg1) := mid_of m c main_arg1 (by decide)
theorem mid_arg2 (c : Dev nD) : mid m ((c : Thread nD τ).loc main_arg2) = m ((c : Thread nD τ).loc main_arg2) := mid_of m c main_arg2 (by decide)
theorem mid_arg3 (c : Dev nD) : mid m ((c : Thread nD τ).loc main_arg3) = m ((c : Thread nD τ).loc main_arg3) := mid_of m c main_arg3 (by decide)
theorem mid_arg4 (c : Dev nD) : mid m ((c : Thread nD τ).loc main_arg4) = m ((c : Thread nD τ).loc main_arg4) := mid_of m c main_arg4 (by decide)
theorem mid_arg5 (c : Dev nD) : mid m ((c : Thread nD τ).loc main_arg5) = m ((c : Thread nD τ).loc main_arg5) := mid_of m c main_arg5 (by decide)
theorem mid_arg6 (c : Dev nD) : mid m ((c : Thread nD τ).loc main_arg6) = m ((c : Thread nD τ).loc main_arg6) := mid_of m c main_arg6 (by decide)

theorem ops_fresh : (hostOps0 : List (HloOp τ sig (Elt F))).Forall fun op => op.fresh = ∅ := by
  simp only [List.Forall]; repeat' constructor

set_option backward.isDefEq.respectTransparency.types false in
set_option maxHeartbeats 4000000 in
/-- The launch, with every counter back at zero. -/
theorem run_main_quiescent (hp : Held b (mid m)) : θ_run defs (onTc (τ := τ) (main (F := F))) (s₀ m ρ)
    (fun r => Pipeline.FramePost (Pipeline.pin (pcfgs (F := F)) fun _ => adm b) (dats b (mid m)) 0 (V (mid m)) r ∧ r.2.sem = fun _ => 0) :=
  Pipeline.θ_run_frameP_dma (Q' := _) pcfgs (fun _ => adm b) (dats b (mid m)) (0 : Fin 1) launch0 osem0 defs₀ Variants.none ownSemFacts0 H0 H0_sub m ρ main
    (hbody := fun c => (body_obligation b (mid m) c).loose) (hshare := fun c w => by unfold Dat.share; split <;> rfl)
    (howed := fun _ _ => rfl) (V := V (mid m)) (hmain := Pipeline.hmainP_prefix pcfgs 0 defs₀ Variants.none m main hostOps0 hostOps0_sub ops_fresh main_chain)
    (hA := fun _ _ => rfl) (hpf := V_pre b (mid m) hp) (hin := phi_in b (mid m)) (hout := phi_out b (mid m))

/-- The output array at the end is what the blocks' points leave, and no argument array changes. -/
theorem run_value (hp : Held b (mid m)) : θ_run defs (onTc (τ := τ) (main (F := F))) (s₀ m ρ)
    (fun r => (∀ c : Dev nD, r.2.mem ((c.tc : Thread nD τ).loc main_v3) = (dats b (mid m) 0 c).arrAt (1 : Fin 2) (cfgA (F := F) b).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1 c).1 (1 : Fin 2),
      (((h.1 c).1 (0 : Fin 2)).trans ((dats b (mid m) 0 c).arrAt_in (0 : Fin 2) rfl _)).trans (mid_arg0 m c),
      ((h.1 c).2 main_arg1 (show main_arg1 ∈ Pipeline.restRefs sig spec0 by decide)).trans (mid_arg1 m c),
      ((h.1 c).2 main_arg2 (show main_arg2 ∈ Pipeline.restRefs sig spec0 by decide)).trans (mid_arg2 m c),
      ((h.1 c).2 main_arg3 (show main_arg3 ∈ Pipeline.restRefs sig spec0 by decide)).trans (mid_arg3 m c),
      ((h.1 c).2 main_arg4 (show main_arg4 ∈ Pipeline.restRefs sig spec0 by decide)).trans (mid_arg4 m c),
      ((h.1 c).2 main_arg5 (show main_arg5 ∈ Pipeline.restRefs sig spec0 by decide)).trans (mid_arg5 m c),
      ((h.1 c).2 main_arg6 (show main_arg6 ∈ Pipeline.restRefs sig spec0 by decide)).trans (mid_arg6 m c)⟩, h.2⟩)
    (run_main_quiescent b m ρ hp)

/-- The tables of a memory whose words are in range. -/
def tabOf (hg : Good (m (((0 : Dev nD) : Thread nD τ).loc main_arg1)) (m (((0 : Dev nD) : Thread nD τ).loc main_arg3))) : Tab :=
  ⟨m (((0 : Dev nD) : Thread nD τ).loc main_arg1), m (((0 : Dev nD) : Thread nD τ).loc main_arg2), m (((0 : Dev nD) : Thread nD τ).loc main_arg3), hg⟩

theorem held (hg : Good (m (((0 : Dev nD) : Thread nD τ).loc main_arg1)) (m (((0 : Dev nD) : Thread nD τ).loc main_arg3))) : Held (tabOf m hg) (mid m) := fun c => by
  obtain rfl : c = 0 := Subsingleton.elim (α := Fin 1) _ _
  exact ⟨mid_arg1 m 0, mid_arg2 m 0, mid_arg3 m 0⟩

/-- The frame, of a memory whose tables are in range. -/
theorem frame (hg : Good (m (((0 : Dev nD) : Thread nD τ).loc main_arg1)) (m (((0 : Dev nD) : Thread nD τ).loc main_arg3))) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h.1 c).2, h.2⟩) (run_value (tabOf m hg) m ρ (held m hg))

end Cert.Kernel9Ideal.Gen

end
-- ==== Proof.Pre9.lean ====
module

public import proofs.«01_k».proof.Pre_finite9
public import Idealize.ShloMosaic.Lib.ReduceAll

/-! What the routed experts' precondition says of the tables. -/

@[expose] public section

noncomputable section

namespace Cert.Pre_finite9

open Idealize.ShloMosaic

theorem decode [Facts] {F : FTy → Type} [FloatOps F] (a0 : FVec F S71680x2048 .f32) (a1 a2 : IVec S140 32) (a3 : IVec S1 32)
    (a4 a5 : FVec F S8x2048x2816 .f32) (a6 : FVec F S8x2816x2048 .f32) (h : fn a0 a1 a2 a3 a4 a5 a6 = fun _ => 1#1) :
    (∀ x, (a1 x).toNat < 8) ∧ (∀ x, 1 ≤ (a3 x).toNat) ∧ ∀ x, (a3 x).toNat ≤ 140 := by
  haveI : Subsingleton S_.Idx := ⟨fun x y => funext fun a => a.elim0⟩
  have bit : ∀ p q : BitVec 1, IntOp.andi p q = 1#1 → p = 1#1 ∧ q = 1#1 := by decide
  have h0 := congrFun h (fun a => a.elim0)
  obtain ⟨hE, hN⟩ := bit _ _ h0
  have e := Host.reduce_andi_all _ _ _ _ _ hE
  have n := Host.reduce_andi_all _ _ _ _ _ hN
  have c0 : (0#32 : BitVec 32).toInt = 0 := by decide
  have c1 : (1#32 : BitVec 32).toInt = 1 := by decide
  have c8 : (8#32 : BitVec 32).toInt = 8 := by decide
  have c140 : (140#32 : BitVec 32).toInt = 140 := by decide
  have pos : ∀ v : BitVec 32, 0 ≤ v.toInt → v.toInt = v.toNat := fun v hv => by
    rw [BitVec.toInt_eq_toNat_cond] at hv ⊢
    split at hv
    · rw [if_pos ‹_›]
    · have := v.isLt; omega
  have n1 : ∀ x, 1 ≤ (a3 x).toInt ∧ (a3 x).toInt ≤ 140 := fun x => by
    obtain ⟨p, q⟩ := bit _ _ (n x)
    have p' : (1#32 : BitVec 32).toInt ≤ (a3 x).toInt := IntOp.cmpi_sge.1 p
    have q' : (a3 x).toInt ≤ (140#32 : BitVec 32).toInt := IntOp.cmpi_sle.1 q
    rw [c1] at p'; rw [c140] at q'
    exact ⟨p', q'⟩
  refine ⟨fun x => ?_, fun x => ?_, fun x => ?_⟩
  · obtain ⟨p, q⟩ := bit _ _ (e x)
    have p' : (0#32 : BitVec 32).toInt ≤ (a1 x).toInt := IntOp.cmpi_sge.1 p
    have q' : (a1 x).toInt < (8#32 : BitVec 32).toInt := IntOp.cmpi_slt.1 q
    rw [c0] at p'; rw [c8] at q'
    have := pos _ p'
    omega
  · have := n1 x
    have := pos (a3 x) (by omega)
    omega
  · have := n1 x
    have := pos (a3 x) (by omega)
    omega

end Cert.Pre_finite9

end
-- ==== Proof.Ref9.lean ====
module

public import proofs.«01_k».proof.Proof.Gen.Reference9Ideal
public import Idealize.ShloMosaic.Lib.StableHlo.Run
public import Idealize.ShloMosaic.PureOps.Ideal

/-! The result of Reference9Ideal, stage by stage, over variables. -/

@[expose] public section

set_option maxRecDepth 16384

noncomputable section

open Idealize.ShloMosaic Idealize.ShloMosaic.TcCoe

namespace Cert.Reference9Ideal.Value

open Cert.Reference9Ideal Cert.Reference9Ideal.Gen

/-- The reference's stage: the masked rows. -/
def r_v7 (a0 : FVec Ideal S71680x2048 .f32) (a2 : IVec S140 32) : FVec Ideal S140x512x2048 .f32 :=
  select (broadcastInDim S140x512x2048 ![0, 1, 2] bcast_S140x512x1_S140x512x2048_0_1_2 (cmpi .slt (broadcastInDim
    S140x512x1 ![0, 1, 2] bcast_S1x512x1_S140x512x1_0_1_2 (broadcastInDim S1x512x1 ![1] bcast_S512_S1x512x1_1
    (iotaInDim S512 32 0))) (broadcastInDim S140x512x1 ![0, 1, 2] bcast_S140x1x1_S140x512x1_0_1_2 (broadcastInDim
    S140x1x1 ![0] bcast_S140_S140x1x1_0 a2)))) (shapeCast S140x512x2048 a0 shapeCasts_S71680x2048_S140x512x2048)
    (broadcastInDim S140x512x2048 ![] bcast_S_S140x512x2048 (constant S_ .f32 0x00000000#32))

/-- The reference's stage: the gate's weights of every block. -/
def r_v9 (a1 : IVec S140 32) (a4 : FVec Ideal S8x2048x2816 .f32) : FVec Ideal S140x2048x2816 .f32 :=
  (Host.gather gather_S8x2048x2816_S140x1_S140x2048x2816_12_0_n_n_0_1_120482816 a4 (broadcastInDim S140x1
    ![0] bcast_S140_S140x1_0 a1))

/-- The reference's stage: the up weights of every block. -/
def r_v11 (a1 : IVec S140 32) (a5 : FVec Ideal S8x2048x2816 .f32) : FVec Ideal S140x2048x2816 .f32 :=
  (Host.gather gather_S8x2048x2816_S140x1_S140x2048x2816_12_0_n_n_0_1_120482816 a5 (broadcastInDim S140x1
    ![0] bcast_S140_S140x1_0 a1))

/-- The reference's stage: the down weights of every block. -/
def r_v13 (a1 : IVec S140 32) (a6 : FVec Ideal S8x2816x2048 .f32) : FVec Ideal S140x2816x2048 .f32 :=
  (Host.gather gather_S8x2816x2048_S140x1_S140x2816x2048_12_0_n_n_0_1_128162048 a6 (broadcastInDim S140x1
    ![0] bcast_S140_S140x1_0 a1))

/-- The reference's stage: the gate's product. -/
def r_v14 (a0 : FVec Ideal S71680x2048 .f32) (a1 : IVec S140 32) (a2 : IVec S140 32) (a4 : FVec Ideal S8x2048x2816 .f32) : FVec Ideal S140x512x2816 .f32 :=
  Host.dotGeneral dot_S140x512x2048_S140x2048x2816_S140x512x2816_2_1_1_2_0_0 none (r_v7 a0 a2) (r_v9 a1 a4)

/-- The reference's stage: the up product. -/
def r_v16 (a0 : FVec Ideal S71680x2048 .f32) (a1 : IVec S140 32) (a2 : IVec S140 32) (a5 : FVec Ideal S8x2048x2816 .f32) : FVec Ideal S140x512x2816 .f32 :=
  Host.dotGeneral dot_S140x512x2048_S140x2048x2816_S140x512x2816_2_1_1_2_0_0 none (r_v7 a0 a2) (r_v11 a1 a5)

/-- The reference's stage: the gated hidden rows. -/
def r_v17 (a0 : FVec Ideal S71680x2048 .f32) (a1 : IVec S140 32) (a2 : IVec S140 32) (a4 : FVec Ideal S8x2048x2816 .f32) (a5 : FVec Ideal S8x2048x2816 .f32) : FVec Ideal S140x512x2816 .f32 :=
  mulf (mulf (r_v14 a0 a1 a2 a4) (Host.divf (broadcastInDim S140x512x2816 ![] bcast_S_S140x512x2816 (constant S_
    .f32 0x3F800000#32)) (addf (broadcastInDim S140x512x2816 ![] bcast_S_S140x512x2816 (constant S_ .f32
    0x3F800000#32)) (Host.exp (Host.negf (r_v14 a0 a1 a2 a4)))))) (r_v16 a0 a1 a2 a5)

/-- The reference's stage: the down product. -/
def r_v23 (a0 : FVec Ideal S71680x2048 .f32) (a1 : IVec S140 32) (a2 : IVec S140 32) (a4 : FVec Ideal S8x2048x2816 .f32) (a5 : FVec Ideal S8x2048x2816 .f32) (a6 : FVec Ideal S8x2816x2048 .f32) : FVec Ideal S140x512x2048 .f32 :=
  Host.dotGeneral dot_S140x512x2816_S140x2816x2048_S140x512x2048_2_1_1_2_0_0 none (r_v17 a0 a1 a2 a4 a5) (r_v13 a1
    a6)

/-- The reference's result. -/
def REF (a0 : FVec Ideal S71680x2048 .f32) (a1 : IVec S140 32) (a2 : IVec S140 32) (a3 : IVec S1 32) (a4 : FVec Ideal S8x2048x2816 .f32) (a5 : FVec Ideal S8x2048x2816 .f32) (a6 : FVec Ideal S8x2816x2048 .f32) : FVec Ideal S71680x2048 .f32 :=
  shapeCast S71680x2048 (select (broadcastInDim S140x512x2048 ![0, 1, 2] bcast_S140x1x1_S140x512x2048_0_1_2 (cmpi
    .slt (broadcastInDim S140x1x1 ![0] bcast_S140_S140x1x1_0 (iotaInDim S140 32 0)) (broadcastInDim S140x1x1 ![]
    bcast_S_S140x1x1 (shapeCast S_ a3 shapeCasts_S1_S_)))) (r_v23 a0 a1 a2 a4 a5 a6) (broadcastInDim S140x512x2048
    ![] bcast_S_S140x512x2048 (constant S_ .f32 0x00000000#32))) shapeCasts_S140x512x2048_S71680x2048

end Cert.Reference9Ideal.Value

end
-- ==== Proof.Value9.lean ====
module

public import proofs.«01_k».proof.Proof.Frame9
public import proofs.«01_k».proof.Proof.Ref9
public import Idealize.ShloMosaic.Lib.Claim
public import Idealize.ShloMosaic.Lib.Pipeline.ValueKit
public import Idealize.ShloMosaic.Lib.Pointwise
public import Idealize.ShloMosaic.Lib.VecWindow
public import Idealize.ShloMosaic.Lib.ValueIdxCore
public import Idealize.ShloMosaic.Lib.StableHlo.Predicate

/-! The routed experts' kernel: the array it writes. -/

@[expose] public section

set_option maxRecDepth 16384

noncomputable section

open Idealize.ShloMosaic Idealize.ShloMosaic.TcCoe Idealize.SL.Sem
open Idealize.ShloMosaic.Pipeline (Dat)

namespace Cert.Kernel9Ideal.Value

open Cert.Kernel9Ideal Cert.Kernel9Ideal.Gen

/-- The kernel's power of two, its exponent scaled by the named constant, is the exponential. -/
theorem exp2_neg (x : EReal) : FloatOps.exp2 (F := Ideal) (φ := FTy.f32) (x * Named.named (F := Ideal) (φ := FTy.f32) κ "neg_log2_e" 0xBFB8AA3B#32) = Ideal.exp (-x) := by
  have hk : Named.named (F := Ideal) (φ := FTy.f32) κ "neg_log2_e" 0xBFB8AA3B#32 = (((-((Real.log 2)⁻¹) : ℝ)) : EReal) :=
    IdealRules.named_const.ideal_named_scalar _ _ _ _ rfl
  have hl : (0 : ℝ) < Real.log 2 := Real.log_pos (by norm_num)
  have hn : (-((Real.log 2)⁻¹) : ℝ) < 0 := neg_lt_zero.mpr (inv_pos.mpr hl)
  rw [hk]
  show Ideal.exp2 _ = _
  induction x using EReal.rec with
  | bot => rw [EReal.bot_mul_coe_of_neg hn, EReal.neg_bot]; rfl
  | top => rw [EReal.top_mul_coe_of_neg hn, EReal.neg_top]; rfl
  | coe r =>
    rw [← EReal.coe_mul, ← EReal.coe_neg]
    simp only [Ideal.exp2_coe, Ideal.exp_coe]
    refine congrArg _ ?_
    show (2 : ℝ) ^ (r * -(Real.log 2)⁻¹) = Real.exp (-r)
    rw [Real.rpow_def_of_pos (by norm_num)]
    congr 1
    field_simp

/-- The gate's activation. -/
def silu (g : EReal) : EReal := g * Ideal.div 1 (1 + Ideal.exp (-g))

theorem silu_eq (g : EReal) : g * Ideal.div 1 (1 + FloatOps.exp2 (F := Ideal) (φ := FTy.f32) (g * Named.named (F := Ideal) (φ := FTy.f32) κ "neg_log2_e" 0xBFB8AA3B#32)) = silu g := by
  rw [exp2_neg]; rfl

/-- A hidden feature of a tile. -/
def hid (x : FVec Ideal S512x2048 .bf16) (g u : FVec Ideal S2048x256 .bf16) (i : Fin 512) (q : Fin 256) : EReal :=
  silu (∑ k : Fin 2048, x (ix2 i k) * g (ix2 k q)) * ∑ k : Fin 2048, x (ix2 i k) * u (ix2 k q)

/-- A tile's contribution. -/
def part (x : FVec Ideal S512x2048 .bf16) (g u : FVec Ideal S2048x256 .bf16) (d : FVec Ideal S256x2048 .bf16) (i : Fin 512) (j : Fin 2048) : EReal :=
  ∑ q : Fin 256, hid x g u i q * d (ix2 q j)

set_option maxHeartbeats 1600000

theorem pay17_at (x : FVec Ideal S512x2048 .bf16) (g u : FVec Ideal S2048x256 .bf16) (i : Fin 512) (q : Fin 256) :
    k0_pay17 (F := Ideal) x g u (ix2 i q) = hid x g u i q := by
  unfold hid
  rw [← silu_eq]
  pointwise [k0_pay17]

theorem pay15_at (x : FVec Ideal S512x2048 .bf16) (g u : FVec Ideal S2048x256 .bf16) (i : Fin 512) (q : Fin 256) :
    k0_pay15 (F := Ideal) x g u (ix2 i q) = hid x g u i q := by
  unfold hid
  rw [← silu_eq]
  pointwise [k0_pay15]

theorem pay13_at (x : FVec Ideal S512x2048 .bf16) (g u : FVec Ideal S2048x256 .bf16) (i : Fin 512) (q : Fin 256) :
    k0_pay13 (F := Ideal) x g u (ix2 i q) = hid x g u i q := by
  unfold hid
  rw [← silu_eq]
  pointwise [k0_pay13]

theorem pay1_at (x : FVec Ideal S512x2048 .bf16) (acc : FVec Ideal S512x2048 .f32) (h : FVec Ideal S512x256 .bf16) (d : FVec Ideal S256x2048 .bf16)
    (g u : FVec Ideal S2048x256 .bf16) (d' : FVec Ideal S256x2048 .bf16) (i : Fin 512) (j : Fin 2048) :
    k0_pay1 (F := Ideal) x acc h d g u d' (ix2 i j) = acc (ix2 i j) + (∑ q : Fin 256, h (ix2 i q) * d (ix2 q j)) + part x g u d' i j := by
  unfold part hid
  simp only [← silu_eq]
  pointwise [k0_pay1]

theorem pay16_at (x : FVec Ideal S512x2048 .bf16) (acc : FVec Ideal S512x2048 .f32) (h : FVec Ideal S512x256 .bf16) (d : FVec Ideal S256x2048 .bf16)
    (g u : FVec Ideal S2048x256 .bf16) (d' : FVec Ideal S256x2048 .bf16) (i : Fin 512) (j : Fin 2048) :
    k0_pay16 (F := Ideal) x acc h d g u d' (ix2 i j) = acc (ix2 i j) + (∑ q : Fin 256, h (ix2 i q) * d (ix2 q j)) + part x g u d' i j := by
  unfold part hid
  simp only [← silu_eq]
  pointwise [k0_pay16]

theorem pay14_at (x : FVec Ideal S512x2048 .bf16) (acc : FVec Ideal S512x2048 .f32) (h : FVec Ideal S512x256 .f32) (d : FVec Ideal S256x2048 .bf16)
    (g u : FVec Ideal S2048x256 .bf16) (d' : FVec Ideal S256x2048 .bf16) (i : Fin 512) (j : Fin 2048) :
    k0_pay14 (F := Ideal) x acc h d g u d' (ix2 i j) = acc (ix2 i j) + (∑ q : Fin 256, h (ix2 i q) * d (ix2 q j)) + part x g u d' i j := by
  unfold part hid
  simp only [← silu_eq]
  pointwise [k0_pay14]

theorem pay12_at (x : FVec Ideal S512x2048 .bf16) (acc : FVec Ideal S512x2048 .f32) (ga ua : FVec Ideal S2048x256 .bf16) (d : FVec Ideal S256x2048 .bf16)
    (g u : FVec Ideal S2048x256 .bf16) (d' : FVec Ideal S256x2048 .bf16) (i : Fin 512) (j : Fin 2048) :
    k0_pay12 (F := Ideal) x acc (k0_pay9 x ga) (k0_pay10 x ua) (k0_pay11 x ga) d g u d' (ix2 i j) = acc (ix2 i j) + part x ga ua d i j + part x g u d' i j := by
  unfold part hid
  simp only [← silu_eq]
  pointwise [k0_pay12, k0_pay9, k0_pay10, k0_pay11]

theorem pay8_at (v : BitVec 32) (r : FVec Ideal S512x2048 .f32) (acc : FVec Ideal S512x2048 .f32) (ga ua : FVec Ideal S2048x256 .bf16) (d : FVec Ideal S256x2048 .bf16)
    (g u : FVec Ideal S2048x256 .bf16) (d' : FVec Ideal S256x2048 .bf16) (i : Fin 512) (j : Fin 2048) :
    k0_pay8 (F := Ideal) (k0_pay3 v r) acc (k0_pay5 v r ga) (k0_pay6 v r ua) (k0_pay7 v r ga) runB.sl.cst_25 d g u d' (ix2 i j)
      = acc (ix2 i j) + part (k0_pay3 (F := Ideal) v r) ga ua d i j + part (k0_pay3 (F := Ideal) v r) g u d' i j := by
  delta runB.sl.cst_25
  unfold part hid k0_pay7 k0_pay6 k0_pay5
  simp only [← silu_eq]
  generalize k0_pay3 (F := Ideal) v r = x
  pointwise [k0_pay8]

theorem pay4_at (v : BitVec 32) (r : FVec Ideal S512x2048 .f32) (g u : FVec Ideal S2048x256 .bf16) (d : FVec Ideal S256x2048 .bf16) (i : Fin 512) (j : Fin 2048) :
    k0_pay4 (F := Ideal) v r g u d (ix2 i j) = part (k0_pay3 (F := Ideal) v r) g u d i j := by
  unfold part hid k0_pay4
  simp only [← silu_eq]
  generalize k0_pay3 (F := Ideal) v r = x
  pointwise

section Slabs

variable (c : Dev nD) (s0 : Buf (Elt Ideal) ((c : Thread nD τ).loc cc0_scratch0)) (s1 : Buf (Elt Ideal) ((c : Thread nD τ).loc cc0_scratch1)) (s2 : Buf (Elt Ideal) ((c : Thread nD τ).loc cc0_scratch2))

/-- A tile of columns of the copied gate matrix. -/
theorem colG (o : ℕ) (inb : ∀ a, (![0, o] : Fin 2 → ℕ) a + S2048x256.size a ≤ S2048x2816.size a) (k : Fin 2048) (q : Fin 256) :
    View.readAt (Elt Ideal) scG.view (Rect.unit (s := S2048x2816) ![0, o] S2048x256.size inb).toLoadRect s0 (ix2 k q)
      = (show S2048x2816.Idx → EReal from s0) (ix2 k ⟨o + q.val, by have : o + 256 ≤ 2816 := inb 1; omega⟩) := by
  refine congrArg s0 (funext fun d => Fin.ext ?_)
  match d with
  | ⟨0, _⟩ => show 0 + 1 * k.val = k.val; omega
  | ⟨1, _⟩ => show o + 1 * q.val = o + q.val; omega

theorem colU (o : ℕ) (inb : ∀ a, (![0, o] : Fin 2 → ℕ) a + S2048x256.size a ≤ S2048x2816.size a) (k : Fin 2048) (q : Fin 256) :
    View.readAt (Elt Ideal) scU.view (Rect.unit (s := S2048x2816) ![0, o] S2048x256.size inb).toLoadRect s1 (ix2 k q)
      = (show S2048x2816.Idx → EReal from s1) (ix2 k ⟨o + q.val, by have : o + 256 ≤ 2816 := inb 1; omega⟩) := by
  refine congrArg s1 (funext fun d => Fin.ext ?_)
  match d with
  | ⟨0, _⟩ => show 0 + 1 * k.val = k.val; omega
  | ⟨1, _⟩ => show o + 1 * q.val = o + q.val; omega

theorem rowD (o : ℕ) (inb : ∀ a, (![o, 0] : Fin 2 → ℕ) a + S256x2048.size a ≤ S2816x2048.size a) (q : Fin 256) (j : Fin 2048) :
    View.readAt (Elt Ideal) scD.view (Rect.unit (s := S2816x2048) ![o, 0] S256x2048.size inb).toLoadRect s2 (ix2 q j)
      = (show S2816x2048.Idx → EReal from s2) (ix2 ⟨o + q.val, by have : o + 256 ≤ 2816 := inb 0; omega⟩ j) := by
  refine congrArg s2 (funext fun d => Fin.ext ?_)
  match d with
  | ⟨0, _⟩ => show o + 1 * q.val = o + q.val; omega
  | ⟨1, _⟩ => show 0 + 1 * j.val = j.val; omega

/-- A hidden feature over the whole matrices. -/
def act (x : Fin 2048 → EReal) (g u : Fin 2048 → Fin 2816 → EReal) (f : Fin 2816) : EReal :=
  silu (∑ k : Fin 2048, x k * g k f) * ∑ k : Fin 2048, x k * u k f

/-- A tile's addend. -/
def tile (x : Fin 2048 → EReal) (g u : Fin 2048 → Fin 2816 → EReal) (d : Fin 2816 → EReal) (n : ℕ) : EReal :=
  if h : n < 11 then ∑ q : Fin 256, act x g u ⟨n * 256 + q.val, by omega⟩ * d ⟨n * 256 + q.val, by omega⟩ else 0

theorem sum_tiles (x : Fin 2048 → EReal) (g u : Fin 2048 → Fin 2816 → EReal) (d : Fin 2816 → EReal) :
    ∑ f : Fin 2816, act x g u f * d f = ∑ n ∈ Finset.range 11, tile x g u d n := by
  refine (Fin.sum_univ_tiles 11 256 rfl _).trans ?_
  rw [Finset.sum_range]
  refine Finset.sum_congr rfl fun q _ => ?_
  unfold tile
  rw [dif_pos q.isLt]

theorem part_tile (x : FVec Ideal S512x2048 .bf16) (n o : ℕ) (hn : n < 11) (ho : o = n * 256)
    (ib0 : ∀ a, (![0, o] : Fin 2 → ℕ) a + S2048x256.size a ≤ S2048x2816.size a)
    (ib2 : ∀ a, (![o, 0] : Fin 2 → ℕ) a + S256x2048.size a ≤ S2816x2048.size a) (i : Fin 512) (j : Fin 2048) :
    part x (View.readAt (Elt Ideal) scG.view (Rect.unit (s := S2048x2816) ![0, o] S2048x256.size ib0).toLoadRect s0)
      (View.readAt (Elt Ideal) scU.view (Rect.unit (s := S2048x2816) ![0, o] S2048x256.size ib0).toLoadRect s1)
      (View.readAt (Elt Ideal) scD.view (Rect.unit (s := S2816x2048) ![o, 0] S256x2048.size ib2).toLoadRect s2) i j
    = tile (fun k => x (ix2 i k)) (fun k f => (show S2048x2816.Idx → EReal from s0) (ix2 k f)) (fun k f => (show S2048x2816.Idx → EReal from s1) (ix2 k f))
        (fun f => (show S2816x2048.Idx → EReal from s2) (ix2 f j)) n := by
  subst ho
  unfold part tile hid act
  rw [dif_pos hn]
  refine Finset.sum_congr rfl fun q _ => ?_
  refine congrArg₂ (· * ·) (congrArg₂ (· * ·) (congrArg silu (Finset.sum_congr rfl fun k _ => ?_)) (Finset.sum_congr rfl fun k _ => ?_)) ?_
  · exact congrArg _ (colG c s0 (n * 256) ib0 k q)
  · exact congrArg _ (colU c s1 (n * 256) ib0 k q)
  · exact rowD c s2 (n * 256) ib2 q j

/-- The masked row of a block. -/
def xrow (v : BitVec 32) (x : FVec Ideal S512x2048 .f32) (i : Fin 512) (k : Fin 2048) : EReal := k0_pay3 (F := Ideal) v x (ix2 i k)

/-- One piece over the whole block is what is read back. -/
theorem one_piece (v : FVec Ideal S512x2048 .f32) :
    VO.read (Elt Ideal) (VO.writes (Elt Ideal) VO.junk [⟨Rect.unit (s := S512x2048) ![0, 0] S512x2048.size inb_S512x2048_S512x2048_0_0, v⟩]) = v := by
  frame_out

theorem stored (i : grid0.Coords) (arg4 : Memref sig .tc .vmem S512x2048 .f32) (T1 : S140.Idx → BitVec 32) (x0 : S512x2048.Idx → Elt Ideal .f32) :
    VO.read (Elt Ideal) (VO.writes (Elt Ideal) VO.junk (stB (F := Ideal) c i arg4 T1 x0 s0 s1 s2))
    = k0_pay1 (runB.sl.r_4 i arg4 T1 x0) (runB.sl.r_17 c i arg4 T1 x0 s0 s1 s2) (runB.sl.r_18 c i arg4 T1 x0 s0 s1) (runB.sl.r_19 c s2)
        (View.readAt (Elt Ideal) scG.view (Rect.unit (s := S2048x2816) ![0, 2560] S2048x256.size inb_S2048x2816_S2048x256_0_2560).toLoadRect s0)
        (View.readAt (Elt Ideal) scU.view (Rect.unit (s := S2048x2816) ![0, 2560] S2048x256.size inb_S2048x2816_S2048x256_0_2560).toLoadRect s1)
        (View.readAt (Elt Ideal) scD.view (Rect.unit (s := S2816x2048) ![2560, 0] S256x2048.size inb_S2816x2048_S256x2048_2560_0).toLoadRect s2) := by
  exact one_piece _

theorem stored_at (i : grid0.Coords) (arg4 : Memref sig .tc .vmem S512x2048 .f32) (T1 : S140.Idx → BitVec 32) (x0 : S512x2048.Idx → Elt Ideal .f32) (a : Fin 512) (j : Fin 2048) :
    VO.read (Elt Ideal) (VO.writes (Elt Ideal) VO.junk (stB (F := Ideal) c i arg4 T1 x0 s0 s1 s2)) (ix2 a j)
    = ∑ f : Fin 2816, act (xrow (T1 (at1 i)) x0 a) (fun k f => (show S2048x2816.Idx → EReal from s0) (ix2 k f)) (fun k f => (show S2048x2816.Idx → EReal from s1) (ix2 k f)) f
        * (show S2816x2048.Idx → EReal from s2) (ix2 f j) := by
  have e3 : runB.sl.r_3 (F := Ideal) i T1 = T1 (at1 i) := congrArg T1 (by
    funext a
    obtain rfl : a = 0 := Subsingleton.elim (α := Fin 1) _ _
    refine Fin.ext ?_
    show (BitVec.ofNat 32 (i 0).val).toNat + 1 * 0 = (i 0).val
    rw [BitVec.toNat_ofNat]; have := i_lt i; omega)
  have ex : View.readAt (Elt Ideal) arg4.view (Rect.unit ![0, 0] S512x2048.size inb_S512x2048_S512x2048_0_0).toLoadRect (arg4.view.rep x0) = x0 :=
    View.readAt_rep_full _ _ _
  have e4 : runB.sl.r_4 (F := Ideal) i arg4 T1 x0 = k0_pay3 (T1 (at1 i)) x0 := by delta runB.sl.r_4; rw [e3, ex]
  rw [stored]
  delta runB.sl.r_17 runB.sl.r_18 runB.sl.r_19 runB.sl.r_16 runB.sl.r_15 runB.sl.r_14 runB.sl.r_13 runB.sl.r_12 runB.sl.r_11 runB.sl.r_10 runB.sl.r_9 runB.sl.r_8 runB.sl.r_7 runB.sl.r_6 runB.sl.r_5
  rw [e4, e3, ex, pay1_at, pay16_at, pay14_at, pay12_at, pay8_at, pay4_at]
  simp only [pay17_at, pay15_at, pay13_at]
  refine Eq.trans ?_ (sum_tiles (xrow (T1 (at1 i)) x0 a) _ _ (fun f => (show S2816x2048.Idx → EReal from s2) (ix2 f j))).symm
  simp only [Finset.sum_range_succ, Finset.sum_range_zero, zero_add]
  have P := fun n o hn ho ib0 ib2 => part_tile c s0 s1 s2 (k0_pay3 (F := Ideal) (T1 (at1 i)) x0) n o hn ho ib0 ib2 a j
  refine congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·)
    (P 0 0 ?_ ?_ _ _) (P 1 256 ?_ ?_ _ _)) (P 2 512 ?_ ?_ _ _)) (P 3 768 ?_ ?_ _ _)) (P 4 1024 ?_ ?_ _ _)) (P 5 1280 ?_ ?_ _ _)) (P 6 1536 ?_ ?_ _ _)) (P 7 1792 ?_ ?_ _ _)) (P 8 2048 ?_ ?_ _ _)) (P 9 2304 ?_ ?_ _ _)) (P 10 2560 ?_ ?_ _ _) <;> norm_num

end Slabs

/-! The reference, read at an index. -/

/-- Taking one slab of a stack for every entry of a list. -/
abbrev slabDims (N A B n : ℕ) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

theorem gather_slab {α : Type} {N A B n : ℕ} (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (c : Fin n) (k : Fin A) (f : Fin B) (b : Fin N)
    (hb : (idx (ix2 c (0 : Fin 1))).toNat = b.val) (hN : N < 2 ^ 31) :
    Host.gather (slabDims N A B n wf) x idx (ix3 c k f) = x (ix3 b k f) := by
  unfold Host.gather
  refine congrArg x (funext fun a => Fin.ext ?_)
  have hbl := b.isLt
  match a with
  | ⟨0, _⟩ =>
    show (slabDims N A B n wf).start (ix3 c k f) idx 0 + (slabDims N A B n wf).batchCoord (ix3 c k f) 0 + (slabDims N A B n wf).offCoord (ix3 c k f) 0 = b.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabDims N A B n wf).startIndexMap from List.mem_singleton.mpr rfl)]
    have hsi : (slabDims N A B n wf).siIdx (ix3 c k f) ⟨List.idxOf (0 : Fin 3) (slabDims N A B n wf).startIndexMap,
        List.idxOf_lt_length_iff.2 (List.mem_singleton.mpr rfl)⟩ = ix2 c (0 : Fin 1) := by
      funext b'; refine Fin.ext ?_
      match b' with
      | ⟨0, _⟩ => rfl
      | ⟨1, _⟩ => rfl
    rw [hsi]
    show min (idx (ix2 c (0 : Fin 1))).toInt.toNat (N - 1) = b.val
    rw [BitVec.toInt_eq_toNat_of_lt (by omega), hb]
    omega
  | ⟨1, _⟩ =>
    show (slabDims N A B n wf).start (ix3 c k f) idx 1 + (slabDims N A B n wf).batchCoord (ix3 c k f) 1 + (slabDims N A B n wf).offCoord (ix3 c k f) 1 = k.val
    rw [GatherDims.batchCoord_eq_zero _ _ _ List.not_mem_nil, Nat.add_zero]
    unfold GatherDims.start GatherDims.offCoord
    rw [dif_neg (show (1 : Fin 3) ∉ ([0] : List (Fin 3)) by decide), dif_pos ((GatherDims.mem_sKept _ _).2 ⟨(show (1 : Fin 3) ∉ ([0] : List (Fin 3)) by decide), List.not_mem_nil⟩), Nat.zero_add]
    rfl
  | ⟨2, _⟩ =>
    show (slabDims N A B n wf).start (ix3 c k f) idx 2 + (slabDims N A B n wf).batchCoord (ix3 c k f) 2 + (slabDims N A B n wf).offCoord (ix3 c k f) 2 = f.val
    rw [GatherDims.batchCoord_eq_zero _ _ _ List.not_mem_nil, Nat.add_zero]
    unfold GatherDims.start GatherDims.offCoord
    rw [dif_neg (show (2 : Fin 3) ∉ ([0] : List (Fin 3)) by decide), dif_pos ((GatherDims.mem_sKept _ _).2 ⟨(show (2 : Fin 3) ∉ ([0] : List (Fin 3)) by decide), List.not_mem_nil⟩), Nat.zero_add]
    rfl

open Cert.Reference9Ideal.Value in
theorem xe_at (a0 : FVec Ideal Cert.Reference9Ideal.S71680x2048 .f32) (a2 : IVec Cert.Reference9Ideal.S140 32) (t : Fin 140) (r : Fin 512) (k : Fin 2048) :
    r_v7 a0 a2 (ix3 t r k) = Scalar.select (IntOp.cmpi CmpIPredicate.slt (BitVec.ofNat 32 r.val) (a2 (ix1 t))) (a0 (ix2 ⟨t.val * 512 + r.val, by omega⟩ k)) 0 := by
  pointwise [r_v7]

theorem xrow_at (v : BitVec 32) (x : FVec Ideal S512x2048 .f32) (i : Fin 512) (k : Fin 2048) : xrow v x i k
    = Scalar.select (IntOp.cmpi CmpIPredicate.slt (BitVec.ofNat 32 i.val) v) (x (ix2 i k)) 0 := by
  unfold xrow
  pointwise [k0_pay3]

section Reference

variable (a0 : FVec Ideal Cert.Reference9Ideal.S71680x2048 .f32) (a1 a2 : IVec Cert.Reference9Ideal.S140 32) (a3 : IVec Cert.Reference9Ideal.S1 32)
  (a4 a5 : FVec Ideal Cert.Reference9Ideal.S8x2048x2816 .bf16) (a6 : FVec Ideal Cert.Reference9Ideal.S8x2816x2048 .bf16)

open Cert.Reference9Ideal.Value

theorem gate_at (t : Fin 140) (k : Fin 2048) (f : Fin 2816) (e : Fin 8) (he : (a1 (ix1 t)).toNat = e.val) :
    r_v9 a1 a4 (ix3 t k f) = a4 (ix3 e k f) := by
  unfold r_v9
  refine gather_slab Cert.Reference9Ideal.Facts₀.gather_S8x2048x2816_S140x1_S140x2048x2816_12_0_n_n_0_1_120482816_wf a4 _ t k f e ?_ (by norm_num)
  refine Eq.trans (congrArg BitVec.toNat ?_) he
  pointwise

theorem up_at (t : Fin 140) (k : Fin 2048) (f : Fin 2816) (e : Fin 8) (he : (a1 (ix1 t)).toNat = e.val) :
    r_v11 a1 a5 (ix3 t k f) = a5 (ix3 e k f) := gate_at a1 a5 t k f e he

theorem down_at (t : Fin 140) (f : Fin 2816) (j : Fin 2048) (e : Fin 8) (he : (a1 (ix1 t)).toNat = e.val) :
    r_v13 a1 a6 (ix3 t f j) = a6 (ix3 e f j) := by
  unfold r_v13
  refine gather_slab Cert.Reference9Ideal.Facts₀.gather_S8x2816x2048_S140x1_S140x2816x2048_12_0_n_n_0_1_128162048_wf a6 _ t f j e ?_ (by norm_num)
  refine Eq.trans (congrArg BitVec.toNat ?_) he
  pointwise

theorem h_at (t : Fin 140) (r : Fin 512) (f : Fin 2816) (e : Fin 8) (he : (a1 (ix1 t)).toNat = e.val) :
    r_v17 a0 a1 a2 a4 a5 (ix3 t r f) = act (fun k => r_v7 a0 a2 (ix3 t r k)) (fun k f => a4 (ix3 e k f)) (fun k f => a5 (ix3 e k f)) f := by
  unfold act silu
  pointwise [r_v17, r_v14, r_v16]
  simp only [gate_at a1 a4 t _ _ e he, up_at a1 a5 t _ _ e he]

theorem out_at (t : Fin 140) (r : Fin 512) (j : Fin 2048) (e : Fin 8) (he : (a1 (ix1 t)).toNat = e.val) :
    r_v23 a0 a1 a2 a4 a5 a6 (ix3 t r j)
      = ∑ f : Fin 2816, act (fun k => r_v7 a0 a2 (ix3 t r k)) (fun k f => a4 (ix3 e k f)) (fun k f => a5 (ix3 e k f)) f * a6 (ix3 e f j) := by
  pointwise [r_v23]
  simp only [h_at a0 a1 a2 a4 a5 t r _ e he, down_at a1 a6 t _ j e he]

theorem ref_at (i : Fin 71680) (j : Fin 2048) :
    REF a0 a1 a2 a3 a4 a5 a6 (ix2 i j) = Scalar.select (IntOp.cmpi CmpIPredicate.slt (BitVec.ofNat 32 (i.val / 512)) (a3 (ix1 0)))
      (r_v23 a0 a1 a2 a4 a5 a6 (ix3 ⟨i.val / 512, by omega⟩ ⟨i.val % 512, by omega⟩ j)) 0 := by
  pointwise [REF]

end Reference

variable (b : Tab) (m : (ℓ : Loc nD τ sig) → Buf (Elt Ideal) ℓ)

theorem idxI (t : Fin (cfgA (F := Ideal) b).N) : ((cfgA (F := Ideal) b).win (0 : Fin 2)).index t = ![min t.val ((vN (F := Ideal) b).toNat - 1), 0] :=
  (tr0 (F := Ideal) b.T0 b.T1 b.T2 b.good (crd b t)).trans (by rw [crd0])

theorem idxO (t : Fin (cfgA (F := Ideal) b).N) : ((cfgA (F := Ideal) b).win (1 : Fin 2)).index t = ![t.val, 0] := by
  have hn := lt_of_lt_of_eq t.isLt (N_A (F := Ideal) b)
  have h : cc0_transform_4 (crd (F := Ideal) b t) = ![t.val, 0] := by
    have e : (BitVec.ofNat 32 (crd (F := Ideal) b t 0).val).toNat = t.val := by rw [BitVec.toNat_ofNat, crd0]; omega
    show ![(BitVec.ofNat 32 (crd (F := Ideal) b t 0).val).toNat, 0] = _
    rw [e]
  exact h

theorem flushO (t : Fin (cfgA (F := Ideal) b).N) : ((cfgA (F := Ideal) b).win (1 : Fin 2)).flush t = true := by
  unfold Pipeline.Window.flush
  refine Bool.and_eq_true_iff.mpr ⟨rfl, ?_⟩
  by_cases h : t.val + 1 < (cfgA (F := Ideal) b).N
  · refine Bool.or_eq_true_iff.mpr (Or.inr (decide_eq_true ⟨h, fun e => ?_⟩))
    rw [idxO, idxO] at e
    have := congrFun e 0
    have e2 : t.val + 1 = t.val := this
    omega
  · exact Bool.or_eq_true_iff.mpr (Or.inl (decide_eq_true (le_antisymm t.isLt (not_lt.mp h))))

theorem covers : ((cfgA (F := Ideal) b).win (1 : Fin 2)).Covers := by
  refine ⟨fun a => ?_, fun β => ?_⟩
  · match a with
    | ⟨0, _⟩ => exact (by norm_num : 0 < 512)
    | ⟨1, _⟩ => exact (by norm_num : 0 < 2048)
  · have h0 : (β (0 : Fin 2)).val < 140 := lt_of_lt_of_eq (β (0 : Fin 2)).isLt (show (71680 + 512 - 1) / 512 = 140 by norm_num)
    have h1 : (β (1 : Fin 2)).val < 1 := lt_of_lt_of_eq (β (1 : Fin 2)).isLt (show (2048 + 2048 - 1) / 2048 = 1 by norm_num)
    refine ⟨⟨(β (0 : Fin 2)).val, lt_of_lt_of_eq h0 (N_A (F := Ideal) b).symm⟩, flushO b _, fun a => ⟨?_, Or.inl ?_⟩⟩
    · rw [idxO]
      match a with
      | ⟨0, _⟩ => rfl
      | ⟨1, _⟩ => exact (Nat.lt_one_iff.mp h1).symm
    · match a with
      | ⟨0, _⟩ => rfl
      | ⟨1, _⟩ => rfl

theorem xin (c : Dev nD) (t : Fin (cfgA (F := Ideal) b).N) (ht : Act b t) (i : Fin 512) (k : Fin 2048) :
    (show FVec Ideal S512x2048 .f32 from iblk b m c (0 : Fin 2) t) (ix2 i k)
      = m ((c : Thread nD τ).loc main_arg0) (ix2 ⟨t.val * 512 + i.val, by have := lt_of_lt_of_eq t.isLt (N_A (F := Ideal) b); omega⟩ k) := by
  have h := idxI b t
  rw [Nat.min_eq_left (by have : t.val < (vN (F := Ideal) b).toNat := ht; omega)] at h
  blk_point [iblk, h]

theorem slab_at (e : BitVec 32) (g : FVec Ideal S8x2048x2816 .bf16) (k : Fin 2048) (f : Fin 2816) :
    slab (F := Ideal) e g (ix2 k f) = g (ix3 ⟨e.toNat % 8, Nat.mod_lt _ (by norm_num)⟩ k f) := by
  refine congrArg g (funext fun d => ?_)
  match d with
  | ⟨0, _⟩ => rfl
  | ⟨1, _⟩ => rfl
  | ⟨2, _⟩ => rfl

theorem slabD_at (e : BitVec 32) (g : FVec Ideal S8x2816x2048 .bf16) (f : Fin 2816) (j : Fin 2048) :
    slabD (F := Ideal) e g (ix2 f j) = g (ix3 ⟨e.toNat % 8, Nat.mod_lt _ (by norm_num)⟩ f j) := by
  refine congrArg g (funext fun d => ?_)
  match d with
  | ⟨0, _⟩ => rfl
  | ⟨1, _⟩ => rfl
  | ⟨2, _⟩ => rfl

theorem final (hp : Held b m) (c : Dev nD) : (dats (F := Ideal) b m 0 c).arrAt (1 : Fin 2) (cfgA (F := Ideal) b).N
    = Cert.Reference9Ideal.Value.REF (m ((c : Thread nD τ).loc main_arg0)) (m ((c : Thread nD τ).loc main_arg1)) (m ((c : Thread nD τ).loc main_arg2)) (m ((c : Thread nD τ).loc main_arg3))
        (m ((c : Thread nD τ).loc main_v0)) (m ((c : Thread nD τ).loc main_v1)) (m ((c : Thread nD τ).loc main_v2)) := by
  refine (dats (F := Ideal) b m 0 c).arrAt_eq_of_covers (1 : Fin 2) _ (covers b) fun t hf y => ?_
  blk_simp
  rw [after1]
  idx_vars y
  have hn := lt_of_lt_of_eq t.isLt (N_A (F := Ideal) b)
  refine Eq.trans ?_ (congrArg (Cert.Reference9Ideal.Value.REF _ _ _ _ _ _ _) (show ix2 (⟨t.val * 512 + y0.val, by omega⟩ : Fin 71680) y1 = _ from ?_))
  swap
  · have h := idxO b t
    blk_ext [h]
  rw [ref_at, (hp c).1, (hp c).2.1, (hp c).2.2]
  have hd : (t.val * 512 + y0.val) / 512 = t.val := by omega
  have hm : (t.val * 512 + y0.val) % 512 = y0.val := by omega
  simp only [hd, hm]
  have hE : (vE (F := Ideal) b t) = b.T0 (ix1 ⟨t.val, hn⟩) := (wE_eq (F := Ideal) (crd b t) b.T0).trans (congrArg b.T0 (by
    funext a; obtain rfl : a = 0 := Subsingleton.elim (α := Fin 1) _ _
    exact Fin.ext (crd0 b t)))
  have hN : vN (F := Ideal) b = b.T2 (ix1 0) := (wN_eq (F := Ideal) b.T2).trans (congrArg b.T2 (by
    funext a; obtain rfl : a = 0 := Subsingleton.elim (α := Fin 1) _ _
    rfl))
  have hV : b.T1 (at1 (crd (F := Ideal) b t)) = b.T1 (ix1 ⟨t.val, hn⟩) := congrArg b.T1 (by
    funext a; obtain rfl : a = 0 := Subsingleton.elim (α := Fin 1) _ _
    exact Fin.ext (crd0 b t))
  have hlt : IntOp.cmpi CmpIPredicate.slt (BitVec.ofNat 32 t.val) (b.T2 (ix1 0)) = BitVec.ofBool (decide (t.val < (b.T2 (ix1 0)).toNat)) := by
    have := slt_eq (crd (F := Ideal) b t) (b.T2 (ix1 0)) (b.good.hi _)
    rwa [crd0] at this
  rw [hlt]
  unfold out
  by_cases ha : Act b t
  · have ha' : t.val < (b.T2 (ix1 0)).toNat := by rw [← hN]; exact ha
    rw [if_pos ha, decide_eq_true ha']
    refine (stored_at c _ _ _ (crd b t) (ms0 b t) b.T1 _ y0 y1).trans ?_
    refine Eq.trans ?_ (out_at _ b.T0 b.T1 _ _ _ ⟨t.val, hn⟩ y0 y1 ⟨(vE (F := Ideal) b t).toNat % 8, Nat.mod_lt _ (by norm_num)⟩ ((congrArg BitVec.toNat hE.symm).trans (Nat.mod_eq_of_lt (vE_lt b t)).symm)).symm
    refine Finset.sum_congr rfl fun f _ => ?_
    have hx : xrow (b.T1 (at1 (crd (F := Ideal) b t))) (iblk b m c (0 : Fin 2) t) y0
        = fun k => Cert.Reference9Ideal.Value.r_v7 (m ((c : Thread nD τ).loc main_arg0)) b.T1 (ix3 ⟨t.val, hn⟩ y0 k) := by
      funext k
      rw [xrow_at, xe_at, hV]
      exact congrArg (fun z => Scalar.select _ z 0) (xin b m c t ha y0 k)
    rw [hx]
    refine congrArg₂ (· * ·) (congrArg₂ (fun g u => act _ g u f) ?_ ?_) (slabD_at _ _ _ _)
    · funext k f'; exact slab_at _ _ _ _
    · funext k f'; exact slab_at _ _ _ _
  · have ha' : ¬ t.val < (b.T2 (ix1 0)).toNat := by rw [← hN]; exact ha
    rw [if_neg ha, decide_eq_false ha']
    exact (congrFun (one_piece _) _).trans ((show k0_pay2 (F := Ideal) (ix2 y0 y1) = 0 by pointwise [k0_pay2]).trans (if_neg (by decide)).symm)

end Cert.Kernel9Ideal.Value

end
-- ==== Proof.Ref10.lean ====
module

public import proofs.«01_k».proof.Proof.Gen.Reference10Ideal
public import Idealize.ShloMosaic.Lib.StableHlo.Run
public import Idealize.ShloMosaic.PureOps.Ideal

/-! The result of Reference10Ideal, stage by stage, over variables. -/

@[expose] public section

set_option maxRecDepth 16384

noncomputable section

open Idealize.ShloMosaic Idealize.ShloMosaic.TcCoe

namespace Cert.Reference10Ideal.Value

open Cert.Reference10Ideal Cert.Reference10Ideal.Gen

/-- The value v1 of the reference. -/
def r_v1 (a0 : FVec Ideal S32768x3584 .f32) : FVec Ideal S2x16384x4x64 .f32 :=
  shapeCast S2x16384x4x64 (extractStridedSlice S32768x256 ![0, 3072] a0 slices_S32768x3584_S32768x256_0_3072)
    shapeCasts_S32768x256_S2x16384x4x64

/-- The value v16 of the reference. -/
def r_v16  : FVec Ideal S16384x32 .f32 :=
  mulf (broadcastInDim S16384x32 ![0, 1] bcast_S16384x1_S16384x32_0_1 (broadcastInDim S16384x1 ![0]
    bcast_S16384_S16384x1_0 (sitofp .f32 (addi (broadcastInDim S16384 ![] bcast_S_S16384 (constantI S_ 32 0#32))
    (iotaInDim S16384 32 0))))) (broadcastInDim S16384x32 ![0, 1] bcast_S1x32_S16384x32_0_1 (broadcastInDim S1x32
    ![1] bcast_S32_S1x32_1 (Host.exp (Host.divf (mulf (broadcastInDim S32 ![] bcast_S_S32 (constant S_ .f32
    0xC1135D8E#32)) (sitofp .f32 (iotaInDim S32 32 0))) (broadcastInDim S32 ![] bcast_S_S32 (constant S_ .f32
    0x42000000#32))))))

/-- The value v18 of the reference. -/
def r_v18  : FVec Ideal S1x16384x1x32 .f32 :=
  broadcastInDim S1x16384x1x32 ![1, 3] bcast_S16384x32_S1x16384x1x32_1_3 (Host.cos r_v16)

/-- The value v20 of the reference. -/
def r_v20  : FVec Ideal S1x16384x1x32 .f32 :=
  broadcastInDim S1x16384x1x32 ![1, 3] bcast_S16384x32_S1x16384x1x32_1_3 (Host.sin r_v16)

/-- The value v21 of the reference. -/
def r_v21 (a0 : FVec Ideal S32768x3584 .f32) : FVec Ideal S2x16384x4x32 .f32 :=
  extractStridedSlice S2x16384x4x32 ![0, 0, 0, 0] (r_v1 a0) slices_S2x16384x4x64_S2x16384x4x32_0_0_0_0

/-- The value v22 of the reference. -/
def r_v22 (a0 : FVec Ideal S32768x3584 .f32) : FVec Ideal S2x16384x4x32 .f32 :=
  extractStridedSlice S2x16384x4x32 ![0, 0, 0, 32] (r_v1 a0) slices_S2x16384x4x64_S2x16384x4x32_0_0_0_32

/-- The value v34 of the reference. -/
def REF (a0 : FVec Ideal S32768x3584 .f32) (a1 : FVec Ideal S16 .f32) : FVec Ideal S32768x256 .f32 :=
  shapeCast S32768x256 (concatenate S2x16384x4x64 3 [⟨S2x16384x4x32, (subf (mulf (r_v21 a0) (broadcastInDim
    S2x16384x4x32 ![0, 1, 2, 3] bcast_S1x16384x1x32_S2x16384x4x32_0_1_2_3 r_v18)) (mulf (r_v22 a0) (broadcastInDim
    S2x16384x4x32 ![0, 1, 2, 3] bcast_S1x16384x1x32_S2x16384x4x32_0_1_2_3 r_v20)))⟩, ⟨S2x16384x4x32, (addf (mulf
    (r_v22 a0) (broadcastInDim S2x16384x4x32 ![0, 1, 2, 3] bcast_S1x16384x1x32_S2x16384x4x32_0_1_2_3 r_v18)) (mulf
    (r_v21 a0) (broadcastInDim S2x16384x4x32 ![0, 1, 2, 3] bcast_S1x16384x1x32_S2x16384x4x32_0_1_2_3 r_v20)))⟩]
    concatenates_S2x16384x4x32_S2x16384x4x32_S2x16384x4x64_d3) shapeCasts_S2x16384x4x64_S32768x256

end Cert.Reference10Ideal.Value

end
-- ==== Proof.Value10.lean ====
module

public import proofs.«01_k».proof.Proof.Gen.Kernel10Ideal.Frame
public import proofs.«01_k».proof.Proof.Ref10
public import Idealize.ShloMosaic.Lib.Claim
public import Idealize.ShloMosaic.Lib.Pipeline.ValueKit
public import Idealize.ShloMosaic.Lib.Pointwise

/-! The rotated keys of the sliding-window call. -/

@[expose] public section

set_option maxRecDepth 16384

noncomputable section

open Idealize.ShloMosaic Idealize.ShloMosaic.TcCoe Idealize.SL.Sem
open Idealize.ShloMosaic.Pipeline (Dat)

namespace Cert.Kernel10Ideal.Value

open Cert.Kernel10Ideal Cert.Kernel10Ideal.Gen

variable (m : (ℓ : Loc nD τ sig) → Buf (Elt Ideal) ℓ)

/-- The windows' block indices. -/
theorem idx : ∀ t : Fin cfg0.N, win0_1.index t = ![t.val, 6] ∧ win0_2.index t = ![t.val % 32, 0]
    ∧ win0_3.index t = ![t.val % 32, 0] ∧ win0_8.index t = ![t.val, 0] ∧ t.val < 64 :=
  (by decide +kernel : ∀ t : Fin grid0.N, _)

/-- The angle of a position and a frequency. -/
def ang (s f : ℕ) : EReal :=
  FloatOps.sitofp (F := Ideal) FTy.f32 (IntOp.addi (0#32) (BitVec.ofNat 32 s)) *
    Ideal.exp (Ideal.div (Ideal.ofBits FTy.f32 0xC1135D8E#32 * FloatOps.sitofp (F := Ideal) FTy.f32 (BitVec.ofNat 32 f))
      (Ideal.ofBits FTy.f32 0x42000000#32))

theorem ang_at (s : Fin 16384) (f : Fin 32) : Cert.Reference10Ideal.Value.r_v16 (ix2 s f) = ang s.val f.val := by
  unfold ang
  pointwise [Cert.Reference10Ideal.Value.r_v16]

/-- The reference's result, at an index. -/
theorem ref_at (a0 : FVec Ideal Cert.Reference10Ideal.S32768x3584 .f32) (a1 : FVec Ideal Cert.Reference10Ideal.S16 .f32) (i : Fin 32768) (j : Fin 256) :
    Cert.Reference10Ideal.Value.REF a0 a1 (ix2 i j) = if h : j.val % 64 < 32 then
      a0 (ix2 i ⟨3072 + j.val, by omega⟩) * Ideal.cos (ang (i.val % 16384) (j.val % 64))
        - a0 (ix2 i ⟨3072 + (j.val + 32), by omega⟩) * Ideal.sin (ang (i.val % 16384) (j.val % 64))
    else a0 (ix2 i ⟨3072 + j.val, by omega⟩) * Ideal.cos (ang (i.val % 16384) (j.val % 64 - 32))
        + a0 (ix2 i ⟨3072 + (j.val - 32), by omega⟩) * Ideal.sin (ang (i.val % 16384) (j.val % 64 - 32)) := by
  pointwise [Cert.Reference10Ideal.Value.REF, Cert.Reference10Ideal.Value.r_v1, Cert.Reference10Ideal.Value.r_v18, Cert.Reference10Ideal.Value.r_v20, Cert.Reference10Ideal.Value.r_v21, Cert.Reference10Ideal.Value.r_v22]
  simp only [ang_at]
  split
  · rename_i h
    simp only [show 3072 + (j.val / 64 * 64 + (32 + j.val % 64)) = 3072 + (j.val + 32) by omega]
  · rename_i h
    simp only [show 3072 + (j.val / 64 * 64 + (32 + (j.val % 64 - 32))) = 3072 + j.val by omega,
      show 3072 + (j.val / 64 * 64 + (j.val % 64 - 32)) = 3072 + (j.val - 32) by omega]

/-- The mask of the first half of a head, at an index. -/
theorem mask_at (r : Fin 512) (l : Fin 128) : k0_pay7 (ix2 r l) = if l.val % 64 < 32 then 1#1 else 0#1 := by
  pointwise [k0_pay7]
  revert l
  decide +kernel

/-- The rotated keys of a block, at an index. -/
theorem pay_at (co si : FVec Ideal S512x128 .f32) (x : FVec Ideal S512x512 .f32) (r : Fin 512) (j : Fin 256) :
    (k0_pay14 (F := Ideal) (k0_pay5 (F := Ideal) co) (k0_pay6 (F := Ideal) si) k0_pay7 x (ix2 r j) : EReal) =
      if h : j.val % 64 < 32 then
        x (ix2 r ⟨j.val, by omega⟩) * co (ix2 r ⟨j.val % 128, by omega⟩)
          + x (ix2 r ⟨j.val + 32, by omega⟩) * si (ix2 r ⟨j.val % 128, by omega⟩)
      else x (ix2 r ⟨j.val, by omega⟩) * co (ix2 r ⟨j.val % 128, by omega⟩)
          + x (ix2 r ⟨j.val - 32, by omega⟩) * si (ix2 r ⟨j.val % 128, by omega⟩) := by
  pointwise [k0_pay14, k0_pay5, k0_pay6]
  simp only [mask_at]
  by_cases h1 : j.val < 128
  · have e0 : j.val % 128 = j.val := by omega
    rw [dif_pos h1]
    by_cases h2 : j.val % 64 < 32
    · rw [dif_pos h2, if_pos h2]
      simp only [e0, show (j.val + 128 - 96) % 128 = j.val + 32 by omega]
      rfl
    · rw [dif_neg h2, if_neg h2]
      simp only [e0, show (j.val + 128 - 32) % 128 = j.val - 32 by omega]
      rfl
  · have e0 : j.val % 128 = j.val - 128 := by omega
    have e1 : (j.val - 128) % 64 = j.val % 64 := by omega
    have e2 : 128 + (j.val - 128) = j.val := by omega
    rw [dif_neg h1]
    simp only [e1, e0, e2]
    by_cases h2 : j.val % 64 < 32
    · rw [dif_pos h2, if_pos h2]
      simp only [show 128 + (j.val - 128 + 128 - 96) % 128 = j.val + 32 by omega]
      rfl
    · rw [dif_neg h2, if_neg h2]
      simp only [show 128 + (j.val - 128 + 128 - 32) % 128 = j.val - 32 by omega]
      rfl

/-- The rotated keys' block after the body, first point of a batch. -/
theorem out8_A (c : Dev nD) (i : grid0.Coords) (arg2 : Memref sig .tc .vmem S512x1024 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .smem S16 .f32) (harg8 : arg8.IsWhole) (arg9 : Memref sig .tc .vmem S512x1024 .f32) (harg9 : arg9.IsWhole) (arg10 : Memref sig .tc .vmem S512x256 .f32) (harg10 : arg10.IsWhole) (arg11 : Memref sig .tc .vmem S640x256 .f32) (harg11 : arg11.IsWhole) (arg12 : Memref sig .tc .vmem S640x256 .f32) (harg12 : arg12.IsWhole) (hc0 : cond0_0 i)
    (x0 : Vec Ideal S512x1024 .f32) (x1 : Vec Ideal S512x512 .f32) (x2 : Vec Ideal S512x128 .f32) (x3 : Vec Ideal S512x128 .f32) (x4 : Vec Ideal S1x128x256 .f32) (x5 : Vec Ideal S1x128x256 .f32) (x6 : Vec Ideal S16 .f32) (y : S512x256.Idx) :
    out0_A_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 y = k0_pay14 (F := Ideal) (k0_pay5 (F := Ideal) x2) (k0_pay6 (F := Ideal) x3) k0_pay7 x1 y := by
  frame_out

/-- The rotated keys' block after the body, other points. -/
theorem out8_B (c : Dev nD) (i : grid0.Coords) (arg2 : Memref sig .tc .vmem S512x1024 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .smem S16 .f32) (harg8 : arg8.IsWhole) (arg9 : Memref sig .tc .vmem S512x1024 .f32) (harg9 : arg9.IsWhole) (arg10 : Memref sig .tc .vmem S512x256 .f32) (harg10 : arg10.IsWhole) (arg11 : Memref sig .tc .vmem S640x256 .f32) (harg11 : arg11.IsWhole) (arg12 : Memref sig .tc .vmem S640x256 .f32) (harg12 : arg12.IsWhole) (hc0 : ¬cond0_0 i)
    (x0 : Vec Ideal S512x1024 .f32) (x1 : Vec Ideal S512x512 .f32) (x2 : Vec Ideal S512x128 .f32) (x3 : Vec Ideal S512x128 .f32) (x4 : Vec Ideal S1x128x256 .f32) (x5 : Vec Ideal S1x128x256 .f32) (x6 : Vec Ideal S16 .f32) (xs0 : Vec Ideal S640x256 .f32) (xs1 : Vec Ideal S640x256 .f32) (y : S512x256.Idx) :
    out0_B_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs0 xs1 y = k0_pay14 (F := Ideal) (k0_pay5 (F := Ideal) x2) (k0_pay6 (F := Ideal) x3) k0_pay7 x1 y := by
  frame_out

theorem x1_at (c : Dev nD) (t : Fin cfg0.N) (r : Fin 512) (j : Fin 512) :
    iblk m c 1 t (ix2 r j) = m ((c : Thread nD τ).loc main_arg0) (ix2 ⟨t.val * 512 + r.val, by have := (idx t).2.2.2.2; omega⟩ ⟨3072 + j.val, by omega⟩) := by
  blk_point [iblk, V, idx t]

/-- The table of cosines, at an index. -/
theorem cos_at (c : Dev nD) (r : Fin 16384) (j : Fin 128) :
    @Eq EReal (V m c main_v20 (ix2 r j)) (Ideal.cos (ang r.val (j.val % 32))) := by
  entry_read
  unfold ang
  pointwise

/-- The table of signed sines, at an index. -/
theorem sin_at (c : Dev nD) (r : Fin 16384) (j : Fin 128) :
    @Eq EReal (V m c main_v25 (ix2 r j)) (if h : j.val % 64 < 32 then -Ideal.sin (ang r.val (j.val % 64))
      else Ideal.sin (ang r.val (j.val % 64 - 32))) := by
  entry_read
  unfold ang
  pointwise

theorem x2_at (c : Dev nD) (t : Fin cfg0.N) (r : Fin 512) (j : Fin 128) :
    @Eq EReal (iblk m c 2 t (ix2 r j)) (Ideal.cos (ang (t.val % 32 * 512 + r.val) (j.val % 32))) := by
  refine Eq.trans ?_ (cos_at m c ⟨t.val % 32 * 512 + r.val, by omega⟩ j)
  unfold iblk
  blk_ext [idx t]

theorem x3_at (c : Dev nD) (t : Fin cfg0.N) (r : Fin 512) (j : Fin 128) :
    @Eq EReal (iblk m c 3 t (ix2 r j)) (if h : j.val % 64 < 32 then -Ideal.sin (ang (t.val % 32 * 512 + r.val) (j.val % 64))
      else Ideal.sin (ang (t.val % 32 * 512 + r.val) (j.val % 64 - 32))) := by
  refine Eq.trans ?_ (sin_at m c ⟨t.val % 32 * 512 + r.val, by omega⟩ j)
  unfold iblk
  blk_ext [idx t]

/-- The block of rotated keys after a point of the grid. -/
theorem outs8 (c : Dev nD) (t : Fin cfg0.N) (y : S512x256.Idx) :
    (outsAt0 m c t.val t.isLt).2.1 y = k0_pay14 (F := Ideal) (k0_pay5 (F := Ideal) (iblk m c 2 t))
      (k0_pay6 (F := Ideal) (iblk m c 3 t)) k0_pay7 (iblk m c 1 t) y := by
  by_cases h0 : t.val % 32 = 0
  · rw [outsAt0_A m c t h0]
    dsimp only
    rw [out8_A]
  · rw [outsAt0_B m c t h0]
    dsimp only
    rw [out8_B]

/-- The rotated keys of a point's block, at an index. -/
theorem key_at (c : Dev nD) (t : Fin cfg0.N) (r : Fin 512) (j : Fin 256) (ht : t.val < 64) :
    @Eq EReal (k0_pay14 (F := Ideal) (k0_pay5 (F := Ideal) (iblk m c 2 t)) (k0_pay6 (F := Ideal) (iblk m c 3 t)) k0_pay7 (iblk m c 1 t) (ix2 r j))
      (Cert.Reference10Ideal.Value.REF (m ((c : Thread nD τ).loc main_arg0)) (m ((c : Thread nD τ).loc main_arg1)) (ix2 ⟨t.val * 512 + r.val, by omega⟩ j)) := by
  refine (pay_at _ _ _ _ _).trans (Eq.trans ?_ (ref_at _ _ _ _).symm)
  have e1 : (t.val * 512 + r.val) % 16384 = t.val % 32 * 512 + r.val := by omega
  have e2 : j.val % 128 % 64 = j.val % 64 := by omega
  by_cases h : j.val % 64 < 32
  · rw [dif_pos h, dif_pos h, x1_at, x1_at, x2_at, x3_at]
    dsimp only
    rw [dif_pos (by omega), e1, e2, show j.val % 128 % 32 = j.val % 64 by omega, mul_neg, ← sub_eq_add_neg]
  · rw [dif_neg h, dif_neg h, x1_at, x1_at, x2_at, x3_at]
    dsimp only
    rw [dif_neg (by omega), e1, e2, show j.val % 128 % 32 = j.val % 64 - 32 by omega]

/-- The kernel's rotated keys are the reference's term over the kernel's arguments. -/
theorem final (c : Dev nD) : (dats m 0 c).arrAt 8 (cfgs 0).N
    = Cert.Reference10Ideal.Value.REF (m ((c : Thread nD τ).loc main_arg0)) (m ((c : Thread nD τ).loc main_arg1)) := by
  refine (dats m 0 c).arrAt_eq_of_covers 8 _ (by decide +kernel) fun t hf y => ?_
  blk_simp; rw [after0_8]
  refine (outs8 m c t y).trans ?_
  idx_vars y
  have ht := (idx t).2.2.2.2
  refine (key_at m c t y0 y1 ht).trans (congrArg (Cert.Reference10Ideal.Value.REF _ _) ?_)
  blk_ext [idx t]

end Cert.Kernel10Ideal.Value

end
-- ==== Proof.Ref11.lean ====
module

public import proofs.«01_k».proof.Proof.Gen.Reference11Ideal
public import Idealize.ShloMosaic.Lib.StableHlo.Run
public import Idealize.ShloMosaic.PureOps.Ideal

/-! The result of Reference11Ideal, stage by stage, over variables. -/

@[expose] public section

set_option maxRecDepth 64

noncomputable section

open Idealize.ShloMosaic Idealize.ShloMosaic.TcCoe

namespace Cert.Reference11Ideal.Value

open Cert.Reference11Ideal Cert.Reference11Ideal.Gen

/-- The value v1 of the reference. -/
def r_v1 (a0 : FVec Ideal S1024x3584 .f32) : FVec Ideal S16x64x4x64 .f32 :=
  shapeCast S16x64x4x64 (extractStridedSlice S1024x256 ![0, 3072] a0 slices_S1024x3584_S1024x256_0_3072)
    shapeCasts_S1024x256_S16x64x4x64

/-- The value v16 of the reference. -/
def r_v16  : FVec Ideal S64x32 .f32 :=
  mulf (broadcastInDim S64x32 ![0, 1] bcast_S64x1_S64x32_0_1 (broadcastInDim S64x1 ![0]
    bcast_S64_S64x1_0 (sitofp .f32 (addi (broadcastInDim S64 ![] bcast_S_S64 (constantI S_ 32 4096#32))
    (iotaInDim S64 32 0))))) (broadcastInDim S64x32 ![0, 1] bcast_S1x32_S64x32_0_1 (broadcastInDim S1x32
    ![1] bcast_S32_S1x32_1 (Host.exp (Host.divf (mulf (broadcastInDim S32 ![] bcast_S_S32 (constant S_ .f32
    0xC1135D8E#32)) (sitofp .f32 (iotaInDim S32 32 0))) (broadcastInDim S32 ![] bcast_S_S32 (constant S_ .f32
    0x42000000#32))))))

/-- The value v18 of the reference. -/
def r_v18  : FVec Ideal S1x64x1x32 .f32 :=
  broadcastInDim S1x64x1x32 ![1, 3] bcast_S64x32_S1x64x1x32_1_3 (Host.cos r_v16)

/-- The value v20 of the reference. -/
def r_v20  : FVec Ideal S1x64x1x32 .f32 :=
  broadcastInDim S1x64x1x32 ![1, 3] bcast_S64x32_S1x64x1x32_1_3 (Host.sin r_v16)

/-- The value v21 of the reference. -/
def r_v21 (a0 : FVec Ideal S1024x3584 .f32) : FVec Ideal S16x64x4x32 .f32 :=
  extractStridedSlice S16x64x4x32 ![0, 0, 0, 0] (r_v1 a0) slices_S16x64x4x64_S16x64x4x32_0_0_0_0

/-- The value v22 of the reference. -/
def r_v22 (a0 : FVec Ideal S1024x3584 .f32) : FVec Ideal S16x64x4x32 .f32 :=
  extractStridedSlice S16x64x4x32 ![0, 0, 0, 32] (r_v1 a0) slices_S16x64x4x64_S16x64x4x32_0_0_0_32

/-- The value v34 of the reference. -/
def REF (a0 : FVec Ideal S1024x3584 .f32) (a1 : FVec Ideal S16x128x4x64 .f32) (a2 : FVec Ideal S16x128x4x64 .f32) (a3 : FVec Ideal S16 .f32) : FVec Ideal S1024x256 .f32 :=
  shapeCast S1024x256 (concatenate S16x64x4x64 3 [⟨S16x64x4x32, (subf (mulf (r_v21 a0) (broadcastInDim
    S16x64x4x32 ![0, 1, 2, 3] bcast_S1x64x1x32_S16x64x4x32_0_1_2_3 r_v18)) (mulf (r_v22 a0) (broadcastInDim
    S16x64x4x32 ![0, 1, 2, 3] bcast_S1x64x1x32_S16x64x4x32_0_1_2_3 r_v20)))⟩, ⟨S16x64x4x32, (addf (mulf
    (r_v22 a0) (broadcastInDim S16x64x4x32 ![0, 1, 2, 3] bcast_S1x64x1x32_S16x64x4x32_0_1_2_3 r_v18)) (mulf
    (r_v21 a0) (broadcastInDim S16x64x4x32 ![0, 1, 2, 3] bcast_S1x64x1x32_S16x64x4x32_0_1_2_3 r_v20)))⟩]
    concatenates_S16x64x4x32_S16x64x4x32_S16x64x4x64_d3) shapeCasts_S16x64x4x64_S1024x256

end Cert.Reference11Ideal.Value

end
-- ==== Proof.Value11.lean ====
module

public import proofs.«01_k».proof.Proof.Gen.Kernel11Ideal.Frame
public import proofs.«01_k».proof.Proof.Ref11
public import Idealize.ShloMosaic.Lib.Claim
public import Idealize.ShloMosaic.Lib.Pipeline.ValueKit
public import Idealize.ShloMosaic.Lib.Pointwise

/-! The rotated keys of the sliding-window call, for the sample. -/

@[expose] public section

set_option maxRecDepth 16384

noncomputable section

open Idealize.ShloMosaic Idealize.ShloMosaic.TcCoe Idealize.SL.Sem
open Idealize.ShloMosaic.Pipeline (Dat)

namespace Cert.Kernel11Ideal.Value

open Cert.Kernel11Ideal Cert.Kernel11Ideal.Gen

variable (m : (ℓ : Loc nD τ sig) → Buf (Elt Ideal) ℓ)

/-- The windows' block indices. -/
theorem idx : ∀ t : Fin cfg0.N, win0_1.index t = ![t.val, 6] ∧ win0_2.index t = ![0, 0]
    ∧ win0_3.index t = ![0, 0] ∧ win0_8.index t = ![t.val, 0] ∧ t.val < 16 :=
  (by decide +kernel : ∀ t : Fin grid0.N, _)

/-- The angle of a position and a frequency. -/
def ang (s f : ℕ) : EReal :=
  FloatOps.sitofp (F := Ideal) FTy.f32 (IntOp.addi (4096#32) (BitVec.ofNat 32 s)) *
    Ideal.exp (Ideal.div (Ideal.ofBits FTy.f32 0xC1135D8E#32 * FloatOps.sitofp (F := Ideal) FTy.f32 (BitVec.ofNat 32 f))
      (Ideal.ofBits FTy.f32 0x42000000#32))

theorem ang_at (s : Fin 64) (f : Fin 32) : Cert.Reference11Ideal.Value.r_v16 (ix2 s f) = ang s.val f.val := by
  unfold ang
  pointwise [Cert.Reference11Ideal.Value.r_v16]

/-- The reference's result, at an index. -/
theorem ref_at (a0 : FVec Ideal Cert.Reference11Ideal.S1024x3584 .f32) (a1 : FVec Ideal Cert.Reference11Ideal.S16x128x4x64 .f32) (a2 : FVec Ideal Cert.Reference11Ideal.S16x128x4x64 .f32) (a3 : FVec Ideal Cert.Reference11Ideal.S16 .f32) (i : Fin 1024) (j : Fin 256) :
    Cert.Reference11Ideal.Value.REF a0 a1 a2 a3 (ix2 i j) = if h : j.val % 64 < 32 then
      a0 (ix2 i ⟨3072 + j.val, by omega⟩) * Ideal.cos (ang (i.val % 64) (j.val % 64))
        - a0 (ix2 i ⟨3072 + (j.val + 32), by omega⟩) * Ideal.sin (ang (i.val % 64) (j.val % 64))
    else a0 (ix2 i ⟨3072 + j.val, by omega⟩) * Ideal.cos (ang (i.val % 64) (j.val % 64 - 32))
        + a0 (ix2 i ⟨3072 + (j.val - 32), by omega⟩) * Ideal.sin (ang (i.val % 64) (j.val % 64 - 32)) := by
  pointwise [Cert.Reference11Ideal.Value.REF, Cert.Reference11Ideal.Value.r_v1, Cert.Reference11Ideal.Value.r_v18, Cert.Reference11Ideal.Value.r_v20, Cert.Reference11Ideal.Value.r_v21, Cert.Reference11Ideal.Value.r_v22]
  simp only [ang_at]
  split
  · rename_i h
    simp only [show 3072 + (j.val / 64 * 64 + (32 + j.val % 64)) = 3072 + (j.val + 32) by omega]
  · rename_i h
    simp only [show 3072 + (j.val / 64 * 64 + (32 + (j.val % 64 - 32))) = 3072 + j.val by omega,
      show 3072 + (j.val / 64 * 64 + (j.val % 64 - 32)) = 3072 + (j.val - 32) by omega]

/-- The mask of the first half of a head, at an index. -/
theorem mask_at (r : Fin 64) (l : Fin 128) : k0_pay6 (ix2 r l) = if l.val % 64 < 32 then 1#1 else 0#1 := by
  pointwise [k0_pay6]
  revert l
  decide +kernel

/-- The rotated keys of a block, at an index. -/
theorem pay_at (co si : FVec Ideal S64x128 .f32) (x : FVec Ideal S64x512 .f32) (r : Fin 64) (j : Fin 256) :
    (k0_pay13 (F := Ideal) (k0_pay4 (F := Ideal) co) (k0_pay5 (F := Ideal) si) k0_pay6 x (ix2 r j) : EReal) =
      if h : j.val % 64 < 32 then
        x (ix2 r ⟨j.val, by omega⟩) * co (ix2 r ⟨j.val % 128, by omega⟩)
          + x (ix2 r ⟨j.val + 32, by omega⟩) * si (ix2 r ⟨j.val % 128, by omega⟩)
      else x (ix2 r ⟨j.val, by omega⟩) * co (ix2 r ⟨j.val % 128, by omega⟩)
          + x (ix2 r ⟨j.val - 32, by omega⟩) * si (ix2 r ⟨j.val % 128, by omega⟩) := by
  pointwise [k0_pay13, k0_pay4, k0_pay5]
  simp only [mask_at]
  by_cases h1 : j.val < 128
  · have e0 : j.val % 128 = j.val := by omega
    rw [dif_pos h1]
    by_cases h2 : j.val % 64 < 32
    · rw [dif_pos h2, if_pos h2]
      simp only [e0, show (j.val + 128 - 96) % 128 = j.val + 32 by omega]
      rfl
    · rw [dif_neg h2, if_neg h2]
      simp only [e0, show (j.val + 128 - 32) % 128 = j.val - 32 by omega]
      rfl
  · have e0 : j.val % 128 = j.val - 128 := by omega
    have e1 : (j.val - 128) % 64 = j.val % 64 := by omega
    have e2 : 128 + (j.val - 128) = j.val := by omega
    rw [dif_neg h1]
    simp only [e1, e0, e2]
    by_cases h2 : j.val % 64 < 32
    · rw [dif_pos h2, if_pos h2]
      simp only [show 128 + (j.val - 128 + 128 - 96) % 128 = j.val + 32 by omega]
      rfl
    · rw [dif_neg h2, if_neg h2]
      simp only [show 128 + (j.val - 128 + 128 - 32) % 128 = j.val - 32 by omega]
      rfl

/-- The rotated keys' block after the body. -/
theorem out8_A (c : Dev nD) (i : grid0.Coords) (arg2 : Memref sig .tc .vmem S64x1024 .f32) (harg2 : arg2.IsWhole) (arg3 : Memref sig .tc .vmem S64x512 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .smem S16 .f32) (harg8 : arg8.IsWhole) (arg9 : Memref sig .tc .vmem S64x1024 .f32) (harg9 : arg9.IsWhole) (arg10 : Memref sig .tc .vmem S64x256 .f32) (harg10 : arg10.IsWhole) (arg11 : Memref sig .tc .vmem S192x256 .f32) (harg11 : arg11.IsWhole) (arg12 : Memref sig .tc .vmem S192x256 .f32) (harg12 : arg12.IsWhole) (hc0 : cond0_0 i)
    (x0 : Vec Ideal S64x1024 .f32) (x1 : Vec Ideal S64x512 .f32) (x2 : Vec Ideal S64x128 .f32) (x3 : Vec Ideal S64x128 .f32) (x4 : Vec Ideal S1x128x256 .f32) (x5 : Vec Ideal S1x128x256 .f32) (x6 : Vec Ideal S16 .f32) (y : S64x256.Idx) :
    out0_A_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 y = k0_pay13 (F := Ideal) (k0_pay4 (F := Ideal) x2) (k0_pay5 (F := Ideal) x3) k0_pay6 x1 y := by
  frame_out

theorem x1_at (c : Dev nD) (t : Fin cfg0.N) (r : Fin 64) (j : Fin 512) :
    iblk m c 1 t (ix2 r j) = m ((c : Thread nD τ).loc main_arg0) (ix2 ⟨t.val * 64 + r.val, by have := (idx t).2.2.2.2; omega⟩ ⟨3072 + j.val, by omega⟩) := by
  blk_point [iblk, V, idx t]

/-- The table of cosines, at an index. -/
theorem cos_at (c : Dev nD) (r : Fin 64) (j : Fin 128) :
    @Eq EReal (V m c main_v21 (ix2 r j)) (Ideal.cos (ang r.val (j.val % 32))) := by
  entry_read
  unfold ang
  pointwise

/-- The table of signed sines, at an index. -/
theorem sin_at (c : Dev nD) (r : Fin 64) (j : Fin 128) :
    @Eq EReal (V m c main_v26 (ix2 r j)) (if h : j.val % 64 < 32 then -Ideal.sin (ang r.val (j.val % 64))
      else Ideal.sin (ang r.val (j.val % 64 - 32))) := by
  entry_read
  unfold ang
  pointwise

theorem x2_at (c : Dev nD) (t : Fin cfg0.N) (r : Fin 64) (j : Fin 128) :
    @Eq EReal (iblk m c 2 t (ix2 r j)) (Ideal.cos (ang (r.val) (j.val % 32))) := by
  refine Eq.trans ?_ (cos_at m c ⟨r.val, by omega⟩ j)
  unfold iblk
  blk_ext [idx t]

theorem x3_at (c : Dev nD) (t : Fin cfg0.N) (r : Fin 64) (j : Fin 128) :
    @Eq EReal (iblk m c 3 t (ix2 r j)) (if h : j.val % 64 < 32 then -Ideal.sin (ang (r.val) (j.val % 64))
      else Ideal.sin (ang (r.val) (j.val % 64 - 32))) := by
  refine Eq.trans ?_ (sin_at m c ⟨r.val, by omega⟩ j)
  unfold iblk
  blk_ext [idx t]

/-- The block of rotated keys after a point of the grid. -/
theorem outs8 (c : Dev nD) (t : Fin cfg0.N) (y : S64x256.Idx) :
    (outsAt0 m c t).2 y = k0_pay13 (F := Ideal) (k0_pay4 (F := Ideal) (iblk m c 2 t))
      (k0_pay5 (F := Ideal) (iblk m c 3 t)) k0_pay6 (iblk m c 1 t) y := by
  unfold outsAt0
  dsimp only
  rw [out8_A]

/-- The rotated keys of a point's block, at an index. -/
theorem key_at (c : Dev nD) (t : Fin cfg0.N) (r : Fin 64) (j : Fin 256) (ht : t.val < 16) :
    @Eq EReal (k0_pay13 (F := Ideal) (k0_pay4 (F := Ideal) (iblk m c 2 t)) (k0_pay5 (F := Ideal) (iblk m c 3 t)) k0_pay6 (iblk m c 1 t) (ix2 r j))
      (Cert.Reference11Ideal.Value.REF (m ((c : Thread nD τ).loc main_arg0)) (m ((c : Thread nD τ).loc main_arg1)) (m ((c : Thread nD τ).loc main_arg2)) (m ((c : Thread nD τ).loc main_arg3)) (ix2 ⟨t.val * 64 + r.val, by omega⟩ j)) := by
  refine (pay_at _ _ _ _ _).trans (Eq.trans ?_ (ref_at _ _ _ _ _ _).symm)
  have e1 : (t.val * 64 + r.val) % 64 = r.val := by omega
  have e2 : j.val % 128 % 64 = j.val % 64 := by omega
  by_cases h : j.val % 64 < 32
  · rw [dif_pos h, dif_pos h, x1_at, x1_at, x2_at, x3_at]
    dsimp only
    rw [dif_pos (by omega), e1, e2, show j.val % 128 % 32 = j.val % 64 by omega, mul_neg, ← sub_eq_add_neg]
  · rw [dif_neg h, dif_neg h, x1_at, x1_at, x2_at, x3_at]
    dsimp only
    rw [dif_neg (by omega), e1, e2, show j.val % 128 % 32 = j.val % 64 - 32 by omega]

/-- The kernel's rotated keys are the reference's term over the kernel's arguments. -/
theorem final (c : Dev nD) : (dats m 0 c).arrAt 8 (cfgs 0).N
    = Cert.Reference11Ideal.Value.REF (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp; rw [after0_8]
  refine (outs8 m c t y).trans ?_
  idx_vars y
  have ht := (idx t).2.2.2.2
  refine (key_at m c t y0 y1 ht).trans (congrArg (Cert.Reference11Ideal.Value.REF _ _ _ _) ?_)
  blk_ext [idx t]

end Cert.Kernel11Ideal.Value

end
-- ==== Proof.Ref12.lean ====
module

public import proofs.«01_k».proof.Proof.Gen.Reference12Ideal
public import Idealize.ShloMosaic.Lib.StableHlo.Run
public import Idealize.ShloMosaic.PureOps.Ideal

/-! The result of Reference12Ideal, stage by stage, over variables. -/

@[expose] public section

set_option maxRecDepth 16384

noncomputable section

open Idealize.ShloMosaic Idealize.ShloMosaic.TcCoe

namespace Cert.Reference12Ideal.Value

open Cert.Reference12Ideal Cert.Reference12Ideal.Gen

/-- The value v14 of the reference. -/
def r_v14 (a0 : FVec Ideal S16x64x2048 .f32) (a1 : FVec Ideal S2048 .f32) (a2 : FVec Ideal S2048x3584 .f32) : FVec Ideal S1024x3584 .f32 :=
  shapeCast S1024x3584 (Host.dotGeneral dot_S16x64x2048_S2048x3584_S16x64x3584_2_0_01_1_n_n none (mulf (mulf a0
    (broadcastInDim S16x64x2048 ![0, 1, 2] bcast_S16x64x1_S16x64x2048_0_1_2 (Host.rsqrt (addf (Host.divf
    (broadcastInDim S16x64x1 ![0, 1] bcast_S16x64_S16x64x1_0_1 (Host.reduceAdd (mulf a0 a0) (constant S_ .f32
    0x00000000#32) reducesTo_S16x64x2048_S16x64_d2 h_S_)) (broadcastInDim S16x64x1 ![] bcast_S_S16x64x1
    (constant S_ .f32 0x45000000#32))) (broadcastInDim S16x64x1 ![] bcast_S_S16x64x1 (constant S_ .f32
    0x358637BD#32)))))) (broadcastInDim S16x64x2048 ![0, 1, 2] bcast_S1x1x2048_S16x64x2048_0_1_2 (broadcastInDim
    S1x1x2048 ![2] bcast_S2048_S1x1x2048_2 a1))) a2) shapeCasts_S16x64x3584_S1024x3584

/-- The value v18 of the reference. -/
def REF (a0 : FVec Ideal S16x64x2048 .f32) (a1 : FVec Ideal S2048 .f32) (a2 : FVec Ideal S2048x3584 .f32) : FVec Ideal S1024x3584 .f32 :=
  concatenate S1024x3584 1 [⟨S1024x1024, (extractStridedSlice S1024x1024 ![0, 0] (r_v14 a0 a1 a2)
    slices_S1024x3584_S1024x1024_0_0)⟩, ⟨S1024x2048, (extractStridedSlice S1024x2048 ![0, 1536] (r_v14 a0 a1 a2)
    slices_S1024x3584_S1024x2048_0_1536)⟩, ⟨S1024x512, (extractStridedSlice S1024x512 ![0, 1024] (r_v14 a0 a1
    a2) slices_S1024x3584_S1024x512_0_1024)⟩] concatenates_S1024x1024_S1024x2048_S1024x512_S1024x3584_d1

end Cert.Reference12Ideal.Value

end
-- ==== Proof.Value12.lean ====
module

public import proofs.«01_k».proof.Proof.Gen.Kernel12Ideal.Frame
public import proofs.«01_k».proof.Proof.Ref12
public import Idealize.ShloMosaic.Lib.Claim
public import Idealize.ShloMosaic.Lib.Pipeline.ValueKit
public import Idealize.ShloMosaic.Lib.Pointwise

/-! The input projection call of the second layer, for the sample. -/

@[expose] public section

set_option maxRecDepth 16384

noncomputable section

open Idealize.ShloMosaic Idealize.ShloMosaic.TcCoe Idealize.SL.Sem
open Idealize.ShloMosaic.Pipeline (Dat)

namespace Cert.Kernel12Ideal.Value

open Cert.Kernel12Ideal Cert.Kernel12Ideal.Gen

variable (m : (ℓ : Loc nD τ sig) → Buf (Elt Ideal) ℓ)

/-- The windows' block indices. -/
theorem idx : ∀ t : Fin cfg0.N, win0_0.index t = ![t.val / 2, 0] ∧ win0_1.index t = ![0, 0]
    ∧ win0_2.index t = ![0, t.val % 2] ∧ win0_3.index t = ![t.val / 2, t.val % 2] ∧ t.val / 2 < 1 :=
  (by decide +kernel : ∀ t : Fin grid0.N, _)

/-- Two successive points of one row tile see the same rows. -/
theorem rows_eq (c : Dev nD) (n : ℕ) (h : n + 1 < cfg0.N) (h' : n < cfg0.N) (h0 : ¬ (n + 1) % 2 = 0) :
    iblk m c 0 ⟨n + 1, h⟩ = iblk m c 0 ⟨n, h'⟩ := by
  funext y
  have e : (n + 1) / 2 = n / 2 := by omega
  have i1 := (idx ⟨n + 1, h⟩).1
  have i2 := (idx ⟨n, h'⟩).1
  dsimp only at i1 i2
  rw [e] at i1
  blk_ext [iblk, i1, i2]

/-- ... and the same gains. -/
theorem gain_eq (c : Dev nD) (t t' : Fin cfg0.N) : iblk m c 1 t = iblk m c 1 t' := by
  funext y
  blk_ext [iblk, (idx t).2.1, (idx t').2.1]

set_option maxHeartbeats 1600000 in
/-- After every point the scratch holds the normalised rows of the point's row tile. -/
theorem carry (c : Dev nD) : ∀ (n : ℕ) (h : n < cfg0.N),
    (outsAt0 m c n h).2 = k0_pay1 (iblk m c 0 ⟨n, h⟩) (iblk m c 1 ⟨n, h⟩) := by
  intro n
  induction n with
  | zero => intro h; rw [outsAt0_A m c ⟨0, h⟩ (Nat.zero_mod _)]; frame_out
  | succ n ih =>
    intro h
    by_cases h0 : (n + 1) % 2 = 0
    · rw [outsAt0_A m c ⟨n + 1, h⟩ h0]; frame_out
    · rw [outsAt0_B m c ⟨n + 1, h⟩ h0]; frame_out
      rw [rows_eq m c n h (Nat.lt_of_succ_lt h) h0, gain_eq m c ⟨n + 1, h⟩ ⟨n, Nat.lt_of_succ_lt h⟩]
      exact ih _

set_option maxHeartbeats 1600000 in
/-- What every point stores. -/
theorem stored (c : Dev nD) (t : Fin cfg0.N) : (outsAt0 m c t.val t.isLt).1
    = k0_pay2 (k0_pay1 (iblk m c 0 t) (iblk m c 1 t)) (iblk m c 2 t) := by
  by_cases h0 : t.val % 2 = 0
  · rw [outsAt0_A m c t h0]; frame_out
  · rw [outsAt0_B m c t h0]; frame_out
    obtain ⟨n, h⟩ := t
    cases n with
    | zero => exact absurd rfl h0
    | succ n =>
      rw [rows_eq m c n h (Nat.lt_of_succ_lt h) h0, gain_eq m c ⟨n + 1, h⟩ ⟨n, Nat.lt_of_succ_lt h⟩,
        ← carry m c n (Nat.lt_of_succ_lt h)]
      exact congrArg (fun X => k0_pay2 X (iblk m c 2 ⟨n + 1, h⟩)) (Memref.IsWhole.read_unread _ _)

/-- The call's weight at a row and a column: the keys' and values' columns come last. -/
def packed (a2 : FVec Ideal S2048x3584 .f32) (k : Fin 2048) (j : Fin 3584) : EReal :=
  if h : j.val < 1024 then a2 (ix2 k ⟨j.val, by omega⟩)
  else if h : j.val < 3072 then a2 (ix2 k ⟨512 + j.val, by omega⟩)
  else a2 (ix2 k ⟨j.val - 2048, by omega⟩)

set_option maxHeartbeats 1600000 in
/-- The reference's packed row is one product with the packed weight. -/
theorem ref_at (a0 : FVec Ideal Cert.Reference12Ideal.S16x64x2048 .f32) (a1 : FVec Ideal Cert.Reference12Ideal.S2048 .f32)
    (a2 : FVec Ideal Cert.Reference12Ideal.S2048x3584 .f32) (i : Fin 1024) (j : Fin 3584) :
    Cert.Reference12Ideal.Value.REF a0 a1 a2 (ix2 i j)
      = ∑ x : Fin 2048, a0 (ix3 ⟨i.val / 64, by omega⟩ ⟨i.val % 64, by omega⟩ x)
          * Ideal.rsqrt (Ideal.div (∑ y : Fin 2048, a0 (ix3 ⟨i.val / 64, by omega⟩ ⟨i.val % 64, by omega⟩ y)
              * a0 (ix3 ⟨i.val / 64, by omega⟩ ⟨i.val % 64, by omega⟩ y)) (Ideal.ofBits FTy.f32 1157627904#32)
            + Ideal.ofBits FTy.f32 897988541#32) * a1 (ix1 x) * packed a2 x j := by
  pointwise [Cert.Reference12Ideal.Value.REF, Cert.Reference12Ideal.Value.r_v14]
  by_cases h1 : j.val < 1024
  · rw [dif_pos h1]
    refine Finset.sum_congr rfl fun x _ => congrArg _ ?_
    unfold packed; rw [dif_pos h1]
  rw [dif_neg h1]
  by_cases h2 : j.val - 1024 < 2048
  · rw [dif_pos h2]
    refine Finset.sum_congr rfl fun x _ => congrArg _ ?_
    unfold packed; rw [dif_neg h1, dif_pos (by omega)]
    exact congrArg a2 (congrArg (ix2 x) (Fin.ext (by simp only; omega)))
  rw [dif_neg h2]
  refine Finset.sum_congr rfl fun x _ => congrArg _ ?_
  unfold packed; rw [dif_neg h1, dif_neg (by omega)]
  exact congrArg a2 (congrArg (ix2 x) (Fin.ext (by simp only; omega)))

/-- The weight the host hands to the kernel. -/
theorem V_w (c : Dev nD) : V m c main_v5 = truncf (F := Ideal) .bf16 (concatenate S2048x3584 1
    [⟨S2048x1024, (extractStridedSlice S2048x1024 ![0, 0] (m ((c : Thread nD τ).loc main_arg2)) slices_S2048x3584_S2048x1024_0_0)⟩,
     ⟨S2048x2048, (extractStridedSlice S2048x2048 ![0, 1536] (m ((c : Thread nD τ).loc main_arg2)) slices_S2048x3584_S2048x2048_0_1536)⟩,
     ⟨S2048x512, (extractStridedSlice S2048x512 ![0, 1024] (m ((c : Thread nD τ).loc main_arg2)) slices_S2048x3584_S2048x512_0_1024)⟩]
     concatenates_S2048x1024_S2048x2048_S2048x512_S2048x3584_d1) bitsLt_bf16_f32 := by
  rfl

set_option maxHeartbeats 1600000 in
/-- The weight block of a point, read. -/
theorem w_at (c : Dev nD) (t : Fin cfg0.N) (k : Fin 2048) (j : Fin 1792) :
    (show FVec Ideal S2048x1792 .bf16 from iblk m c 2 t) (ix2 k j)
      = packed (m ((c : Thread nD τ).loc main_arg2)) k ⟨t.val % 2 * 1792 + j.val, by omega⟩ := by
  have e : ((cfg0.win 2).blk t).view.emb (ix2 k j) = ix2 k ⟨t.val % 2 * 1792 + j.val, by omega⟩ := by
    blk_ext [idx t]
  show (V m c main_v5 : FVec Ideal S2048x3584 .bf16) (((cfg0.win 2).blk t).view.emb (ix2 k j)) = _
  rw [e, V_w]
  pointwise
  unfold packed
  dsimp only
  by_cases h1 : t.val % 2 * 1792 + j.val < 1024
  · rw [dif_pos h1, dif_pos h1]
  rw [dif_neg h1, dif_neg h1]
  by_cases h2 : t.val % 2 * 1792 + j.val - 1024 < 2048
  · rw [dif_pos h2, dif_pos (by omega : t.val % 2 * 1792 + j.val < 3072)]
    exact congrArg (m ((c : Thread nD τ).loc main_arg2)) (congrArg (ix2 k) (Fin.ext (by simp only; omega)))
  rw [dif_neg h2, dif_neg (by omega : ¬ t.val % 2 * 1792 + j.val < 3072)]
  exact congrArg (m ((c : Thread nD τ).loc main_arg2)) (congrArg (ix2 k) (Fin.ext (by simp only; omega)))

set_option maxHeartbeats 1600000 in
/-- The kernel's result array is the reference's term over the kernel's arguments. -/
theorem final (c : Dev nD) : (dats m 0 c).arrAt 3 (cfgs 0).N
    = Cert.Reference12Ideal.Value.REF (m ((c : Thread nD τ).loc main_arg0))
        (m ((c : Thread nD τ).loc main_arg1)) (m ((c : Thread nD τ).loc main_arg2)) := by
  refine (dats m 0 c).arrAt_eq_of_covers 3 _ (by decide +kernel) fun t hf y => ?_
  blk_simp; rw [after0_3, stored]
  idx_vars y
  refine Eq.trans ?_ ((ref_at _ _ _ ⟨t.val / 2 * 1024 + y0.val, by have := (idx t).2.2.2.2; omega⟩
    ⟨t.val % 2 * 1792 + y1.val, by omega⟩).symm.trans (congrArg (Cert.Reference12Ideal.Value.REF _ _ _) ?_))
  · pointwise [k0_pay1, k0_pay2]
    show @Eq EReal _ _
    refine Finset.sum_congr rfl fun x _ => congrArg₂ (· * ·) ?_ ?_
    · blk_point [iblk, V, idx t]
    · exact w_at m c t x y1
  · blk_ext [idx t]

end Cert.Kernel12Ideal.Value

end
-- ==== Proof.Value13.lean ====
module

public import proofs.«01_k».proof.Proof.Gen.Kernel13Ideal.Frame
public import proofs.«01_k».proof.Proof.Gen.Reference13Ideal.Run
public import Idealize.ShloMosaic.Lib.Claim
public import Idealize.ShloMosaic.Lib.Pipeline.ValueKit
public import Idealize.ShloMosaic.Lib.Pointwise

/-! The rows that the linear recurrence's call keeps for its convolution, in the sample group. The
body stores the batch's 64 rows after the three kept ones and reads back the last three of them,
which are the last three rows of the batch's block of the projection. -/

@[expose] public section

set_option maxRecDepth 16384

noncomputable section

open Idealize.ShloMosaic Idealize.ShloMosaic.TcCoe Idealize.SL.Sem
open Idealize.ShloMosaic.Pipeline (Dat)

namespace Cert.Reference13Ideal.Value

open Cert.Reference13Ideal Cert.Reference13Ideal.Gen

/-- The reference's result: the last three rows of the kept rows followed by the batch's own. -/
def REF (a0 : FVec Ideal S1024x6400 .f32) (a1 : FVec Ideal S16x3x1024 .f32) : FVec Ideal S16x3x1024 .f32 :=
  extractStridedSlice S16x3x1024 ![0, 64, 0] (concatenate S16x67x1024 1 [⟨S16x3x1024, a1⟩, ⟨S16x64x1024,
    (shapeCast _ (extractStridedSlice S1024x1024 ![0, 4096] a0 slices_S1024x6400_S1024x1024_0_4096)
    shapeCasts_S1024x1024_S16x64x1024)⟩] concatenates_S16x3x1024_S16x64x1024_S16x67x1024_d1)
    slices_S16x67x1024_S16x3x1024_0_64_0

end Cert.Reference13Ideal.Value

namespace Cert.Kernel13Ideal.Value

open Cert.Kernel13Ideal Cert.Kernel13Ideal.Gen

variable (m : (ℓ : Loc nD τ sig) → Buf (Elt Ideal) ℓ)

/-- The reference's result at one entry. -/
theorem ref_at (a0 : FVec Ideal S1024x6400 .f32) (a1 : FVec Ideal S16x3x1024 .f32) (b : Fin 16) (r : Fin 3)
    (j : Fin 1024) :
    Cert.Reference13Ideal.Value.REF a0 a1 (ix3 b r j)
      = a0 (ix2 ⟨b.val * 64 + (61 + r.val), by omega⟩ ⟨4096 + j.val, by omega⟩) := by
  unfold Cert.Reference13Ideal.Value.REF
  pointwise
  rw [dif_neg (by omega : ¬ 64 + r.val < 3)]
  exact congrArg a0 (congrArg (fun q => ix2 q _) (Fin.ext (by simp only; omega)))

/-- The windows' block indices. -/
theorem idx : ∀ t : Fin cfg0.N, win0_0.index t = ![t.val, 4] ∧ win0_13.index t = ![t.val, 0, 0] ∧ t.val < 16 :=
  (by decide +kernel : ∀ t : Fin grid0.N, _)

/-- The kept rows after the body. -/
theorem out13_A (c : Dev nD) (i : grid0.Coords) (arg2 : Memref sig .tc .vmem S64x1024 .f32) (harg2 : arg2.IsWhole) (arg3 : Memref sig .tc .vmem S64x1024 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S4x1024 .f32) (harg6 : arg6.IsWhole) (arg7 : Memref sig .tc .vmem S1x1024 .f32) (harg7 : arg7.IsWhole) (arg8 : Memref sig .tc .vmem S8x128x128 .f32) (harg8 : arg8.IsWhole) (arg9 : Memref sig .tc .vmem S1x1024 .f32) (harg9 : arg9.IsWhole) (arg10 : Memref sig .tc .vmem S8x128x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S64x1024 .f32) (harg13 : arg13.IsWhole) (arg14 : Memref sig .tc .vmem S1x1x1024 .f32) (harg14 : arg14.IsWhole) (arg15 : Memref sig .tc .vmem S1x3x1024 .f32) (harg15 : arg15.IsWhole) (arg16 : Memref sig .tc .vmem S1x1024 .f32) (harg16 : arg16.IsWhole) (arg17 : Memref sig .tc .vmem S72x1024 .f32) (harg17 : arg17.IsWhole) (arg18 : Memref sig .tc .vmem S96x1024 .f32) (harg18 : arg18.IsWhole) (arg19 : Memref sig .tc .vmem S96x1024 .f32) (harg19 : arg19.IsWhole) (hc0 : cond0_0 i) (hc1 : cond0_1 i) (hc2 : cond0_2 i)
    (x0 : Vec Ideal S64x1024 .f32) (x1 : Vec Ideal S64x1024 .f32) (x2 : Vec Ideal S1x3x1024 .f32) (x3 : Vec Ideal S1x1x1024 .f32) (x4 : Vec Ideal S4x1024 .f32) (x5 : Vec Ideal S1x1024 .f32) (x6 : Vec Ideal S8x128x128 .f32) (x7 : Vec Ideal S1x1024 .f32) (x8 : Vec Ideal S8x128x128 .f32) (x9 : Vec Ideal S1x1024 .f32) (x10 : Vec Ideal S1x1024 .f32) (r : Fin 3) (j : Fin 1024) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0 x1 x2 x3 x4 x5 x6 x7 x8 x9 x10 (ix3 0 r j) = x0 (ix2 ⟨61 + r.val, by omega⟩ j) := by
  frame_out
  rw [View.readCov_eq_canon']
  pointwise [k0_pay11]
  refine (congrArg (View.canon _) (?_ : _ = (Rect.unit (s := S72x1024) ![8, 0] ![64, 1024]
    inb_S72x1024_S64x1024_8_0).emb (ix2 ⟨61 + r.val, by omega⟩ j))).trans ((View.canon_cons_emb _ _ _ _).trans ?_)
  · funext a
    refine Fin.ext ?_
    rw [ValueKit.rect_emb_unit_val]
    match a with
    | ⟨0, _⟩ => show 69 + r.val = 8 + (61 + r.val); omega
    | ⟨1, _⟩ => show j.val = 0 + j.val; omega
  · pointwise [k0_pay8]

/-- The block of the projection that a point reads. -/
theorem x0_at (c : Dev nD) (t : Fin cfg0.N) (r : Fin 64) (j : Fin 1024) :
    (show FVec Ideal S64x1024 .f32 from X0_0 m c t) (ix2 r j)
      = (m ((c : Thread nD τ).loc main_arg0) : FVec Ideal S1024x6400 .f32)
          (ix2 ⟨t.val * 64 + r.val, by have := (idx t).2.2; omega⟩ ⟨4096 + j.val, by omega⟩) := by
  show X0_0 m c t (ix2 r j) = _
  unfold X0_0 Pipeline.Window.fill
  rw [dif_pos (moved0_0 t _)]
  blk_point [iblk, V, idx t]

set_option maxHeartbeats 1600000 in
/-- The kernel's result array is the reference's term over the kernel's arguments. -/
theorem final (c : Dev nD) : (dats m 0 c).arrAt 13 (cfgs 0).N
    = Cert.Reference13Ideal.Value.REF (m ((c : Thread nD τ).loc main_arg0)) (m ((c : Thread nD τ).loc main_arg1)) := by
  refine (dats m 0 c).arrAt_eq_of_covers 13 _ (by decide +kernel) fun t hf y => ?_
  blk_simp; rw [after0_13]
  idx_vars y
  obtain rfl : y0 = 0 := by omega
  unfold outsAt0
  dsimp only
  refine (out13_A (r := y1) (j := y2) ..).trans ?_
  refine (x0_at m c t _ y2).trans ((ref_at _ _ ⟨t.val, (idx t).2.2⟩ y1 y2).symm.trans
    (congrArg (Cert.Reference13Ideal.Value.REF _ _) ?_))
  blk_ext [idx t]

end Cert.Kernel13Ideal.Value

end
-- ==== Proof.Value14.lean ====
module

public import proofs.«01_k».proof.Proof.Gen.Kernel14Ideal.Frame
public import proofs.«01_k».proof.Proof.Gen.Reference14Ideal.Run
public import Idealize.ShloMosaic.Lib.Claim
public import Idealize.ShloMosaic.Lib.Pipeline.ValueKit
public import Idealize.ShloMosaic.Lib.Pointwise

/-! The rows that the gated delta rule's call keeps for its convolution, in the sample group. The
body stores the batch's 64 rows after the three kept ones and reads back the last three of them,
which are the last three rows of the batch's block of the projection. -/

@[expose] public section

set_option maxRecDepth 16384

noncomputable section

open Idealize.ShloMosaic Idealize.ShloMosaic.TcCoe Idealize.SL.Sem
open Idealize.ShloMosaic.Pipeline (Dat)

namespace Cert.Reference14Ideal.Value

open Cert.Reference14Ideal Cert.Reference14Ideal.Gen

/-- The reference's result: the last three rows of the kept rows followed by the batch's own. -/
def REF (a0 : FVec Ideal S1024x6400 .f32) (a1 : FVec Ideal S16x3x3072 .f32) : FVec Ideal S16x3x3072 .f32 :=
  extractStridedSlice S16x3x3072 ![0, 64, 0] (concatenate S16x67x3072 1 [⟨S16x3x3072, a1⟩, ⟨S16x64x3072,
    (shapeCast _ (extractStridedSlice S1024x3072 ![0, 0] a0 slices_S1024x6400_S1024x3072_0_0)
    shapeCasts_S1024x3072_S16x64x3072)⟩] concatenates_S16x3x3072_S16x64x3072_S16x67x3072_d1)
    slices_S16x67x3072_S16x3x3072_0_64_0

end Cert.Reference14Ideal.Value

namespace Cert.Kernel14Ideal.Value

open Cert.Kernel14Ideal Cert.Kernel14Ideal.Gen

variable (m : (ℓ : Loc nD τ sig) → Buf (Elt Ideal) ℓ)

/-- The reference's result at one entry. -/
theorem ref_at (a0 : FVec Ideal S1024x6400 .f32) (a1 : FVec Ideal S16x3x3072 .f32) (b : Fin 16) (r : Fin 3)
    (j : Fin 3072) :
    Cert.Reference14Ideal.Value.REF a0 a1 (ix3 b r j)
      = a0 (ix2 ⟨b.val * 64 + (61 + r.val), by omega⟩ ⟨j.val, by omega⟩) := by
  unfold Cert.Reference14Ideal.Value.REF
  pointwise
  rw [dif_neg (by omega : ¬ 64 + r.val < 3)]
  exact congrArg a0 (congrArg (fun q => ix2 q _) (Fin.ext (by simp only; omega)))

/-- The windows' block indices. -/
theorem idx : ∀ t : Fin cfg0.N, win0_0.index t = ![t.val, 0] ∧ win0_10.index t = ![t.val, 0, 0] ∧ t.val < 16 :=
  (by decide +kernel : ∀ t : Fin grid0.N, _)

/-- The kept rows after the body. -/
theorem out10_A (c : Dev nD) (i : grid0.Coords) (arg2 : Memref sig .tc .vmem S64x3072 .f32) (harg2 : arg2.IsWhole) (arg3 : Memref sig .tc .vmem S64x1024 .f32) (harg3 : arg3.IsWhole) (arg4 : Memref sig .tc .vmem S64x128 .f32) (harg4 : arg4.IsWhole) (arg5 : Memref sig .tc .vmem S1x3x3072 .f32) (harg5 : arg5.IsWhole) (arg6 : Memref sig .tc .vmem S1x8x128x128 .f32) (harg6 : arg6.IsWhole) (arg7 : Memref sig .tc .vmem S4x3072 .f32) (harg7 : arg7.IsWhole) (arg8 : Memref sig .tc .vmem S2x128 .f32) (harg8 : arg8.IsWhole) (arg9 : Memref sig .tc .vmem S1x128 .f32) (harg9 : arg9.IsWhole) (arg10 : Memref sig .tc .vmem S64x1024 .f32) (harg10 : arg10.IsWhole) (arg11 : Memref sig .tc .vmem S1x8x128x128 .f32) (harg11 : arg11.IsWhole) (arg12 : Memref sig .tc .vmem S1x3x3072 .f32) (harg12 : arg12.IsWhole) (arg13 : Memref sig .tc .vmem S8x128x128 .f32) (harg13 : arg13.IsWhole) (arg14 : Memref sig .tc .vmem S72x3072 .f32) (harg14 : arg14.IsWhole) (hc0 : cond0_0 i) (hc1 : cond0_1 i) (hc2 : cond0_2 i)
    (x0 : Vec Ideal S64x3072 .f32) (x1 : Vec Ideal S64x1024 .f32) (x2 : Vec Ideal S64x128 .f32) (x3 : Vec Ideal S1x3x3072 .f32) (x4 : Vec Ideal S1x8x128x128 .f32) (x5 : Vec Ideal S4x3072 .f32) (x6 : Vec Ideal S2x128 .f32) (x7 : Vec Ideal S1x128 .f32) (r : Fin 3) (j : Fin 3072) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7 (ix3 0 r j) = x0 (ix2 ⟨61 + r.val, by omega⟩ j) := by
  frame_out
  rw [View.readCov_eq_canon']
  pointwise [k0_pay9]
  refine (congrArg (View.canon _) (?_ : _ = (Rect.unit (s := S72x3072) ![8, 0] ![64, 3072]
    inb_S72x3072_S64x3072_8_0).emb (ix2 ⟨61 + r.val, by omega⟩ j))).trans ((View.canon_cons_emb _ _ _ _).trans ?_)
  · funext a
    refine Fin.ext ?_
    rw [ValueKit.rect_emb_unit_val]
    match a with
    | ⟨0, _⟩ => show 69 + r.val = 8 + (61 + r.val); omega
    | ⟨1, _⟩ => show j.val = 0 + j.val; omega
  · pointwise [k0_pay6]

/-- The block of the projection that a point reads. -/
theorem x0_at (c : Dev nD) (t : Fin cfg0.N) (r : Fin 64) (j : Fin 3072) :
    (show FVec Ideal S64x3072 .f32 from X0_0 m c t) (ix2 r j)
      = (m ((c : Thread nD τ).loc main_arg0) : FVec Ideal S1024x6400 .f32)
          (ix2 ⟨t.val * 64 + r.val, by have := (idx t).2.2; omega⟩ ⟨j.val, by omega⟩) := by
  show X0_0 m c t (ix2 r j) = _
  unfold X0_0 Pipeline.Window.fill
  rw [dif_pos (moved0_0 t _)]
  blk_point [iblk, V, idx t]

set_option maxHeartbeats 1600000 in
/-- The kernel's result array is the reference's term over the kernel's arguments. -/
theorem final (c : Dev nD) : (dats m 0 c).arrAt 10 (cfgs 0).N
    = Cert.Reference14Ideal.Value.REF (m ((c : Thread nD τ).loc main_arg0)) (m ((c : Thread nD τ).loc main_arg1)) := by
  refine (dats m 0 c).arrAt_eq_of_covers 10 _ (by decide +kernel) fun t hf y => ?_
  blk_simp; rw [after0_10]
  idx_vars y
  obtain rfl : y0 = 0 := by omega
  unfold outsAt0
  dsimp only
  refine (out10_A (r := y1) (j := y2) ..).trans ?_
  refine (x0_at m c t _ y2).trans ((ref_at _ _ ⟨t.val, (idx t).2.2⟩ y1 y2).symm.trans
    (congrArg (Cert.Reference14Ideal.Value.REF _ _) ?_))
  blk_ext [idx t]

end Cert.Kernel14Ideal.Value

end
-- ==== Proof.Ref15.lean ====
module

public import proofs.«01_k».proof.Proof.Gen.Reference15Ideal
public import Idealize.ShloMosaic.Lib.StableHlo.Run
public import Idealize.ShloMosaic.PureOps.Ideal

/-! The result of Reference15Ideal, stage by stage, over variables. -/

@[expose] public section

set_option maxRecDepth 16384

noncomputable section

open Idealize.ShloMosaic Idealize.ShloMosaic.TcCoe

namespace Cert.Reference15Ideal.Value

open Cert.Reference15Ideal Cert.Reference15Ideal.Gen

/-- The value v14 of the reference. -/
def r_v14 (a0 : FVec Ideal S16x64x2048 .f32) (a1 : FVec Ideal S2048 .f32) (a2 : FVec Ideal S2048x6160 .f32) : FVec Ideal S1024x6160 .f32 :=
  shapeCast S1024x6160 (Host.dotGeneral dot_S16x64x2048_S2048x6160_S16x64x6160_2_0_01_1_n_n none (mulf (mulf a0
    (broadcastInDim S16x64x2048 ![0, 1, 2] bcast_S16x64x1_S16x64x2048_0_1_2 (Host.rsqrt (addf (Host.divf
    (broadcastInDim S16x64x1 ![0, 1] bcast_S16x64_S16x64x1_0_1 (Host.reduceAdd (mulf a0 a0) (constant S_ .f32
    0x00000000#32) reducesTo_S16x64x2048_S16x64_d2 h_S_)) (broadcastInDim S16x64x1 ![] bcast_S_S16x64x1
    (constant S_ .f32 0x45000000#32))) (broadcastInDim S16x64x1 ![] bcast_S_S16x64x1 (constant S_ .f32
    0x358637BD#32)))))) (broadcastInDim S16x64x2048 ![0, 1, 2] bcast_S1x1x2048_S16x64x2048_0_1_2 (broadcastInDim
    S1x1x2048 ![2] bcast_S2048_S1x1x2048_2 a1))) a2) shapeCasts_S16x64x6160_S1024x6160

/-- The value v19 of the reference. -/
def REF (a0 : FVec Ideal S16x64x2048 .f32) (a1 : FVec Ideal S2048 .f32) (a2 : FVec Ideal S2048x6160 .f32) : FVec Ideal S1024x6400 .f32 :=
  concatenate S1024x6400 1 [⟨S1024x4096, (extractStridedSlice S1024x4096 ![0, 0] (r_v14 a0 a1 a2)
    slices_S1024x6160_S1024x4096_0_0)⟩, ⟨S1024x2048, (extractStridedSlice S1024x2048 ![0, 4112] (r_v14 a0 a1 a2)
    slices_S1024x6160_S1024x2048_0_4112)⟩, ⟨S1024x16, (extractStridedSlice S1024x16 ![0, 4096] (r_v14 a0 a1 a2)
    slices_S1024x6160_S1024x16_0_4096)⟩, ⟨S1024x240, (broadcastInDim S1024x240 ![] bcast_S_S1024x240 (constant
    S_ .f32 0x00000000#32))⟩] concatenates_S1024x4096_S1024x2048_S1024x16_S1024x240_S1024x6400_d1

end Cert.Reference15Ideal.Value

end
-- ==== Proof.Value15.lean ====
module

public import proofs.«01_k».proof.Proof.Gen.Kernel15Ideal.Frame
public import proofs.«01_k».proof.Proof.Ref15
public import Idealize.ShloMosaic.Lib.Claim
public import Idealize.ShloMosaic.Lib.Pipeline.ValueKit
public import Idealize.ShloMosaic.Lib.Pointwise

/-! The input projection call of the first layer, for the sample. -/

@[expose] public section

set_option maxRecDepth 16384

noncomputable section

open Idealize.ShloMosaic Idealize.ShloMosaic.TcCoe Idealize.SL.Sem
open Idealize.ShloMosaic.Pipeline (Dat)

namespace Cert.Kernel15Ideal.Value

open Cert.Kernel15Ideal Cert.Kernel15Ideal.Gen

variable (m : (ℓ : Loc nD τ sig) → Buf (Elt Ideal) ℓ)

/-- The windows' block indices. -/
theorem idx : ∀ t : Fin cfg0.N, win0_0.index t = ![t.val / 5, 0] ∧ win0_1.index t = ![0, 0]
    ∧ win0_2.index t = ![0, t.val % 5] ∧ win0_3.index t = ![t.val / 5, t.val % 5] ∧ t.val / 5 < 1 :=
  (by decide +kernel : ∀ t : Fin grid0.N, _)

/-- Two successive points of one row tile see the same rows. -/
theorem rows_eq (c : Dev nD) (n : ℕ) (h : n + 1 < cfg0.N) (h' : n < cfg0.N) (h0 : ¬ (n + 1) % 5 = 0) :
    iblk m c 0 ⟨n + 1, h⟩ = iblk m c 0 ⟨n, h'⟩ := by
  funext y
  have e : (n + 1) / 5 = n / 5 := by omega
  have i1 := (idx ⟨n + 1, h⟩).1
  have i2 := (idx ⟨n, h'⟩).1
  dsimp only at i1 i2
  rw [e] at i1
  blk_ext [iblk, i1, i2]

/-- ... and the same gains. -/
theorem gain_eq (c : Dev nD) (t t' : Fin cfg0.N) : iblk m c 1 t = iblk m c 1 t' := by
  funext y
  blk_ext [iblk, (idx t).2.1, (idx t').2.1]

set_option maxHeartbeats 1600000 in
/-- After every point the scratch holds the normalised rows of the point's row tile. -/
theorem carry (c : Dev nD) : ∀ (n : ℕ) (h : n < cfg0.N),
    (outsAt0 m c n h).2 = k0_pay1 (iblk m c 0 ⟨n, h⟩) (iblk m c 1 ⟨n, h⟩) := by
  intro n
  induction n with
  | zero => intro h; rw [outsAt0_A m c ⟨0, h⟩ (Nat.zero_mod _)]; frame_out
  | succ n ih =>
    intro h
    by_cases h0 : (n + 1) % 5 = 0
    · rw [outsAt0_A m c ⟨n + 1, h⟩ h0]; frame_out
    · rw [outsAt0_B m c ⟨n + 1, h⟩ h0]; frame_out
      rw [rows_eq m c n h (Nat.lt_of_succ_lt h) h0, gain_eq m c ⟨n + 1, h⟩ ⟨n, Nat.lt_of_succ_lt h⟩]
      exact ih _

set_option maxHeartbeats 1600000 in
/-- What every point stores. -/
theorem stored (c : Dev nD) (t : Fin cfg0.N) : (outsAt0 m c t.val t.isLt).1
    = k0_pay2 (k0_pay1 (iblk m c 0 t) (iblk m c 1 t)) (iblk m c 2 t) := by
  by_cases h0 : t.val % 5 = 0
  · rw [outsAt0_A m c t h0]; frame_out
  · rw [outsAt0_B m c t h0]; frame_out
    obtain ⟨n, h⟩ := t
    cases n with
    | zero => exact absurd rfl h0
    | succ n =>
      rw [rows_eq m c n h (Nat.lt_of_succ_lt h) h0, gain_eq m c ⟨n + 1, h⟩ ⟨n, Nat.lt_of_succ_lt h⟩,
        ← carry m c n (Nat.lt_of_succ_lt h)]
      exact congrArg (fun X => k0_pay2 X (iblk m c 2 ⟨n + 1, h⟩)) (Memref.IsWhole.read_unread _ _)

/-- The packed weight at a row and a column: the columns of the recurrence's decay and step words come last, zeros after. -/
def packed (a2 : FVec Ideal S2048x6160 .f32) (k : Fin 2048) (j : ℕ) : EReal :=
  if h : j < 4096 then a2 (ix2 k ⟨j, by omega⟩)
  else if h : j < 6144 then a2 (ix2 k ⟨16 + j, by omega⟩)
  else if h : j < 6160 then a2 (ix2 k ⟨j - 2048, by omega⟩)
  else 0

set_option maxHeartbeats 1600000 in
/-- The reference's packed row is one product with the packed weight. -/
theorem ref_at (a0 : FVec Ideal Cert.Reference15Ideal.S16x64x2048 .f32) (a1 : FVec Ideal Cert.Reference15Ideal.S2048 .f32)
    (a2 : FVec Ideal Cert.Reference15Ideal.S2048x6160 .f32) (i : Fin 1024) (j : Fin 6400) :
    Cert.Reference15Ideal.Value.REF a0 a1 a2 (ix2 i j)
      = ∑ x : Fin 2048, a0 (ix3 ⟨i.val / 64, by omega⟩ ⟨i.val % 64, by omega⟩ x)
          * Ideal.rsqrt (Ideal.div (∑ y : Fin 2048, a0 (ix3 ⟨i.val / 64, by omega⟩ ⟨i.val % 64, by omega⟩ y)
              * a0 (ix3 ⟨i.val / 64, by omega⟩ ⟨i.val % 64, by omega⟩ y)) (Ideal.ofBits FTy.f32 1157627904#32)
            + Ideal.ofBits FTy.f32 897988541#32) * a1 (ix1 x) * packed a2 x j.val := by
  pointwise [Cert.Reference15Ideal.Value.REF, Cert.Reference15Ideal.Value.r_v14]
  by_cases h1 : j.val < 4096
  · rw [dif_pos h1]
    refine Finset.sum_congr rfl fun x _ => congrArg _ ?_
    unfold packed; rw [dif_pos h1]
  rw [dif_neg h1]
  by_cases h2 : j.val - 4096 < 2048
  · rw [dif_pos h2]
    refine Finset.sum_congr rfl fun x _ => congrArg _ ?_
    unfold packed; rw [dif_neg h1, dif_pos (by omega)]
    exact congrArg a2 (congrArg (ix2 x) (Fin.ext (by simp only; omega)))
  rw [dif_neg h2]
  by_cases h3 : j.val - 4096 - 2048 < 16
  · rw [dif_pos h3]
    refine Finset.sum_congr rfl fun x _ => congrArg _ ?_
    unfold packed; rw [dif_neg h1, dif_neg (by omega), dif_pos (by omega)]
    exact congrArg a2 (congrArg (ix2 x) (Fin.ext (by simp only; omega)))
  rw [dif_neg h3]
  refine (Finset.sum_eq_zero fun x _ => ?_).symm
  unfold packed; rw [dif_neg h1, dif_neg (by omega), dif_neg (by omega), mul_zero]

/-- The packed weight the host hands to the kernel. -/
theorem V_w (c : Dev nD) : V m c main_v6 = truncf .bf16 (concatenate S2048x6400 1
    [⟨S2048x4096, (extractStridedSlice S2048x4096 ![0, 0] (m ((c : Thread nD τ).loc main_arg2)) slices_S2048x6160_S2048x4096_0_0)⟩,
     ⟨S2048x2048, (extractStridedSlice S2048x2048 ![0, 4112] (m ((c : Thread nD τ).loc main_arg2)) slices_S2048x6160_S2048x2048_0_4112)⟩,
     ⟨S2048x16, (extractStridedSlice S2048x16 ![0, 4096] (m ((c : Thread nD τ).loc main_arg2)) slices_S2048x6160_S2048x16_0_4096)⟩,
     ⟨S2048x240, (broadcastInDim S2048x240 ![] bcast_S_S2048x240 (constant (F := Ideal) S_ .f32 0x00000000#32))⟩]
     concatenates_S2048x4096_S2048x2048_S2048x16_S2048x240_S2048x6400_d1) bitsLt_bf16_f32 := by
  rfl

set_option maxHeartbeats 1600000 in
/-- The weight block of a point, read. -/
theorem w_at (c : Dev nD) (t : Fin cfg0.N) (k : Fin 2048) (j : Fin 1280) :
    (show FVec Ideal S2048x1280 .bf16 from iblk m c 2 t) (ix2 k j)
      = packed (m ((c : Thread nD τ).loc main_arg2)) k (t.val % 5 * 1280 + j.val) := by
  have e : ((cfg0.win 2).blk t).view.emb (ix2 k j) = ix2 k ⟨t.val % 5 * 1280 + j.val, by omega⟩ := by
    blk_ext [idx t]
  show (V m c main_v6 : FVec Ideal S2048x6400 .bf16) (((cfg0.win 2).blk t).view.emb (ix2 k j)) = _
  rw [e, V_w]
  pointwise
  unfold packed
  by_cases h1 : t.val % 5 * 1280 + j.val < 4096
  · rw [dif_pos h1, dif_pos h1]
  rw [dif_neg h1, dif_neg h1]
  by_cases h2 : t.val % 5 * 1280 + j.val - 4096 < 2048
  · rw [dif_pos h2, dif_pos (by omega : t.val % 5 * 1280 + j.val < 6144)]
    exact congrArg (m ((c : Thread nD τ).loc main_arg2)) (congrArg (ix2 k) (Fin.ext (by simp only; omega)))
  rw [dif_neg h2, dif_neg (by omega : ¬ t.val % 5 * 1280 + j.val < 6144)]
  by_cases h3 : t.val % 5 * 1280 + j.val - 4096 - 2048 < 16
  · rw [dif_pos h3, dif_pos (by omega : t.val % 5 * 1280 + j.val < 6160)]
    exact congrArg (m ((c : Thread nD τ).loc main_arg2)) (congrArg (ix2 k) (Fin.ext (by simp only; omega)))
  rw [dif_neg h3, dif_neg (by omega : ¬ t.val % 5 * 1280 + j.val < 6160)]

set_option maxHeartbeats 1600000 in
/-- The kernel's result array is the reference's term over the kernel's arguments. -/
theorem final (c : Dev nD) : (dats m 0 c).arrAt 3 (cfgs 0).N
    = Cert.Reference15Ideal.Value.REF (m ((c : Thread nD τ).loc main_arg0))
        (m ((c : Thread nD τ).loc main_arg1)) (m ((c : Thread nD τ).loc main_arg2)) := by
  refine (dats m 0 c).arrAt_eq_of_covers 3 _ (by decide +kernel) fun t hf y => ?_
  blk_simp; rw [after0_3, stored]
  idx_vars y
  refine Eq.trans ?_ ((ref_at _ _ _ ⟨t.val / 5 * 1024 + y0.val, by have := (idx t).2.2.2.2; omega⟩
    ⟨t.val % 5 * 1280 + y1.val, by omega⟩).symm.trans (congrArg (Cert.Reference15Ideal.Value.REF _ _ _) ?_))
  · pointwise [k0_pay1, k0_pay2]
    show @Eq EReal _ _
    refine Finset.sum_congr rfl fun x _ => congrArg₂ (· * ·) ?_ ?_
    · blk_point [iblk, V, idx t]
    · exact w_at m c t x y1
  · blk_ext [idx t]

end Cert.Kernel15Ideal.Value

end
-- ==== Proof.lean ====
module

public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Value2
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Value3
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Value4
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Value6
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Value7
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Value8
public import proofs.«01_k».proof.Proof.Frame9
public import proofs.«01_k».proof.Proof.Frame9w
public import proofs.«01_k».proof.Proof.Pre9
public import proofs.«01_k».proof.Proof.Gen.Pre_finite9
public import proofs.«01_k».proof.Proof.Gen.Reference9Ideal.Run
public import proofs.«01_k».proof.Proof.Value9
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Value10
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Value11
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Value12
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Value13
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Value14
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Value15
public import Idealize.ShloMosaic.Adequacy
public import Idealize.ShloMosaic.Init
public import Idealize.ShloMosaic.Lib.Quiescent
public import Idealize.ShloMosaic.Lib.Claim

/-! The proof of the stated claims: each kernel's run against its reference's. -/

@[expose] public section

set_option maxRecDepth 65536

noncomputable section

namespace Cert.Proof

open Idealize.ShloMosaic Idealize.SL.Sem

theorem frame_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem value_Kernel2 : algebraic_Kernel2Ideal_Reference2Ideal := by
  pair_intro
  · run_from Cert.Kernel2Ideal.Gen.run_main m g
  · hlo_run
    exact (Cert.Kernel2Ideal.Value.final m c).symm

theorem frame_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem value_Kernel3 : algebraic_Kernel3Ideal_Reference3Ideal := by
  pair_intro
  · run_from Cert.Kernel3Ideal.Gen.run_main m g
  · refine θ_run_mono (Cert.Reference3Ideal.Value.run (F := Ideal) m' g') fun r h c =>
      ⟨(h c).1.trans (Eq.trans (b := Cert.Reference3Ideal.Value.REF
        (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2))) rfl ?_),
        (h c).2⟩
    rw [(hagree c).1, (hagree c).2.1, (hagree c).2.2]
    exact (Cert.Kernel3Ideal.Value.final m c).symm

theorem frame_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem value_Kernel4 : algebraic_Kernel4Ideal_Reference4Ideal := by
  pair_intro
  · run_from Cert.Kernel4Ideal.Gen.run_main m g
  · hlo_run
    exact (Cert.Kernel4Ideal.Value.final m c).symm

theorem frame_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem value_Kernel6 : algebraic_Kernel6Ideal_Reference6Ideal := by
  pair_intro
  · run_from Cert.Kernel6Ideal.Gen.run_main m g
  · hlo_run
    exact (Cert.Kernel6Ideal.Value.final m c).symm

theorem frame_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem value_Kernel7 : algebraic_Kernel7Ideal_Reference7Ideal := by
  pair_intro
  · run_from Cert.Kernel7Ideal.Gen.run_main m g
  · refine θ_run_mono (Cert.Reference7Ideal.Value.run (F := Ideal) m' g') fun r h c =>
      ⟨(h c).1.trans (Eq.trans (b := Cert.Reference7Ideal.Value.REF
        (m' ((c.tc : Thread Cert.Reference7Ideal.nD Cert.Reference7Ideal.τ).loc Cert.Reference7Ideal.main_arg0))
        (m' ((c.tc : Thread Cert.Reference7Ideal.nD Cert.Reference7Ideal.τ).loc Cert.Reference7Ideal.main_arg1))
        (m' ((c.tc : Thread Cert.Reference7Ideal.nD Cert.Reference7Ideal.τ).loc Cert.Reference7Ideal.main_arg2))) rfl ?_),
        (h c).2⟩
    rw [(hagree c).1, (hagree c).2.1, (hagree c).2.2]
    exact (Cert.Kernel7Ideal.Value.final m c).symm

theorem frame_Reference8Ideal : quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

theorem value_Kernel8 : algebraic_Kernel8Ideal_Reference8Ideal := by
  pair_intro
  · run_from Cert.Kernel8Ideal.Gen.run_main m g
  · refine θ_run_mono (Cert.Reference8Ideal.Value.run (F := Ideal) m' g') fun r h c =>
      ⟨(h c).1.trans (Eq.trans (b := Cert.Reference8Ideal.Value.REF0
        (m' ((c.tc : Thread Cert.Reference8Ideal.nD Cert.Reference8Ideal.τ).loc Cert.Reference8Ideal.main_arg0))
        (m' ((c.tc : Thread Cert.Reference8Ideal.nD Cert.Reference8Ideal.τ).loc Cert.Reference8Ideal.main_arg1))
        (m' ((c.tc : Thread Cert.Reference8Ideal.nD Cert.Reference8Ideal.τ).loc Cert.Reference8Ideal.main_arg2))
        (m' ((c.tc : Thread Cert.Reference8Ideal.nD Cert.Reference8Ideal.τ).loc Cert.Reference8Ideal.main_arg3))
        (m' ((c.tc : Thread Cert.Reference8Ideal.nD Cert.Reference8Ideal.τ).loc Cert.Reference8Ideal.main_arg4))) rfl ?_),
        (h c).2.1.trans (Eq.trans (b := Cert.Reference8Ideal.Value.REF1
        (m' ((c.tc : Thread Cert.Reference8Ideal.nD Cert.Reference8Ideal.τ).loc Cert.Reference8Ideal.main_arg0))
        (m' ((c.tc : Thread Cert.Reference8Ideal.nD Cert.Reference8Ideal.τ).loc Cert.Reference8Ideal.main_arg1))
        (m' ((c.tc : Thread Cert.Reference8Ideal.nD Cert.Reference8Ideal.τ).loc Cert.Reference8Ideal.main_arg2))
        (m' ((c.tc : Thread Cert.Reference8Ideal.nD Cert.Reference8Ideal.τ).loc Cert.Reference8Ideal.main_arg3))
        (m' ((c.tc : Thread Cert.Reference8Ideal.nD Cert.Reference8Ideal.τ).loc Cert.Reference8Ideal.main_arg4))) rfl ?_), (h c).2.2⟩
    · rw [(hagree c).1, (hagree c).2.1, (hagree c).2.2.1, (hagree c).2.2.2.1, (hagree c).2.2.2.2]
      exact (Cert.Kernel8Ideal.Value.final6 m c).symm
    · rw [(hagree c).1, (hagree c).2.1, (hagree c).2.2.1, (hagree c).2.2.2.1, (hagree c).2.2.2.2]
      exact (Cert.Kernel8Ideal.Value.final7 m c).symm

theorem frame_Reference10Ideal : quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem value_Kernel10 : algebraic_Kernel10Ideal_Reference10Ideal := by
  pair_intro
  · run_from Cert.Kernel10Ideal.Gen.run_main m g
  · refine θ_run_mono (Cert.Reference10Ideal.Value.run (F := Ideal) m' g') fun r h c =>
      ⟨(h c).1.trans (Eq.trans (b := Cert.Reference10Ideal.Value.REF
        (m' ((c.tc : Thread Cert.Reference10Ideal.nD Cert.Reference10Ideal.τ).loc Cert.Reference10Ideal.main_arg0))
        (m' ((c.tc : Thread Cert.Reference10Ideal.nD Cert.Reference10Ideal.τ).loc Cert.Reference10Ideal.main_arg1))) rfl ?_), (h c).2⟩
    rw [(hagree c).1, (hagree c).2]
    exact (Cert.Kernel10Ideal.Value.final m c).symm

theorem frame_Reference11Ideal : quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem value_Kernel11 : algebraic_Kernel11Ideal_Reference11Ideal := by
  pair_intro
  · run_from Cert.Kernel11Ideal.Gen.run_main m g
  · refine θ_run_mono (Cert.Reference11Ideal.Value.run (F := Ideal) m' g') fun r h c =>
      ⟨(h c).1.trans (Eq.trans (b := Cert.Reference11Ideal.Value.REF
        (m' ((c.tc : Thread Cert.Reference11Ideal.nD Cert.Reference11Ideal.τ).loc Cert.Reference11Ideal.main_arg0))
        (m' ((c.tc : Thread Cert.Reference11Ideal.nD Cert.Reference11Ideal.τ).loc Cert.Reference11Ideal.main_arg1))
        (m' ((c.tc : Thread Cert.Reference11Ideal.nD Cert.Reference11Ideal.τ).loc Cert.Reference11Ideal.main_arg2))
        (m' ((c.tc : Thread Cert.Reference11Ideal.nD Cert.Reference11Ideal.τ).loc Cert.Reference11Ideal.main_arg3))) rfl ?_), (h c).2⟩
    rw [(hagree c).1, (hagree c).2.1, (hagree c).2.2.1, (hagree c).2.2.2]
    exact (Cert.Kernel11Ideal.Value.final m c).symm

theorem frame_Reference12Ideal : quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem value_Kernel12 : algebraic_Kernel12Ideal_Reference12Ideal := by
  pair_intro
  · run_from Cert.Kernel12Ideal.Gen.run_main m g
  · refine θ_run_mono (Cert.Reference12Ideal.Value.run (F := Ideal) m' g') fun r h c =>
      ⟨(h c).1.trans (Eq.trans (b := Cert.Reference12Ideal.Value.REF
        (m' ((c.tc : Thread Cert.Reference12Ideal.nD Cert.Reference12Ideal.τ).loc Cert.Reference12Ideal.main_arg0))
        (m' ((c.tc : Thread Cert.Reference12Ideal.nD Cert.Reference12Ideal.τ).loc Cert.Reference12Ideal.main_arg1))
        (m' ((c.tc : Thread Cert.Reference12Ideal.nD Cert.Reference12Ideal.τ).loc Cert.Reference12Ideal.main_arg2))) rfl ?_), (h c).2⟩
    rw [(hagree c).1, (hagree c).2.1, (hagree c).2.2]
    exact (Cert.Kernel12Ideal.Value.final m c).symm

theorem frame_Reference13Ideal : quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem value_Kernel13 : algebraic_Kernel13Ideal_Reference13Ideal := by
  pair_intro
  · run_from Cert.Kernel13Ideal.Gen.run_main m g
  · refine θ_run_mono (Cert.Reference13Ideal.Value.run (F := Ideal) m' g') fun r h c =>
      ⟨(h c).1.trans (Eq.trans (b := Cert.Reference13Ideal.Value.REF
        (m' ((c.tc : Thread Cert.Reference13Ideal.nD Cert.Reference13Ideal.τ).loc Cert.Reference13Ideal.main_arg0))
        (m' ((c.tc : Thread Cert.Reference13Ideal.nD Cert.Reference13Ideal.τ).loc Cert.Reference13Ideal.main_arg1))) rfl ?_), (h c).2⟩
    rw [(hagree c).1, (hagree c).2.1]
    exact (Cert.Kernel13Ideal.Value.final m c).symm

theorem frame_Reference14Ideal : quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem value_Kernel14 : algebraic_Kernel14Ideal_Reference14Ideal := by
  pair_intro
  · run_from Cert.Kernel14Ideal.Gen.run_main m g
  · refine θ_run_mono (Cert.Reference14Ideal.Value.run (F := Ideal) m' g') fun r h c =>
      ⟨(h c).1.trans (Eq.trans (b := Cert.Reference14Ideal.Value.REF
        (m' ((c.tc : Thread Cert.Reference14Ideal.nD Cert.Reference14Ideal.τ).loc Cert.Reference14Ideal.main_arg0))
        (m' ((c.tc : Thread Cert.Reference14Ideal.nD Cert.Reference14Ideal.τ).loc Cert.Reference14Ideal.main_arg1))) rfl ?_), (h c).2⟩
    rw [(hagree c).1, (hagree c).2.1]
    exact (Cert.Kernel14Ideal.Value.final m c).symm

theorem frame_Reference15Ideal : quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem value_Kernel15 : algebraic_Kernel15Ideal_Reference15Ideal := by
  pair_intro
  · run_from Cert.Kernel15Ideal.Gen.run_main m g
  · refine θ_run_mono (Cert.Reference15Ideal.Value.run (F := Ideal) m' g') fun r h c =>
      ⟨(h c).1.trans (Eq.trans (b := Cert.Reference15Ideal.Value.REF
        (m' ((c.tc : Thread Cert.Reference15Ideal.nD Cert.Reference15Ideal.τ).loc Cert.Reference15Ideal.main_arg0))
        (m' ((c.tc : Thread Cert.Reference15Ideal.nD Cert.Reference15Ideal.τ).loc Cert.Reference15Ideal.main_arg1))
        (m' ((c.tc : Thread Cert.Reference15Ideal.nD Cert.Reference15Ideal.τ).loc Cert.Reference15Ideal.main_arg2))) rfl ?_), (h c).2⟩
    rw [(hagree c).1, (hagree c).2.1, (hagree c).2.2]
    exact (Cert.Kernel15Ideal.Value.final m c).symm

theorem good_Kernel9 (m : (ℓ : Loc Cert.Kernel9.nD Cert.Kernel9.τ Cert.Kernel9.sig) → Buf (Elt Bits) ℓ) (h : Pre_Kernel9 m) :
    Cert.Kernel9.Gen.Good (m (((0 : Dev Cert.Kernel9.nD).tc : Thread Cert.Kernel9.nD Cert.Kernel9.τ).loc Cert.Kernel9.main_arg1)) (m (((0 : Dev Cert.Kernel9.nD).tc : Thread Cert.Kernel9.nD Cert.Kernel9.τ).loc Cert.Kernel9.main_arg3)) :=
  ⟨(Cert.Pre_finite9.decode _ _ _ _ _ _ _ (h 0)).1, (Cert.Pre_finite9.decode _ _ _ _ _ _ _ (h 0)).2.1,
    (Cert.Pre_finite9.decode _ _ _ _ _ _ _ (h 0)).2.2⟩

theorem good_Kernel9Ideal (m : (ℓ : Loc Cert.Kernel9Ideal.nD Cert.Kernel9Ideal.τ Cert.Kernel9Ideal.sig) → Buf (Elt Ideal) ℓ) (h : Pre_Kernel9Ideal m) :
    Cert.Kernel9Ideal.Gen.Good (m (((0 : Dev Cert.Kernel9Ideal.nD).tc : Thread Cert.Kernel9Ideal.nD Cert.Kernel9Ideal.τ).loc Cert.Kernel9Ideal.main_arg1)) (m (((0 : Dev Cert.Kernel9Ideal.nD).tc : Thread Cert.Kernel9Ideal.nD Cert.Kernel9Ideal.τ).loc Cert.Kernel9Ideal.main_arg3)) :=
  ⟨(Cert.Pre_finite9.decode _ _ _ _ _ _ _ (h 0)).1, (Cert.Pre_finite9.decode _ _ _ _ _ _ _ (h 0)).2.1,
    (Cert.Pre_finite9.decode _ _ _ _ _ _ _ (h 0)).2.2⟩

theorem frame_Reference9Ideal : quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem frame_Reference9Ideal_pre : quiescent_Reference9Ideal_pre_finite9 := fun m ρ _ =>
  (θ_run Cert.Reference9Ideal.defs _ _).mono (fun r h => ⟨fun c => (h c).2, sem_eq_zero_of_no_sems (by decide) r.2⟩)
    (Cert.Reference9Ideal.Value.run (F := Ideal) m ρ)

/-- The routed experts' result array, over the arguments before the casts. -/
theorem final_Kernel9 (m : (ℓ : Loc Cert.Kernel9Ideal.nD Cert.Kernel9Ideal.τ Cert.Kernel9Ideal.sig) → Buf (Elt Ideal) ℓ)
    (hg : Cert.Kernel9Ideal.Gen.Good (m (((0 : Dev Cert.Kernel9Ideal.nD).tc : Thread Cert.Kernel9Ideal.nD Cert.Kernel9Ideal.τ).loc Cert.Kernel9Ideal.main_arg1)) (m (((0 : Dev Cert.Kernel9Ideal.nD).tc : Thread Cert.Kernel9Ideal.nD Cert.Kernel9Ideal.τ).loc Cert.Kernel9Ideal.main_arg3))) (c : Dev Cert.Kernel9Ideal.nD) :
    (Cert.Kernel9Ideal.Gen.dats (F := Ideal) (Cert.Kernel9Ideal.Gen.tabOf m hg) (Cert.Kernel9Ideal.Gen.mid m) 0 c).arrAt (1 : Fin 2)
        (Cert.Kernel9Ideal.Gen.cfgA (F := Ideal) (Cert.Kernel9Ideal.Gen.tabOf m hg)).N
      = Cert.Reference9Ideal.Value.REF
        (m ((c.tc : Thread Cert.Kernel9Ideal.nD Cert.Kernel9Ideal.τ).loc Cert.Kernel9Ideal.main_arg0))
        (m ((c.tc : Thread Cert.Kernel9Ideal.nD Cert.Kernel9Ideal.τ).loc Cert.Kernel9Ideal.main_arg1))
        (m ((c.tc : Thread Cert.Kernel9Ideal.nD Cert.Kernel9Ideal.τ).loc Cert.Kernel9Ideal.main_arg2))
        (m ((c.tc : Thread Cert.Kernel9Ideal.nD Cert.Kernel9Ideal.τ).loc Cert.Kernel9Ideal.main_arg3))
        (m ((c.tc : Thread Cert.Kernel9Ideal.nD Cert.Kernel9Ideal.τ).loc Cert.Kernel9Ideal.main_arg4))
        (m ((c.tc : Thread Cert.Kernel9Ideal.nD Cert.Kernel9Ideal.τ).loc Cert.Kernel9Ideal.main_arg5))
        (m ((c.tc : Thread Cert.Kernel9Ideal.nD Cert.Kernel9Ideal.τ).loc Cert.Kernel9Ideal.main_arg6)) := by
  refine (Cert.Kernel9Ideal.Value.final _ (Cert.Kernel9Ideal.Gen.mid m) (Cert.Kernel9Ideal.Gen.held m hg) c).trans ?_
  rw [Cert.Kernel9Ideal.Gen.mid_arg0, Cert.Kernel9Ideal.Gen.mid_arg1, Cert.Kernel9Ideal.Gen.mid_arg2, Cert.Kernel9Ideal.Gen.mid_arg3]
  rfl

theorem value_Kernel9 : algebraic_Kernel9Ideal_Reference9Ideal := fun m g m' g' hpre hagree =>
  ⟨fun c => Cert.Reference9Ideal.Value.REF
        (m ((c.tc : Thread Cert.Kernel9Ideal.nD Cert.Kernel9Ideal.τ).loc Cert.Kernel9Ideal.main_arg0))
        (m ((c.tc : Thread Cert.Kernel9Ideal.nD Cert.Kernel9Ideal.τ).loc Cert.Kernel9Ideal.main_arg1))
        (m ((c.tc : Thread Cert.Kernel9Ideal.nD Cert.Kernel9Ideal.τ).loc Cert.Kernel9Ideal.main_arg2))
        (m ((c.tc : Thread Cert.Kernel9Ideal.nD Cert.Kernel9Ideal.τ).loc Cert.Kernel9Ideal.main_arg3))
        (m ((c.tc : Thread Cert.Kernel9Ideal.nD Cert.Kernel9Ideal.τ).loc Cert.Kernel9Ideal.main_arg4))
        (m ((c.tc : Thread Cert.Kernel9Ideal.nD Cert.Kernel9Ideal.τ).loc Cert.Kernel9Ideal.main_arg5))
        (m ((c.tc : Thread Cert.Kernel9Ideal.nD Cert.Kernel9Ideal.τ).loc Cert.Kernel9Ideal.main_arg6)),
    θ_run_mono (Cert.Kernel9Ideal.Gen.run_value (Cert.Kernel9Ideal.Gen.tabOf m (good_Kernel9Ideal m hpre)) m g
        (Cert.Kernel9Ideal.Gen.held m (good_Kernel9Ideal m hpre))) fun r h c =>
      ⟨(h.1 c).1.trans (final_Kernel9 m (good_Kernel9Ideal m hpre) c), (h.1 c).2⟩,
    θ_run_mono (Cert.Reference9Ideal.Value.run (F := Ideal) m' g') fun r h c =>
      ⟨(h c).1.trans (Eq.trans (b := Cert.Reference9Ideal.Value.REF
        (m' ((c.tc : Thread Cert.Reference9Ideal.nD Cert.Reference9Ideal.τ).loc Cert.Reference9Ideal.main_arg0))
        (m' ((c.tc : Thread Cert.Reference9Ideal.nD Cert.Reference9Ideal.τ).loc Cert.Reference9Ideal.main_arg1))
        (m' ((c.tc : Thread Cert.Reference9Ideal.nD Cert.Reference9Ideal.τ).loc Cert.Reference9Ideal.main_arg2))
        (m' ((c.tc : Thread Cert.Reference9Ideal.nD Cert.Reference9Ideal.τ).loc Cert.Reference9Ideal.main_arg3))
        (m' ((c.tc : Thread Cert.Reference9Ideal.nD Cert.Reference9Ideal.τ).loc Cert.Reference9Ideal.main_arg4))
        (m' ((c.tc : Thread Cert.Reference9Ideal.nD Cert.Reference9Ideal.τ).loc Cert.Reference9Ideal.main_arg5))
        (m' ((c.tc : Thread Cert.Reference9Ideal.nD Cert.Reference9Ideal.τ).loc Cert.Reference9Ideal.main_arg6))) rfl (by
          rw [(hagree c).1, (hagree c).2.1, (hagree c).2.2.1, (hagree c).2.2.2.1, (hagree c).2.2.2.2.1, (hagree c).2.2.2.2.2.1,
            (hagree c).2.2.2.2.2.2])), (h c).2⟩⟩

theorem claim : Cert.Claim :=
  ⟨Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Pre_finite9.Gen.facts,
    fun m ρ _ => Cert.Kernel2.Gen.frame m ρ,
    fun m ρ _ => Cert.Kernel2Ideal.Gen.frame m ρ,
    frame_Reference2Ideal,
    fun m ρ _ => Cert.Kernel3.Gen.frame m ρ,
    fun m ρ _ => Cert.Kernel3Ideal.Gen.frame m ρ,
    frame_Reference3Ideal,
    fun m ρ _ => Cert.Kernel4.Gen.frame m ρ,
    fun m ρ _ => Cert.Kernel4Ideal.Gen.frame m ρ,
    frame_Reference4Ideal,
    fun m ρ _ => Cert.Kernel6.Gen.frame m ρ,
    fun m ρ _ => Cert.Kernel6Ideal.Gen.frame m ρ,
    frame_Reference6Ideal,
    fun m ρ _ => Cert.Kernel7.Gen.frame m ρ,
    fun m ρ _ => Cert.Kernel7Ideal.Gen.frame m ρ,
    frame_Reference7Ideal,
    fun m ρ _ => Cert.Kernel8.Gen.frame m ρ,
    fun m ρ _ => Cert.Kernel8Ideal.Gen.frame m ρ,
    frame_Reference8Ideal,
    fun m ρ h => Cert.Kernel9.Gen.frame m ρ (good_Kernel9 m h),
    fun m ρ h => Cert.Kernel9Ideal.Gen.frame m ρ (good_Kernel9Ideal m h),
    frame_Reference9Ideal,
    frame_Reference9Ideal_pre,
    fun m ρ _ => Cert.Kernel10.Gen.frame m ρ,
    fun m ρ _ => Cert.Kernel10Ideal.Gen.frame m ρ,
    frame_Reference10Ideal,
    fun m ρ _ => Cert.Kernel11.Gen.frame m ρ,
    fun m ρ _ => Cert.Kernel11Ideal.Gen.frame m ρ,
    frame_Reference11Ideal,
    fun m ρ _ => Cert.Kernel12.Gen.frame m ρ,
    fun m ρ _ => Cert.Kernel12Ideal.Gen.frame m ρ,
    frame_Reference12Ideal,
    fun m ρ _ => Cert.Kernel13.Gen.frame m ρ,
    fun m ρ _ => Cert.Kernel13Ideal.Gen.frame m ρ,
    frame_Reference13Ideal,
    fun m ρ _ => Cert.Kernel14.Gen.frame m ρ,
    fun m ρ _ => Cert.Kernel14Ideal.Gen.frame m ρ,
    frame_Reference14Ideal,
    fun m ρ _ => Cert.Kernel15.Gen.frame m ρ,
    fun m ρ _ => Cert.Kernel15Ideal.Gen.frame m ρ,
    frame_Reference15Ideal,
    IdealRules.named_const.statement Cert.Kernel2Ideal.κ "neg_log2_e" .f32 0xBFB8AA3B#32 (((-((Real.log 2)⁻¹) : ℝ)) : EReal) rfl,
    value_Kernel2,
    (trivial : preserves_Kernel3_Kernel3Ideal),
    value_Kernel3,
    (trivial : preserves_Kernel4_Kernel4Ideal),
    value_Kernel4,
    (trivial : preserves_Kernel6_Kernel6Ideal),
    value_Kernel6,
    (trivial : preserves_Kernel7_Kernel7Ideal),
    value_Kernel7,
    IdealRules.named_const.statement Cert.Kernel8Ideal.κ "gelu_cube" .f32 0x3D122279#32 ((80338380498831 / 2251799813685248 : ℝ) : EReal) rfl,
    value_Kernel8,
    IdealRules.named_const.statement Cert.Kernel9Ideal.κ "neg_log2_e" .f32 0xBFB8AA3B#32 (((-((Real.log 2)⁻¹) : ℝ)) : EReal) rfl,
    value_Kernel9,
    (trivial : preserves_Kernel10_Kernel10Ideal),
    value_Kernel10,
    (trivial : preserves_Kernel11_Kernel11Ideal),
    value_Kernel11,
    (trivial : preserves_Kernel12_Kernel12Ideal),
    value_Kernel12,
    (trivial : preserves_Kernel13_Kernel13Ideal),
    value_Kernel13,
    (trivial : preserves_Kernel14_Kernel14Ideal),
    value_Kernel14,
    (trivial : preserves_Kernel15_Kernel15Ideal),
    value_Kernel15⟩

end Cert.Proof

end
